-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_the_clip_KernelIdeal [hPre_within_the_clip_KernelIdeal : Cert.Pre_within_the_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_the_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_within_the_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_the_clip_ReferenceIdeal [hPre_within_the_clip_ReferenceIdeal : Cert.Pre_within_the_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_the_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_within_the_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_within_the_clip_KernelIdeal [hKernelIdeal : Cert.KernelIdeal.Facts] [hPre_within_the_clip_KernelIdeal : Cert.Pre_within_the_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_the_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_within_the_clip_ReferenceIdeal [hReferenceIdeal : Cert.ReferenceIdeal.Facts] [hPre_within_the_clip_ReferenceIdeal : Cert.Pre_within_the_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_the_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1)
      ∧ r.2.mem ((c.tc : Thread Cert.UnclippedIdeal.nD Cert.UnclippedIdeal.τ).loc Cert.UnclippedIdeal.main_arg2) = m ((c.tc : Thread Cert.UnclippedIdeal.nD Cert.UnclippedIdeal.τ).loc Cert.UnclippedIdeal.main_arg2))
      ∧ r.2.sem = fun _ => 0)

def preserves_Kernel_KernelIdeal : Prop :=
  True

def algebraic_KernelIdeal_ReferenceIdeal_pre_within_the_clip_KernelIdeal [hKernelIdeal : Cert.KernelIdeal.Facts] [hReferenceIdeal : Cert.ReferenceIdeal.Facts] [hPre_within_the_clip_KernelIdeal : Cert.Pre_within_the_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_the_clip_KernelIdeal m →
    (∀ c : Dev Cert.KernelIdeal.nD,
      m ((c.tc : Thread Cert.KernelIdeal.nD Cert.KernelIdeal.τ).loc Cert.KernelIdeal.main_arg0) = Layout.block ⟨2, ![2048, 2048]⟩ ⟨2, ![8192, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 8192]⟩ ⟨2, ![2048, 32768]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![8192, 2048]⟩ ⟨2, ![32768, 2048]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![2048, 2048]⟩ ⟨2, ![8192, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 2048]⟩ ⟨2, ![8192, 2048]⟩ 0 4 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![2048, 8192]⟩ ⟨2, ![2048, 32768]⟩ 1 4 c (m' (((0 : Dev Cert.UnclippedIdeal.nD).tc : Thread Cert.UnclippedIdeal.nD Cert.UnclippedIdeal.τ).loc Cert.UnclippedIdeal.main_arg1))
      ∧ m ((c.tc : Thread Cert.KernelIdeal.nD Cert.KernelIdeal.τ).loc Cert.KernelIdeal.main_arg2) = Layout.block ⟨2, ![8192, 2048]⟩ ⟨2, ![32768, 2048]⟩ 0 4 c (m' (((0 : Dev Cert.UnclippedIdeal.nD).tc : Thread Cert.UnclippedIdeal.nD Cert.UnclippedIdeal.τ).loc Cert.UnclippedIdeal.main_arg2))) →
    ∃ (v0 : Buf (Elt Ideal) (((0 : Dev Cert.UnclippedIdeal.nD).tc : Thread Cert.UnclippedIdeal.nD Cert.UnclippedIdeal.τ).loc Cert.UnclippedIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![2048, 2048]⟩ ⟨2, ![8192, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v10) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1)
          ∧ r.2.mem (((0 : Dev Cert.UnclippedIdeal.nD).tc : Thread Cert.UnclippedIdeal.nD Cert.UnclippedIdeal.τ).loc Cert.UnclippedIdeal.main_arg2) = m' (((0 : Dev Cert.UnclippedIdeal.nD).tc : Thread Cert.UnclippedIdeal.nD Cert.UnclippedIdeal.τ).loc Cert.UnclippedIdeal.main_arg2))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_within_the_clip_KernelIdeal : Cert.Pre_within_the_clip_KernelIdeal.Facts) (hPre_within_the_clip_ReferenceIdeal : Cert.Pre_within_the_clip_ReferenceIdeal.Facts),
    quiescent_Kernel (hKernel := hKernel)
    ∧ quiescent_KernelIdeal (hKernelIdeal := hKernelIdeal)
    ∧ quiescent_KernelIdeal_pre_within_the_clip_KernelIdeal (hKernelIdeal := hKernelIdeal) (hPre_within_the_clip_KernelIdeal := hPre_within_the_clip_KernelIdeal)
    ∧ quiescent_ReferenceIdeal (hReferenceIdeal := hReferenceIdeal)
    ∧ quiescent_ReferenceIdeal_pre_within_the_clip_ReferenceIdeal (hReferenceIdeal := hReferenceIdeal) (hPre_within_the_clip_ReferenceIdeal := hPre_within_the_clip_ReferenceIdeal)
    ∧ quiescent_UnclippedIdeal (hUnclippedIdeal := hUnclippedIdeal)
    ∧ preserves_Kernel_KernelIdeal
    ∧ algebraic_KernelIdeal_ReferenceIdeal_pre_within_the_clip_KernelIdeal (hKernelIdeal := hKernelIdeal) (hReferenceIdeal := hReferenceIdeal) (hPre_within_the_clip_KernelIdeal := hPre_within_the_clip_KernelIdeal)
    ∧ algebraic_KernelIdeal_UnclippedIdeal (hKernelIdeal := hKernelIdeal) (hUnclippedIdeal := hUnclippedIdeal)
-- ==== Pre_within_the_clip_KernelIdeal.lean ====
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩
abbrev S2048 : Shape := ⟨1, ![2048]⟩
abbrev S8192 : Shape := ⟨1, ![8192]⟩

class Facts : Prop where
  bitsLt_bf16_f32 : FTy.bits .bf16 < FTy.bits .f32
  reducesTo_S2048x2048_S2048_d1 : S2048x2048.ReducesTo [1] S2048
  h_S_ : 0 < S_.numel
  bcast_S_S2048 : S_.BroadcastsInDim S2048 (![] : Fin 0 → Fin S2048.rank)
  reducesTo_S2048x8192_S8192_d0 : S2048x8192.ReducesTo [0] S8192
  bcast_S_S8192 : S_.BroadcastsInDim S8192 (![] : Fin 0 → Fin S8192.rank)

variable [Facts]

def fn {F : FTy → Type} [FloatOps F] (main_arg0 : FVec F S2048x2048 .bf16) (main_arg1 : FVec F S2048x8192 .bf16) (main_arg2 : FVec F S8192x2048 .bf16) : IVec S2048 1 × IVec S8192 1 :=
  let main_v0 : FVec F S2048x2048 .f32 := (extf .f32 · bitsLt_bf16_f32) main_arg0
  let main_v1 : FVec F S2048x8192 .f32 := (extf .f32 · bitsLt_bf16_f32) main_arg1
  let main_v2 : FVec F S2048x2048 .f32 := mulf main_v0 main_v0
  let main_cst : FVec F S_ .f32 := constant S_ .f32 0x00000000#32
  let main_v3 : FVec F S2048 .f32 := (fun x v => Host.reduceAdd x v reducesTo_S2048x2048_S2048_d1 h_S_) main_v2 main_cst
  let main_cst_0 : FVec F S_ .f32 := constant S_ .f32 0x45160000#32
  let main_v4 : FVec F S2048 .f32 := broadcastInDim S2048 ![] bcast_S_S2048 main_cst_0
  let main_v5 : IVec S2048 1 := cmpf .ole main_v3 main_v4
  let main_v6 : FVec F S2048x8192 .f32 := mulf main_v1 main_v1
  let main_cst_1 : FVec F S_ .f32 := constant S_ .f32 0x00000000#32
  let main_v7 : FVec F S8192 .f32 := (fun x v => Host.reduceAdd x v reducesTo_S2048x8192_S8192_d0 h_S_) main_v6 main_cst_1
  let main_cst_2 : FVec F S_ .f32 := constant S_ .f32 0x3FC00000#32
  let main_v8 : FVec F S8192 .f32 := broadcastInDim S8192 ![] bcast_S_S8192 main_cst_2
  let main_v9 : IVec S8192 1 := cmpf .ole main_v7 main_v8
  (main_v5, main_v9)
-- ==== Pre_within_the_clip_ReferenceIdeal.lean ====
abbrev S8192x2048 : Shape := ⟨2, ![8192, 2048]⟩
abbrev S2048x32768 : Shape := ⟨2, ![2048, 32768]⟩
abbrev S32768x2048 : Shape := ⟨2, ![32768, 2048]⟩
abbrev S_ : Shape := ⟨0, ![]⟩
abbrev S8192 : Shape := ⟨1, ![8192]⟩
abbrev S32768 : Shape := ⟨1, ![32768]⟩

class Facts : Prop where
  bitsLt_bf16_f32 : FTy.bits .bf16 < FTy.bits .f32
  reducesTo_S8192x2048_S8192_d1 : S8192x2048.ReducesTo [1] S8192
  h_S_ : 0 < S_.numel
  bcast_S_S8192 : S_.BroadcastsInDim S8192 (![] : Fin 0 → Fin S8192.rank)
  reducesTo_S2048x32768_S32768_d0 : S2048x32768.ReducesTo [0] S32768
  bcast_S_S32768 : S_.BroadcastsInDim S32768 (![] : Fin 0 → Fin S32768.rank)

variable [Facts]

def fn {F : FTy → Type} [FloatOps F] (main_arg0 : FVec F S8192x2048 .bf16) (main_arg1 : FVec F S2048x32768 .bf16) (main_arg2 : FVec F S32768x2048 .bf16) : IVec S8192 1 × IVec S32768 1 :=
  let main_v0 : FVec F S8192x2048 .f32 := (extf .f32 · bitsLt_bf16_f32) main_arg0
  let main_v1 : FVec F S2048x32768 .f32 := (extf .f32 · bitsLt_bf16_f32) main_arg1
  let main_v2 : FVec F S8192x2048 .f32 := mulf main_v0 main_v0
  let main_cst : FVec F S_ .f32 := constant S_ .f32 0x00000000#32
  let main_v3 : FVec F S8192 .f32 := (fun x v => Host.reduceAdd x v reducesTo_S8192x2048_S8192_d1 h_S_) main_v2 main_cst
  let main_cst_0 : FVec F S_ .f32 := constant S_ .f32 0x45160000#32
  let main_v4 : FVec F S8192 .f32 := broadcastInDim S8192 ![] bcast_S_S8192 main_cst_0
  let main_v5 : IVec S8192 1 := cmpf .ole main_v3 main_v4
  let main_v6 : FVec F S2048x32768 .f32 := mulf main_v1 main_v1
  let main_cst_1 : FVec F S_ .f32 := constant S_ .f32 0x00000000#32
  let main_v7 : FVec F S32768 .f32 := (fun x v => Host.reduceAdd x v reducesTo_S2048x32768_S32768_d0 h_S_) main_v6 main_cst_1
  let main_cst_2 : FVec F S_ .f32 := constant S_ .f32 0x3FC00000#32
  let main_v8 : FVec F S32768 .f32 := broadcastInDim S32768 ![] bcast_S_S32768 main_cst_2
  let main_v9 : IVec S32768 1 := cmpf .ole main_v7 main_v8
  (main_v5, main_v9)
-- ==== Kernel.lean ====
abbrev S2048x2048 : Shape := ⟨2, ![2048, 2048]⟩
abbrev S2048x8192 : Shape := ⟨2, ![2048, 8192]⟩
abbrev S8192x2048 : Shape := ⟨2, ![8192, 2048]⟩
abbrev S3x2048x2048 : Shape := ⟨3, ![3, 2048, 2048]⟩
abbrev S4x2048x2048 : Shape := ⟨3, ![4, 2048, 2048]⟩
abbrev S1024x2048 : Shape := ⟨2, ![1024, 2048]⟩
abbrev S2x2048x512 : Shape := ⟨3, ![2, 2048, 512]⟩
abbrev S2x2048x2048 : Shape := ⟨3, ![2, 2048, 2048]⟩
abbrev S2x1024x2048 : Shape := ⟨3, ![2, 1024, 2048]⟩
abbrev S3x2 : Shape := ⟨2, ![3, 2]⟩
abbrev S2 : Shape := ⟨1, ![2]⟩
abbrev S_ : Shape := ⟨0, ![]⟩
abbrev S1x1 : Shape := ⟨2, ![1, 1]⟩
abbrev S1x1024x2048 : Shape := ⟨3, ![1, 1024, 2048]⟩
abbrev S1 : Shape := ⟨1, ![1]⟩
abbrev S1x2048x512 : Shape := ⟨3, ![1, 2048, 512]⟩
abbrev S2048x512 : Shape := ⟨2, ![2048, 512]⟩
abbrev S1x2048x2048 : Shape := ⟨3, ![1, 2048, 2048]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S8192x2048, .bf16⟩
  | .hbm, ⟨3, _⟩ => ⟨S2048x2048, .bf16⟩
  | .hbm, ⟨4, _⟩ => ⟨S3x2048x2048, .bf16⟩
  | .hbm, ⟨5, _⟩ => ⟨S4x2048x2048, .bf16⟩
  | .local _ .vmem, ⟨0, _⟩ => ⟨S1024x2048, .bf16⟩
  | .local _ .vmem, ⟨1, _⟩ => ⟨S2x2048x512, .bf16⟩
  | .local _ .vmem, ⟨2, _⟩ => ⟨S2x2048x2048, .bf16⟩
  | .local _ .vmem, ⟨3, _⟩ => ⟨S1024x2048, .bf16⟩
  | .local _ .vmem, ⟨4, _⟩ => ⟨S1024x2048, .f32⟩
  | .local _ .vmem, ⟨5, _⟩ => ⟨S2x1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_40 : BitVec 32 := 1#32
  let v54 : BitVec 32 := Scalar.muli v53 c1_i32_40
  let v55 : BitVec 32 := Scalar.addi c0_i32_41 v54
  v55.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_46 : BitVec 32 := 1#32
  let v63 : BitVec 32 := Scalar.addi v2 c1_i32_46
  let c4_i32_47 : BitVec 32 := 4#32
  let c0_i32_48 : BitVec 32 := 0#32
  let v64 : BitVec 1 := Scalar.cmpi .eq c4_i32_47 c0_i32_48
  let c1_i32_49 : BitVec 32 := 1#32
  let v65 : BitVec 32 := Scalar.select v64 c1_i32_49 c4_i32_47
  let v66 : BitVec 32 := Scalar.remsi v63 v65
  let c0_i32_51 : BitVec 32 := 0#32
  let v68 : BitVec 1 := Scalar.cmpi .slt v66 c0_i32_51
  let c0_i32_52 : BitVec 32 := 0#32
  let v69 : BitVec 1 := Scalar.cmpi .slt v65 c0_i32_52
  let v70 : BitVec 1 := Scalar.xori v68 v69
  let c0_i32_50 : BitVec 32 := 0#32
  let v67 : BitVec 1 := Scalar.cmpi .ne v66 c0_i32_50
  let v71 : BitVec 1 := Scalar.andi v70 v67
  let v72 : BitVec 32 := Scalar.addi v66 v65
  let v73 : BitVec 32 := Scalar.select v71 v72 v66
  let c1_i32_58 : BitVec 32 := 1#32
  let v74 : BitVec 32 := Scalar.muli v73 c1_i32_58
  let v75 : BitVec 32 := Scalar.addi c0_i32_59 v74
  v75.toNat
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_63 : BitVec 32 := 2#32
  let v83 : BitVec 32 := Scalar.addi v2 c2_i32_63
  let c4_i32_64 : BitVec 32 := 4#32
  let c0_i32_65 : BitVec 32 := 0#32
  let v84 : BitVec 1 := Scalar.cmpi .eq c4_i32_64 c0_i32_65
  let c1_i32_66 : BitVec 32 := 1#32
  let v85 : BitVec 32 := Scalar.select v84 c1_i32_66 c4_i32_64
  let v86 : BitVec 32 := Scalar.remsi v83 v85
  let c0_i32_68 : BitVec 32 := 0#32
  let v88 : BitVec 1 := Scalar.cmpi .slt v86 c0_i32_68
  let c0_i32_69 : BitVec 32 := 0#32
  let v89 : BitVec 1 := Scalar.cmpi .slt v85 c0_i32_69
  let v90 : BitVec 1 := Scalar.xori v88 v89
  let c0_i32_67 : BitVec 32 := 0#32
  let v87 : BitVec 1 := Scalar.cmpi .ne v86 c0_i32_67
  let v91 : BitVec 1 := Scalar.andi v90 v87
  let v92 : BitVec 32 := Scalar.addi v86 v85
  let v93 : BitVec 32 := Scalar.select v91 v92 v86
  let c1_i32_75 : BitVec 32 := 1#32
  let v94 : BitVec 32 := Scalar.muli v93 c1_i32_75
  let v95 : BitVec 32 := Scalar.addi c0_i32_76 v94
  v95.toNat
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_81 : BitVec 32 := 2#32
  let v103 : BitVec 32 := Scalar.addi v2 c2_i32_81
  let c4_i32_82 : BitVec 32 := 4#32
  let c0_i32_83 : BitVec 32 := 0#32
  let v104 : BitVec 1 := Scalar.cmpi .eq c4_i32_82 c0_i32_83
  let c1_i32_84 : BitVec 32 := 1#32
  let v105 : BitVec 32 := Scalar.select v104 c1_i32_84 c4_i32_82
  let v106 : BitVec 32 := Scalar.remsi v103 v105
  let c0_i32_86 : BitVec 32 := 0#32
  let v108 : BitVec 1 := Scalar.cmpi .slt v106 c0_i32_86
  let c0_i32_87 : BitVec 32 := 0#32
  let v109 : BitVec 1 := Scalar.cmpi .slt v105 c0_i32_87
  let v110 : BitVec 1 := Scalar.xori v108 v109
  let c0_i32_85 : BitVec 32 := 0#32
  let v107 : BitVec 1 := Scalar.cmpi .ne v106 c0_i32_85
  let v111 : BitVec 1 := Scalar.andi v110 v107
  let v112 : BitVec 32 := Scalar.addi v106 v105
  let v113 : BitVec 32 := Scalar.select v111 v112 v106
  let c1_i32_93 : BitVec 32 := 1#32
  let v114 : BitVec 32 := Scalar.muli v113 c1_i32_93
  let v115 : BitVec 32 := Scalar.addi c0_i32_94 v114
  v115.toNat
def k0_dev8 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_99 : BitVec 32 := 3#32
  let v123 : BitVec 32 := Scalar.addi v2 c3_i32_99
  let c4_i32_100 : BitVec 32 := 4#32
  let c0_i32_101 : BitVec 32 := 0#32
  let v124 : BitVec 1 := Scalar.cmpi .eq c4_i32_100 c0_i32_101
  let c1_i32_102 : BitVec 32 := 1#32
  let v125 : BitVec 32 := Scalar.select v124 c1_i32_102 c4_i32_100
  let v126 : BitVec 32 := Scalar.remsi v123 v125
  let c0_i32_104 : BitVec 32 := 0#32
  let v128 : BitVec 1 := Scalar.cmpi .slt v126 c0_i32_104
  let c0_i32_105 : BitVec 32 := 0#32
  let v129 : BitVec 1 := Scalar.cmpi .slt v125 c0_i32_105
  let v130 : BitVec 1 := Scalar.xori v128 v129
  let c0_i32_103 : BitVec 32 := 0#32
  let v127 : BitVec 1 := Scalar.cmpi .ne v126 c0_i32_103
  let v131 : BitVec 1 := Scalar.andi v130 v127
  let v132 : BitVec 32 := Scalar.addi v126 v125
  let v133 : BitVec 32 := Scalar.select v131 v132 v126
  let c1_i32_111 : BitVec 32 := 1#32
  let v134 : BitVec 32 := Scalar.muli v133 c1_i32_111
  let v135 : BitVec 32 := Scalar.addi c0_i32_112 v134
  v135.toNat
def k0_dev9 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_117 : BitVec 32 := 3#32
  let v143 : BitVec 32 := Scalar.addi v2 c3_i32_117
  let c4_i32_118 : BitVec 32 := 4#32
  let c0_i32_119 : BitVec 32 := 0#32
  let v144 : BitVec 1 := Scalar.cmpi .eq c4_i32_118 c0_i32_119
  let c1_i32_120 : BitVec 32 := 1#32
  let v145 : BitVec 32 := Scalar.select v144 c1_i32_120 c4_i32_118
  let v146 : BitVec 32 := Scalar.remsi v143 v145
  let c0_i32_122 : BitVec 32 := 0#32
  let v148 : BitVec 1 := Scalar.cmpi .slt v146 c0_i32_122
  let c0_i32_123 : BitVec 32 := 0#32
  let v149 : BitVec 1 := Scalar.cmpi .slt v145 c0_i32_123
  let v150 : BitVec 1 := Scalar.xori v148 v149
  let c0_i32_121 : BitVec 32 := 0#32
  let v147 : BitVec 1 := Scalar.cmpi .ne v146 c0_i32_121
  let v151 : BitVec 1 := Scalar.andi v150 v147
  let v152 : BitVec 32 := Scalar.addi v146 v145
  let v153 : BitVec 32 := Scalar.select v151 v152 v146
  let c1_i32_129 : BitVec 32 := 1#32
  let v154 : BitVec 32 := Scalar.muli v153 c1_i32_129
  let v155 : BitVec 32 := Scalar.addi c0_i32_130 v154
  v155.toNat
@[reducible] def k0_t1_loop : Scf.Loop 32 :=
  let c0_i32_152 : BitVec 32 := 0#32
  let c4_i32_153 : BitVec 32 := 4#32
  let v179 : BitVec 32 := Scalar.addi c0_i32_152 c4_i32_153
  let c1_i32_154 : BitVec 32 := 1#32
  ⟨c0_i32_152, v179, c1_i32_154⟩
def k0_off1 (k0_t1 : Fin k0_t1_loop.trips) (c0_i32_824 : BitVec 32) : Fin 1 → Nat :=
  let c1_i32_827 : BitVec 32 := 1#32
  let c0_i32_152 : BitVec 32 := 0#32
  let c1_i32_154 : BitVec 32 := 1#32
  let arg19 : BitVec 32 := Scf.iv c0_i32_152 c1_i32_154 k0_t1
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  ![v699.toNat]
def k0_off2 (k0_t1 : Fin k0_t1_loop.trips) (c0_i32_824 : BitVec 32) : Fin 3 → Nat :=
  let c1_i32_827 : BitVec 32 := 1#32
  let c0_i32_152 : BitVec 32 := 0#32
  let c1_i32_154 : BitVec 32 := 1#32
  let arg19 : BitVec 32 := Scf.iv c0_i32_152 c1_i32_154 k0_t1
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  let c0_i32_828 : BitVec 32 := 0#32
  let c0_i32_829 : BitVec 32 := 0#32
  ![v699.toNat, 0, 0]
def k0_off3 (k0_t1 : Fin k0_t1_loop.trips) (c0_i32_824 : BitVec 32) : Fin 2 → Nat :=
  let c0_i32_830 : BitVec 32 := 0#32
  let c0_i32_152 : BitVec 32 := 0#32
  let c1_i32_154 : BitVec 32 := 1#32
  let arg19 : BitVec 32 := Scf.iv c0_i32_152 c1_i32_154 k0_t1
  let c4_i32_823 : BitVec 32 := 4#32
  let v694 : BitVec 32 := Scalar.muli arg19 c4_i32_823
  let v695 : BitVec 32 := Scalar.addi v694 c0_i32_824
  let c1_i32_826 : BitVec 32 := 1#32
  let v697 : BitVec 32 := Scalar.addi v695 c1_i32_826
  let c16_i32 : BitVec 32 := 16#32
  let v698 : BitVec 32 := Scalar.remsi v697 c16_i32
  let c512_i32 : BitVec 32 := 512#32
  let v700 : BitVec 32 := Scalar.muli v698 c512_i32
  ![0, v700.toNat]
def k0_off4 (k0_t1 : Fin k0_t1_loop.trips) (c0_i32_824 : BitVec 32) : Fin 1 → Nat :=
  let c0_i32_152 : BitVec 32 := 0#32
  let c1_i32_154 : BitVec 32 := 1#32
  let arg19 : BitVec 32 := Scf.iv c0_i32_152 c1_i32_154 k0_t1
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  ![v696.toNat]
def k0_off5 (k0_t1 : Fin k0_t1_loop.trips) (c0_i32_824 : BitVec 32) : Fin 3 → Nat :=
  let c0_i32_152 : BitVec 32 := 0#32
  let c1_i32_154 : BitVec 32 := 1#32
  let arg19 : BitVec 32 := Scf.iv c0_i32_152 c1_i32_154 k0_t1
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let c0_i32_831 : BitVec 32 := 0#32
  let c0_i32_832 : BitVec 32 := 0#32
  ![v696.toNat, 0, 0]
def k0_off6 (k0_t1 : Fin k0_t1_loop.trips) (c0_i32_824 : BitVec 32) : Fin 3 → Nat :=
  let c0_i32_152 : BitVec 32 := 0#32
  let c1_i32_154 : BitVec 32 := 1#32
  let arg19 : BitVec 32 := Scf.iv c0_i32_152 c1_i32_154 k0_t1
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v711 : Index := Scalar.indexCast v696
  let c0_835 : Index := 0#32
  let c0_836 : Index := 0#32
  ![v711.toNat, 0, 0]
def k0_off7 (k0_t1 : Fin k0_t1_loop.trips) : Fin 1 → Nat :=
  let c1_i32_908 : BitVec 32 := 1#32
  let c0_i32_152 : BitVec 32 := 0#32
  let c1_i32_154 : BitVec 32 := 1#32
  let arg19 : BitVec 32 := Scf.iv c0_i32_152 c1_i32_154 k0_t1
  let c2_i32_820 : BitVec 32 := 2#32
  let v692 : BitVec 32 := Scalar.remsi arg19 c2_i32_820
  let v828 : BitVec 32 := Scalar.subi c1_i32_908 v692
  ![v828.toNat]
def k0_off8 (k0_t1 : Fin k0_t1_loop.trips) : Fin 3 → Nat :=
  let c1_i32_908 : BitVec 32 := 1#32
  let c0_i32_152 : BitVec 32 := 0#32
  let c1_i32_154 : BitVec 32 := 1#32
  let arg19 : BitVec 32 := Scf.iv c0_i32_152 c1_i32_154 k0_t1
  let c2_i32_820 : BitVec 32 := 2#32
  let v692 : BitVec 32 := Scalar.remsi arg19 c2_i32_820
  let v828 : BitVec 32 := Scalar.subi c1_i32_908 v692
  let c0_i32_909 : BitVec 32 := 0#32
  let c0_i32_910 : BitVec 32 := 0#32
  ![v828.toNat, 0, 0]
def k0_off9 (k0_t1 : Fin k0_t1_loop.trips) : Fin 2 → Nat :=
  let c0_i32_152 : BitVec 32 := 0#32
  let c1_i32_154 : BitVec 32 := 1#32
  let arg19 : BitVec 32 := Scf.iv c0_i32_152 c1_i32_154 k0_t1
  let c1_i32_906 : BitVec 32 := 1#32
  let v826 : BitVec 32 := Scalar.addi arg19 c1_i32_906
  let c4_i32_907 : BitVec 32 := 4#32
  let v827 : BitVec 32 := Scalar.remsi v826 c4_i32_907
  let c2048_i32 : BitVec 32 := 2048#32
  let v829 : BitVec 32 := Scalar.muli v827 c2048_i32
  let c0_i32_911 : BitVec 32 := 0#32
  ![v829.toNat, 0]
def k0_off10 (k0_t1 : Fin k0_t1_loop.trips) : Fin 1 → Nat :=
  let c0_i32_152 : BitVec 32 := 0#32
  let c1_i32_154 : BitVec 32 := 1#32
  let arg19 : BitVec 32 := Scf.iv c0_i32_152 c1_i32_154 k0_t1
  let c2_i32_820 : BitVec 32 := 2#32
  let v692 : BitVec 32 := Scalar.remsi arg19 c2_i32_820
  ![v692.toNat]
def k0_off11 (k0_t1 : Fin k0_t1_loop.trips) : Fin 3 → Nat :=
  let c0_i32_152 : BitVec 32 := 0#32
  let c1_i32_154 : BitVec 32 := 1#32
  let arg19 : BitVec 32 := Scf.iv c0_i32_152 c1_i32_154 k0_t1
  let c2_i32_820 : BitVec 32 := 2#32
  let v692 : BitVec 32 := Scalar.remsi arg19 c2_i32_820
  let c0_i32_912 : BitVec 32 := 0#32
  let c0_i32_913 : BitVec 32 := 0#32
  ![v692.toNat, 0, 0]
def k0_off12 (k0_t1 : Fin k0_t1_loop.trips) : Fin 3 → Nat :=
  let c0_i32_152 : BitVec 32 := 0#32
  let c1_i32_154 : BitVec 32 := 1#32
  let arg19 : BitVec 32 := Scf.iv c0_i32_152 c1_i32_154 k0_t1
  let c2_i32_820 : BitVec 32 := 2#32
  let v692 : BitVec 32 := Scalar.remsi arg19 c2_i32_820
  let v841 : Index := Scalar.indexCast v692
  let c0_918 : Index := 0#32
  let c0_919 : Index := 0#32
  ![v841.toNat, 0, 0]
@[reducible] def k0_t2_loop : Scf.Loop 32 :=
  let c0_i32_197 : BitVec 32 := 0#32
  let c4_i32_198 : BitVec 32 := 4#32
  let v210 : BitVec 32 := Scalar.addi c0_i32_197 c4_i32_198
  let c1_i32_199 : BitVec 32 := 1#32
  ⟨c0_i32_197, v210, c1_i32_199⟩
def k0_off13 (k0_t2 : Fin k0_t2_loop.trips) (c0_i32_824 : BitVec 32) : Fin 1 → Nat :=
  let c1_i32_827 : BitVec 32 := 1#32
  let c0_i32_197 : BitVec 32 := 0#32
  let c1_i32_199 : BitVec 32 := 1#32
  let arg19 : BitVec 32 := Scf.iv c0_i32_197 c1_i32_199 k0_t2
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  ![v699.toNat]
def k0_off14 (k0_t2 : Fin k0_t2_loop.trips) (c0_i32_824 : BitVec 32) : Fin 3 → Nat :=
  let c1_i32_827 : BitVec 32 := 1#32
  let c0_i32_197 : BitVec 32 := 0#32
  let c1_i32_199 : BitVec 32 := 1#32
  let arg19 : BitVec 32 := Scf.iv c0_i32_197 c1_i32_199 k0_t2
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  let c0_i32_828 : BitVec 32 := 0#32
  let c0_i32_829 : BitVec 32 := 0#32
  ![v699.toNat, 0, 0]
def k0_off15 (k0_t2 : Fin k0_t2_loop.trips) (c0_i32_824 : BitVec 32) : Fin 2 → Nat :=
  let c0_i32_830 : BitVec 32 := 0#32
  let c0_i32_197 : BitVec 32 := 0#32
  let c1_i32_199 : BitVec 32 := 1#32
  let arg19 : BitVec 32 := Scf.iv c0_i32_197 c1_i32_199 k0_t2
  let c4_i32_823 : BitVec 32 := 4#32
  let v694 : BitVec 32 := Scalar.muli arg19 c4_i32_823
  let v695 : BitVec 32 := Scalar.addi v694 c0_i32_824
  let c1_i32_826 : BitVec 32 := 1#32
  let v697 : BitVec 32 := Scalar.addi v695 c1_i32_826
  let c16_i32 : BitVec 32 := 16#32
  let v698 : BitVec 32 := Scalar.remsi v697 c16_i32
  let c512_i32 : BitVec 32 := 512#32
  let v700 : BitVec 32 := Scalar.muli v698 c512_i32
  ![0, v700.toNat]
def k0_off16 (k0_t2 : Fin k0_t2_loop.trips) (c0_i32_824 : BitVec 32) : Fin 1 → Nat :=
  let c0_i32_197 : BitVec 32 := 0#32
  let c1_i32_199 : BitVec 32 := 1#32
  let arg19 : BitVec 32 := Scf.iv c0_i32_197 c1_i32_199 k0_t2
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  ![v696.toNat]
def k0_off17 (k0_t2 : Fin k0_t2_loop.trips) (c0_i32_824 : BitVec 32) : Fin 3 → Nat :=
  let c0_i32_197 : BitVec 32 := 0#32
  let c1_i32_199 : BitVec 32 := 1#32
  let arg19 : BitVec 32 := Scf.iv c0_i32_197 c1_i32_199 k0_t2
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let c0_i32_831 : BitVec 32 := 0#32
  let c0_i32_832 : BitVec 32 := 0#32
  ![v696.toNat, 0, 0]
def k0_off18 (k0_t2 : Fin k0_t2_loop.trips) (c0_i32_824 : BitVec 32) : Fin 3 → Nat :=
  let c0_i32_197 : BitVec 32 := 0#32
  let c1_i32_199 : BitVec 32 := 1#32
  let arg19 : BitVec 32 := Scf.iv c0_i32_197 c1_i32_199 k0_t2
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v711 : Index := Scalar.indexCast v696
  let c0_835 : Index := 0#32
  let c0_836 : Index := 0#32
  ![v711.toNat, 0, 0]
def k0_off19 (k0_t2 : Fin k0_t2_loop.trips) : Fin 1 → Nat :=
  let c1_i32_908 : BitVec 32 := 1#32
  let c0_i32_197 : BitVec 32 := 0#32
  let c1_i32_199 : BitVec 32 := 1#32
  let arg19 : BitVec 32 := Scf.iv c0_i32_197 c1_i32_199 k0_t2
  let c2_i32_820 : BitVec 32 := 2#32
  let v692 : BitVec 32 := Scalar.remsi arg19 c2_i32_820
  let v828 : BitVec 32 := Scalar.subi c1_i32_908 v692
  ![v828.toNat]
def k0_off20 (k0_t2 : Fin k0_t2_loop.trips) : Fin 3 → Nat :=
  let c1_i32_908 : BitVec 32 := 1#32
  let c0_i32_197 : BitVec 32 := 0#32
  let c1_i32_199 : BitVec 32 := 1#32
  let arg19 : BitVec 32 := Scf.iv c0_i32_197 c1_i32_199 k0_t2
  let c2_i32_820 : BitVec 32 := 2#32
  let v692 : BitVec 32 := Scalar.remsi arg19 c2_i32_820
  let v828 : BitVec 32 := Scalar.subi c1_i32_908 v692
  let c0_i32_909 : BitVec 32 := 0#32
  let c0_i32_910 : BitVec 32 := 0#32
  ![v828.toNat, 0, 0]
def k0_off21 (k0_t2 : Fin k0_t2_loop.trips) : Fin 2 → Nat :=
  let c0_i32_197 : BitVec 32 := 0#32
  let c1_i32_199 : BitVec 32 := 1#32
  let arg19 : BitVec 32 := Scf.iv c0_i32_197 c1_i32_199 k0_t2
  let c1_i32_906 : BitVec 32 := 1#32
  let v826 : BitVec 32 := Scalar.addi arg19 c1_i32_906
  let c4_i32_907 : BitVec 32 := 4#32
  let v827 : BitVec 32 := Scalar.remsi v826 c4_i32_907
  let c2048_i32 : BitVec 32 := 2048#32
  let v829 : BitVec 32 := Scalar.muli v827 c2048_i32
  let c0_i32_911 : BitVec 32 := 0#32
  ![v829.toNat, 0]
def k0_off22 (k0_t2 : Fin k0_t2_loop.trips) : Fin 1 → Nat :=
  let c0_i32_197 : BitVec 32 := 0#32
  let c1_i32_199 : BitVec 32 := 1#32
  let arg19 : BitVec 32 := Scf.iv c0_i32_197 c1_i32_199 k0_t2
  let c2_i32_820 : BitVec 32 := 2#32
  let v692 : BitVec 32 := Scalar.remsi arg19 c2_i32_820
  ![v692.toNat]
def k0_off23 (k0_t2 : Fin k0_t2_loop.trips) : Fin 3 → Nat :=
  let c0_i32_197 : BitVec 32 := 0#32
  let c1_i32_199 : BitVec 32 := 1#32
  let arg19 : BitVec 32 := Scf.iv c0_i32_197 c1_i32_199 k0_t2
  let c2_i32_820 : BitVec 32 := 2#32
  let v692 : BitVec 32 := Scalar.remsi arg19 c2_i32_820
  let c0_i32_912 : BitVec 32 := 0#32
  let c0_i32_913 : BitVec 32 := 0#32
  ![v692.toNat, 0, 0]
def k0_off24 (k0_t2 : Fin k0_t2_loop.trips) : Fin 3 → Nat :=
  let c0_i32_197 : BitVec 32 := 0#32
  let c1_i32_199 : BitVec 32 := 1#32
  let arg19 : BitVec 32 := Scf.iv c0_i32_197 c1_i32_199 k0_t2
  let c2_i32_820 : BitVec 32 := 2#32
  let v692 : BitVec 32 := Scalar.remsi arg19 c2_i32_820
  let v841 : Index := Scalar.indexCast v692
  let c0_918 : Index := 0#32
  let c0_919 : Index := 0#32
  ![v841.toNat, 0, 0]
def k0_dev10 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_206 : BitVec 32 := 1#32
  let v216 : BitVec 32 := Scalar.addi v2 c1_i32_206
  let c4_i32_207 : BitVec 32 := 4#32
  let c0_i32_208 : BitVec 32 := 0#32
  let v217 : BitVec 1 := Scalar.cmpi .eq c4_i32_207 c0_i32_208
  let c1_i32_209 : BitVec 32 := 1#32
  let v218 : BitVec 32 := Scalar.select v217 c1_i32_209 c4_i32_207
  let v219 : BitVec 32 := Scalar.remsi v216 v218
  let c0_i32_211 : BitVec 32 := 0#32
  let v221 : BitVec 1 := Scalar.cmpi .slt v219 c0_i32_211
  let c0_i32_212 : BitVec 32 := 0#32
  let v222 : BitVec 1 := Scalar.cmpi .slt v218 c0_i32_212
  let v223 : BitVec 1 := Scalar.xori v221 v222
  let c0_i32_210 : BitVec 32 := 0#32
  let v220 : BitVec 1 := Scalar.cmpi .ne v219 c0_i32_210
  let v224 : BitVec 1 := Scalar.andi v223 v220
  let v225 : BitVec 32 := Scalar.addi v219 v218
  let v226 : BitVec 32 := Scalar.select v224 v225 v219
  let c1_i32_218 : BitVec 32 := 1#32
  let v227 : BitVec 32 := Scalar.muli v226 c1_i32_218
  let v228 : BitVec 32 := Scalar.addi c0_i32_219 v227
  v228.toNat
@[reducible] def k0_t3_loop : Scf.Loop 32 :=
  let c0_i32_248 : BitVec 32 := 0#32
  let c4_i32_249 : BitVec 32 := 4#32
  let v254 : BitVec 32 := Scalar.addi c0_i32_248 c4_i32_249
  let c1_i32_250 : BitVec 32 := 1#32
  ⟨c0_i32_248, v254, c1_i32_250⟩
def k0_off25 (k0_t3 : Fin k0_t3_loop.trips) (c0_i32_824 : BitVec 32) : Fin 1 → Nat :=
  let c1_i32_827 : BitVec 32 := 1#32
  let c0_i32_248 : BitVec 32 := 0#32
  let c1_i32_250 : BitVec 32 := 1#32
  let arg19 : BitVec 32 := Scf.iv c0_i32_248 c1_i32_250 k0_t3
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  ![v699.toNat]
def k0_off26 (k0_t3 : Fin k0_t3_loop.trips) (c0_i32_824 : BitVec 32) : Fin 3 → Nat :=
  let c1_i32_827 : BitVec 32 := 1#32
  let c0_i32_248 : BitVec 32 := 0#32
  let c1_i32_250 : BitVec 32 := 1#32
  let arg19 : BitVec 32 := Scf.iv c0_i32_248 c1_i32_250 k0_t3
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  let c0_i32_828 : BitVec 32 := 0#32
  let c0_i32_829 : BitVec 32 := 0#32
  ![v699.toNat, 0, 0]
def k0_off27 (k0_t3 : Fin k0_t3_loop.trips) (c0_i32_824 : BitVec 32) : Fin 2 → Nat :=
  let c0_i32_830 : BitVec 32 := 0#32
  let c0_i32_248 : BitVec 32 := 0#32
  let c1_i32_250 : BitVec 32 := 1#32
  let arg19 : BitVec 32 := Scf.iv c0_i32_248 c1_i32_250 k0_t3
  let c4_i32_823 : BitVec 32 := 4#32
  let v694 : BitVec 32 := Scalar.muli arg19 c4_i32_823
  let v695 : BitVec 32 := Scalar.addi v694 c0_i32_824
  let c1_i32_826 : BitVec 32 := 1#32
  let v697 : BitVec 32 := Scalar.addi v695 c1_i32_826
  let c16_i32 : BitVec 32 := 16#32
  let v698 : BitVec 32 := Scalar.remsi v697 c16_i32
  let c512_i32 : BitVec 32 := 512#32
  let v700 : BitVec 32 := Scalar.muli v698 c512_i32
  ![0, v700.toNat]
def k0_off28 (k0_t3 : Fin k0_t3_loop.trips) (c0_i32_824 : BitVec 32) : Fin 1 → Nat :=
  let c0_i32_248 : BitVec 32 := 0#32
  let c1_i32_250 : BitVec 32 := 1#32
  let arg19 : BitVec 32 := Scf.iv c0_i32_248 c1_i32_250 k0_t3
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  ![v696.toNat]
def k0_off29 (k0_t3 : Fin k0_t3_loop.trips) (c0_i32_824 : BitVec 32) : Fin 3 → Nat :=
  let c0_i32_248 : BitVec 32 := 0#32
  let c1_i32_250 : BitVec 32 := 1#32
  let arg19 : BitVec 32 := Scf.iv c0_i32_248 c1_i32_250 k0_t3
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let c0_i32_831 : BitVec 32 := 0#32
  let c0_i32_832 : BitVec 32 := 0#32
  ![v696.toNat, 0, 0]
def k0_off30 (k0_t3 : Fin k0_t3_loop.trips) (c0_i32_824 : BitVec 32) : Fin 3 → Nat :=
  let c0_i32_248 : BitVec 32 := 0#32
  let c1_i32_250 : BitVec 32 := 1#32
  let arg19 : BitVec 32 := Scf.iv c0_i32_248 c1_i32_250 k0_t3
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v711 : Index := Scalar.indexCast v696
  let c0_835 : Index := 0#32
  let c0_836 : Index := 0#32
  ![v711.toNat, 0, 0]
def k0_off31 (k0_t3 : Fin k0_t3_loop.trips) : Fin 1 → Nat :=
  let c1_i32_908 : BitVec 32 := 1#32
  let c0_i32_248 : BitVec 32 := 0#32
  let c1_i32_250 : BitVec 32 := 1#32
  let arg19 : BitVec 32 := Scf.iv c0_i32_248 c1_i32_250 k0_t3
  let c2_i32_820 : BitVec 32 := 2#32
  let v692 : BitVec 32 := Scalar.remsi arg19 c2_i32_820
  let v828 : BitVec 32 := Scalar.subi c1_i32_908 v692
  ![v828.toNat]
def k0_off32 (k0_t3 : Fin k0_t3_loop.trips) : Fin 3 → Nat :=
  let c1_i32_908 : BitVec 32 := 1#32
  let c0_i32_248 : BitVec 32 := 0#32
  let c1_i32_250 : BitVec 32 := 1#32
  let arg19 : BitVec 32 := Scf.iv c0_i32_248 c1_i32_250 k0_t3
  let c2_i32_820 : BitVec 32 := 2#32
  let v692 : BitVec 32 := Scalar.remsi arg19 c2_i32_820
  let v828 : BitVec 32 := Scalar.subi c1_i32_908 v692
  let c0_i32_909 : BitVec 32 := 0#32
  let c0_i32_910 : BitVec 32 := 0#32
  ![v828.toNat, 0, 0]
def k0_off33 (k0_t3 : Fin k0_t3_loop.trips) : Fin 2 → Nat :=
  let c0_i32_248 : BitVec 32 := 0#32
  let c1_i32_250 : BitVec 32 := 1#32
  let arg19 : BitVec 32 := Scf.iv c0_i32_248 c1_i32_250 k0_t3
  let c1_i32_906 : BitVec 32 := 1#32
  let v826 : BitVec 32 := Scalar.addi arg19 c1_i32_906
  let c4_i32_907 : BitVec 32 := 4#32
  let v827 : BitVec 32 := Scalar.remsi v826 c4_i32_907
  let c2048_i32 : BitVec 32 := 2048#32
  let v829 : BitVec 32 := Scalar.muli v827 c2048_i32
  let c0_i32_911 : BitVec 32 := 0#32
  ![v829.toNat, 0]
def k0_off34 (k0_t3 : Fin k0_t3_loop.trips) : Fin 1 → Nat :=
  let c0_i32_248 : BitVec 32 := 0#32
  let c1_i32_250 : BitVec 32 := 1#32
  let arg19 : BitVec 32 := Scf.iv c0_i32_248 c1_i32_250 k0_t3
  let c2_i32_820 : BitVec 32 := 2#32
  let v692 : BitVec 32 := Scalar.remsi arg19 c2_i32_820
  ![v692.toNat]
def k0_off35 (k0_t3 : Fin k0_t3_loop.trips) : Fin 3 → Nat :=
  let c0_i32_248 : BitVec 32 := 0#32
  let c1_i32_250 : BitVec 32 := 1#32
  let arg19 : BitVec 32 := Scf.iv c0_i32_248 c1_i32_250 k0_t3
  let c2_i32_820 : BitVec 32 := 2#32
  let v692 : BitVec 32 := Scalar.remsi arg19 c2_i32_820
  let c0_i32_912 : BitVec 32 := 0#32
  let c0_i32_913 : BitVec 32 := 0#32
  ![v692.toNat, 0, 0]
def k0_off36 (k0_t3 : Fin k0_t3_loop.trips) : Fin 3 → Nat :=
  let c0_i32_248 : BitVec 32 := 0#32
  let c1_i32_250 : BitVec 32 := 1#32
  let arg19 : BitVec 32 := Scf.iv c0_i32_248 c1_i32_250 k0_t3
  let c2_i32_820 : BitVec 32 := 2#32
  let v692 : BitVec 32 := Scalar.remsi arg19 c2_i32_820
  let v841 : Index := Scalar.indexCast v692
  let c0_918 : Index := 0#32
  let c0_919 : Index := 0#32
  ![v841.toNat, 0, 0]
def k0_dev11 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_256 : BitVec 32 := 1#32
  let v260 : BitVec 32 := Scalar.addi v2 c1_i32_256
  let c4_i32_257 : BitVec 32 := 4#32
  let c0_i32_258 : BitVec 32 := 0#32
  let v261 : BitVec 1 := Scalar.cmpi .eq c4_i32_257 c0_i32_258
  let c1_i32_259 : BitVec 32 := 1#32
  let v262 : BitVec 32 := Scalar.select v261 c1_i32_259 c4_i32_257
  let v263 : BitVec 32 := Scalar.remsi v260 v262
  let c0_i32_261 : BitVec 32 := 0#32
  let v265 : BitVec 1 := Scalar.cmpi .slt v263 c0_i32_261
  let c0_i32_262 : BitVec 32 := 0#32
  let v266 : BitVec 1 := Scalar.cmpi .slt v262 c0_i32_262
  let v267 : BitVec 1 := Scalar.xori v265 v266
  let c0_i32_260 : BitVec 32 := 0#32
  let v264 : BitVec 1 := Scalar.cmpi .ne v263 c0_i32_260
  let v268 : BitVec 1 := Scalar.andi v267 v264
  let v269 : BitVec 32 := Scalar.addi v263 v262
  let v270 : BitVec 32 := Scalar.select v268 v269 v263
  let c1_i32_268 : BitVec 32 := 1#32
  let v271 : BitVec 32 := Scalar.muli v270 c1_i32_268
  let v272 : BitVec 32 := Scalar.addi c0_i32_269 v271
  v272.toNat
@[reducible] def k0_t4_loop : Scf.Loop 32 :=
  let c0_i32_298 : BitVec 32 := 0#32
  let c4_i32_299 : BitVec 32 := 4#32
  let v298 : BitVec 32 := Scalar.addi c0_i32_298 c4_i32_299
  let c1_i32_300 : BitVec 32 := 1#32
  ⟨c0_i32_298, v298, c1_i32_300⟩
def k0_off37 (k0_t4 : Fin k0_t4_loop.trips) (c0_i32_824 : BitVec 32) : Fin 1 → Nat :=
  let c1_i32_827 : BitVec 32 := 1#32
  let c0_i32_298 : BitVec 32 := 0#32
  let c1_i32_300 : BitVec 32 := 1#32
  let arg19 : BitVec 32 := Scf.iv c0_i32_298 c1_i32_300 k0_t4
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  ![v699.toNat]
def k0_off38 (k0_t4 : Fin k0_t4_loop.trips) (c0_i32_824 : BitVec 32) : Fin 3 → Nat :=
  let c1_i32_827 : BitVec 32 := 1#32
  let c0_i32_298 : BitVec 32 := 0#32
  let c1_i32_300 : BitVec 32 := 1#32
  let arg19 : BitVec 32 := Scf.iv c0_i32_298 c1_i32_300 k0_t4
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  let c0_i32_828 : BitVec 32 := 0#32
  let c0_i32_829 : BitVec 32 := 0#32
  ![v699.toNat, 0, 0]
def k0_off39 (k0_t4 : Fin k0_t4_loop.trips) (c0_i32_824 : BitVec 32) : Fin 2 → Nat :=
  let c0_i32_830 : BitVec 32 := 0#32
  let c0_i32_298 : BitVec 32 := 0#32
  let c1_i32_300 : BitVec 32 := 1#32
  let arg19 : BitVec 32 := Scf.iv c0_i32_298 c1_i32_300 k0_t4
  let c4_i32_823 : BitVec 32 := 4#32
  let v694 : BitVec 32 := Scalar.muli arg19 c4_i32_823
  let v695 : BitVec 32 := Scalar.addi v694 c0_i32_824
  let c1_i32_826 : BitVec 32 := 1#32
  let v697 : BitVec 32 := Scalar.addi v695 c1_i32_826
  let c16_i32 : BitVec 32 := 16#32
  let v698 : BitVec 32 := Scalar.remsi v697 c16_i32
  let c512_i32 : BitVec 32 := 512#32
  let v700 : BitVec 32 := Scalar.muli v698 c512_i32
  ![0, v700.toNat]
def k0_off40 (k0_t4 : Fin k0_t4_loop.trips) (c0_i32_824 : BitVec 32) : Fin 1 → Nat :=
  let c0_i32_298 : BitVec 32 := 0#32
  let c1_i32_300 : BitVec 32 := 1#32
  let arg19 : BitVec 32 := Scf.iv c0_i32_298 c1_i32_300 k0_t4
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  ![v696.toNat]
def k0_off41 (k0_t4 : Fin k0_t4_loop.trips) (c0_i32_824 : BitVec 32) : Fin 3 → Nat :=
  let c0_i32_298 : BitVec 32 := 0#32
  let c1_i32_300 : BitVec 32 := 1#32
  let arg19 : BitVec 32 := Scf.iv c0_i32_298 c1_i32_300 k0_t4
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let c0_i32_831 : BitVec 32 := 0#32
  let c0_i32_832 : BitVec 32 := 0#32
  ![v696.toNat, 0, 0]
def k0_off42 (k0_t4 : Fin k0_t4_loop.trips) (c0_i32_824 : BitVec 32) : Fin 3 → Nat :=
  let c0_i32_298 : BitVec 32 := 0#32
  let c1_i32_300 : BitVec 32 := 1#32
  let arg19 : BitVec 32 := Scf.iv c0_i32_298 c1_i32_300 k0_t4
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v711 : Index := Scalar.indexCast v696
  let c0_835 : Index := 0#32
  let c0_836 : Index := 0#32
  ![v711.toNat, 0, 0]
def k0_off43 (k0_t4 : Fin k0_t4_loop.trips) : Fin 1 → Nat :=
  let c1_i32_908 : BitVec 32 := 1#32
  let c0_i32_298 : BitVec 32 := 0#32
  let c1_i32_300 : BitVec 32 := 1#32
  let arg19 : BitVec 32 := Scf.iv c0_i32_298 c1_i32_300 k0_t4
  let c2_i32_820 : BitVec 32 := 2#32
  let v692 : BitVec 32 := Scalar.remsi arg19 c2_i32_820
  let v828 : BitVec 32 := Scalar.subi c1_i32_908 v692
  ![v828.toNat]
def k0_off44 (k0_t4 : Fin k0_t4_loop.trips) : Fin 3 → Nat :=
  let c1_i32_908 : BitVec 32 := 1#32
  let c0_i32_298 : BitVec 32 := 0#32
  let c1_i32_300 : BitVec 32 := 1#32
  let arg19 : BitVec 32 := Scf.iv c0_i32_298 c1_i32_300 k0_t4
  let c2_i32_820 : BitVec 32 := 2#32
  let v692 : BitVec 32 := Scalar.remsi arg19 c2_i32_820
  let v828 : BitVec 32 := Scalar.subi c1_i32_908 v692
  let c0_i32_909 : BitVec 32 := 0#32
  let c0_i32_910 : BitVec 32 := 0#32
  ![v828.toNat, 0, 0]
def k0_off45 (k0_t4 : Fin k0_t4_loop.trips) : Fin 2 → Nat :=
  let c0_i32_298 : BitVec 32 := 0#32
  let c1_i32_300 : BitVec 32 := 1#32
  let arg19 : BitVec 32 := Scf.iv c0_i32_298 c1_i32_300 k0_t4
  let c1_i32_906 : BitVec 32 := 1#32
  let v826 : BitVec 32 := Scalar.addi arg19 c1_i32_906
  let c4_i32_907 : BitVec 32 := 4#32
  let v827 : BitVec 32 := Scalar.remsi v826 c4_i32_907
  let c2048_i32 : BitVec 32 := 2048#32
  let v829 : BitVec 32 := Scalar.muli v827 c2048_i32
  let c0_i32_911 : BitVec 32 := 0#32
  ![v829.toNat, 0]
def k0_off46 (k0_t4 : Fin k0_t4_loop.trips) : Fin 1 → Nat :=
  let c0_i32_298 : BitVec 32 := 0#32
  let c1_i32_300 : BitVec 32 := 1#32
  let arg19 : BitVec 32 := Scf.iv c0_i32_298 c1_i32_300 k0_t4
  let c2_i32_820 : BitVec 32 := 2#32
  let v692 : BitVec 32 := Scalar.remsi arg19 c2_i32_820
  ![v692.toNat]
def k0_off47 (k0_t4 : Fin k0_t4_loop.trips) : Fin 3 → Nat :=
  let c0_i32_298 : BitVec 32 := 0#32
  let c1_i32_300 : BitVec 32 := 1#32
  let arg19 : BitVec 32 := Scf.iv c0_i32_298 c1_i32_300 k0_t4
  let c2_i32_820 : BitVec 32 := 2#32
  let v692 : BitVec 32 := Scalar.remsi arg19 c2_i32_820
  let c0_i32_912 : BitVec 32 := 0#32
  let c0_i32_913 : BitVec 32 := 0#32
  ![v692.toNat, 0, 0]
def k0_off48 (k0_t4 : Fin k0_t4_loop.trips) : Fin 3 → Nat :=
  let c0_i32_298 : BitVec 32 := 0#32
  let c1_i32_300 : BitVec 32 := 1#32
  let arg19 : BitVec 32 := Scf.iv c0_i32_298 c1_i32_300 k0_t4
  let c2_i32_820 : BitVec 32 := 2#32
  let v692 : BitVec 32 := Scalar.remsi arg19 c2_i32_820
  let v841 : Index := Scalar.indexCast v692
  let c0_918 : Index := 0#32
  let c0_919 : Index := 0#32
  ![v841.toNat, 0, 0]
def k0_dev12 (d0 : Dev nD) : Nat :=
  let c0_i32_330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_317 : BitVec 32 := 2#32
  let v310 : BitVec 32 := Scalar.addi v2 c2_i32_317
  let c4_i32_318 : BitVec 32 := 4#32
  let c0_i32_319 : BitVec 32 := 0#32
  let v311 : BitVec 1 := Scalar.cmpi .eq c4_i32_318 c0_i32_319
  let c1_i32_320 : BitVec 32 := 1#32
  let v312 : BitVec 32 := Scalar.select v311 c1_i32_320 c4_i32_318
  let v313 : BitVec 32 := Scalar.remsi v310 v312
  let c0_i32_322 : BitVec 32 := 0#32
  let v315 : BitVec 1 := Scalar.cmpi .slt v313 c0_i32_322
  let c0_i32_323 : BitVec 32 := 0#32
  let v316 : BitVec 1 := Scalar.cmpi .slt v312 c0_i32_323
  let v317 : BitVec 1 := Scalar.xori v315 v316
  let c0_i32_321 : BitVec 32 := 0#32
  let v314 : BitVec 1 := Scalar.cmpi .ne v313 c0_i32_321
  let v318 : BitVec 1 := Scalar.andi v317 v314
  let v319 : BitVec 32 := Scalar.addi v313 v312
  let v320 : BitVec 32 := Scalar.select v318 v319 v313
  let c1_i32_329 : BitVec 32 := 1#32
  let v321 : BitVec 32 := Scalar.muli v320 c1_i32_329
  let v322 : BitVec 32 := Scalar.addi c0_i32_330 v321
  v322.toNat
@[reducible] def k0_t5_loop : Scf.Loop 32 :=
  let c0_i32_359 : BitVec 32 := 0#32
  let c4_i32_360 : BitVec 32 := 4#32
  let v348 : BitVec 32 := Scalar.addi c0_i32_359 c4_i32_360
  let c1_i32_361 : BitVec 32 := 1#32
  ⟨c0_i32_359, v348, c1_i32_361⟩
def k0_off49 (k0_t5 : Fin k0_t5_loop.trips) (c0_i32_824 : BitVec 32) : Fin 1 → Nat :=
  let c1_i32_827 : BitVec 32 := 1#32
  let c0_i32_359 : BitVec 32 := 0#32
  let c1_i32_361 : BitVec 32 := 1#32
  let arg19 : BitVec 32 := Scf.iv c0_i32_359 c1_i32_361 k0_t5
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  ![v699.toNat]
def k0_off50 (k0_t5 : Fin k0_t5_loop.trips) (c0_i32_824 : BitVec 32) : Fin 3 → Nat :=
  let c1_i32_827 : BitVec 32 := 1#32
  let c0_i32_359 : BitVec 32 := 0#32
  let c1_i32_361 : BitVec 32 := 1#32
  let arg19 : BitVec 32 := Scf.iv c0_i32_359 c1_i32_361 k0_t5
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  let c0_i32_828 : BitVec 32 := 0#32
  let c0_i32_829 : BitVec 32 := 0#32
  ![v699.toNat, 0, 0]
def k0_off51 (k0_t5 : Fin k0_t5_loop.trips) (c0_i32_824 : BitVec 32) : Fin 2 → Nat :=
  let c0_i32_830 : BitVec 32 := 0#32
  let c0_i32_359 : BitVec 32 := 0#32
  let c1_i32_361 : BitVec 32 := 1#32
  let arg19 : BitVec 32 := Scf.iv c0_i32_359 c1_i32_361 k0_t5
  let c4_i32_823 : BitVec 32 := 4#32
  let v694 : BitVec 32 := Scalar.muli arg19 c4_i32_823
  let v695 : BitVec 32 := Scalar.addi v694 c0_i32_824
  let c1_i32_826 : BitVec 32 := 1#32
  let v697 : BitVec 32 := Scalar.addi v695 c1_i32_826
  let c16_i32 : BitVec 32 := 16#32
  let v698 : BitVec 32 := Scalar.remsi v697 c16_i32
  let c512_i32 : BitVec 32 := 512#32
  let v700 : BitVec 32 := Scalar.muli v698 c512_i32
  ![0, v700.toNat]
def k0_off52 (k0_t5 : Fin k0_t5_loop.trips) (c0_i32_824 : BitVec 32) : Fin 1 → Nat :=
  let c0_i32_359 : BitVec 32 := 0#32
  let c1_i32_361 : BitVec 32 := 1#32
  let arg19 : BitVec 32 := Scf.iv c0_i32_359 c1_i32_361 k0_t5
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  ![v696.toNat]
def k0_off53 (k0_t5 : Fin k0_t5_loop.trips) (c0_i32_824 : BitVec 32) : Fin 3 → Nat :=
  let c0_i32_359 : BitVec 32 := 0#32
  let c1_i32_361 : BitVec 32 := 1#32
  let arg19 : BitVec 32 := Scf.iv c0_i32_359 c1_i32_361 k0_t5
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let c0_i32_831 : BitVec 32 := 0#32
  let c0_i32_832 : BitVec 32 := 0#32
  ![v696.toNat, 0, 0]
def k0_off54 (k0_t5 : Fin k0_t5_loop.trips) (c0_i32_824 : BitVec 32) : Fin 3 → Nat :=
  let c0_i32_359 : BitVec 32 := 0#32
  let c1_i32_361 : BitVec 32 := 1#32
  let arg19 : BitVec 32 := Scf.iv c0_i32_359 c1_i32_361 k0_t5
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v711 : Index := Scalar.indexCast v696
  let c0_835 : Index := 0#32
  let c0_836 : Index := 0#32
  ![v711.toNat, 0, 0]
def k0_off55 (k0_t5 : Fin k0_t5_loop.trips) : Fin 1 → Nat :=
  let c1_i32_908 : BitVec 32 := 1#32
  let c0_i32_359 : BitVec 32 := 0#32
  let c1_i32_361 : BitVec 32 := 1#32
  let arg19 : BitVec 32 := Scf.iv c0_i32_359 c1_i32_361 k0_t5
  let c2_i32_820 : BitVec 32 := 2#32
  let v692 : BitVec 32 := Scalar.remsi arg19 c2_i32_820
  let v828 : BitVec 32 := Scalar.subi c1_i32_908 v692
  ![v828.toNat]
def k0_off56 (k0_t5 : Fin k0_t5_loop.trips) : Fin 3 → Nat :=
  let c1_i32_908 : BitVec 32 := 1#32
  let c0_i32_359 : BitVec 32 := 0#32
  let c1_i32_361 : BitVec 32 := 1#32
  let arg19 : BitVec 32 := Scf.iv c0_i32_359 c1_i32_361 k0_t5
  let c2_i32_820 : BitVec 32 := 2#32
  let v692 : BitVec 32 := Scalar.remsi arg19 c2_i32_820
  let v828 : BitVec 32 := Scalar.subi c1_i32_908 v692
  let c0_i32_909 : BitVec 32 := 0#32
  let c0_i32_910 : BitVec 32 := 0#32
  ![v828.toNat, 0, 0]
def k0_off57 (k0_t5 : Fin k0_t5_loop.trips) : Fin 2 → Nat :=
  let c0_i32_359 : BitVec 32 := 0#32
  let c1_i32_361 : BitVec 32 := 1#32
  let arg19 : BitVec 32 := Scf.iv c0_i32_359 c1_i32_361 k0_t5
  let c1_i32_906 : BitVec 32 := 1#32
  let v826 : BitVec 32 := Scalar.addi arg19 c1_i32_906
  let c4_i32_907 : BitVec 32 := 4#32
  let v827 : BitVec 32 := Scalar.remsi v826 c4_i32_907
  let c2048_i32 : BitVec 32 := 2048#32
  let v829 : BitVec 32 := Scalar.muli v827 c2048_i32
  let c0_i32_911 : BitVec 32 := 0#32
  ![v829.toNat, 0]
def k0_off58 (k0_t5 : Fin k0_t5_loop.trips) : Fin 1 → Nat :=
  let c0_i32_359 : BitVec 32 := 0#32
  let c1_i32_361 : BitVec 32 := 1#32
  let arg19 : BitVec 32 := Scf.iv c0_i32_359 c1_i32_361 k0_t5
  let c2_i32_820 : BitVec 32 := 2#32
  let v692 : BitVec 32 := Scalar.remsi arg19 c2_i32_820
  ![v692.toNat]
def k0_off59 (k0_t5 : Fin k0_t5_loop.trips) : Fin 3 → Nat :=
  let c0_i32_359 : BitVec 32 := 0#32
  let c1_i32_361 : BitVec 32 := 1#32
  let arg19 : BitVec 32 := Scf.iv c0_i32_359 c1_i32_361 k0_t5
  let c2_i32_820 : BitVec 32 := 2#32
  let v692 : BitVec 32 := Scalar.remsi arg19 c2_i32_820
  let c0_i32_912 : BitVec 32 := 0#32
  let c0_i32_913 : BitVec 32 := 0#32
  ![v692.toNat, 0, 0]
def k0_off60 (k0_t5 : Fin k0_t5_loop.trips) : Fin 3 → Nat :=
  let c0_i32_359 : BitVec 32 := 0#32
  let c1_i32_361 : BitVec 32 := 1#32
  let arg19 : BitVec 32 := Scf.iv c0_i32_359 c1_i32_361 k0_t5
  let c2_i32_820 : BitVec 32 := 2#32
  let v692 : BitVec 32 := Scalar.remsi arg19 c2_i32_820
  let v841 : Index := Scalar.indexCast v692
  let c0_918 : Index := 0#32
  let c0_919 : Index := 0#32
  ![v841.toNat, 0, 0]
def k0_dev13 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_378 : BitVec 32 := 2#32
  let v360 : BitVec 32 := Scalar.addi v2 c2_i32_378
  let c4_i32_379 : BitVec 32 := 4#32
  let c0_i32_380 : BitVec 32 := 0#32
  let v361 : BitVec 1 := Scalar.cmpi .eq c4_i32_379 c0_i32_380
  let c1_i32_381 : BitVec 32 := 1#32
  let v362 : BitVec 32 := Scalar.select v361 c1_i32_381 c4_i32_379
  let v363 : BitVec 32 := Scalar.remsi v360 v362
  let c0_i32_383 : BitVec 32 := 0#32
  let v365 : BitVec 1 := Scalar.cmpi .slt v363 c0_i32_383
  let c0_i32_384 : BitVec 32 := 0#32
  let v366 : BitVec 1 := Scalar.cmpi .slt v362 c0_i32_384
  let v367 : BitVec 1 := Scalar.xori v365 v366
  let c0_i32_382 : BitVec 32 := 0#32
  let v364 : BitVec 1 := Scalar.cmpi .ne v363 c0_i32_382
  let v368 : BitVec 1 := Scalar.andi v367 v364
  let v369 : BitVec 32 := Scalar.addi v363 v362
  let v370 : BitVec 32 := Scalar.select v368 v369 v363
  let c1_i32_390 : BitVec 32 := 1#32
  let v371 : BitVec 32 := Scalar.muli v370 c1_i32_390
  let v372 : BitVec 32 := Scalar.addi c0_i32_391 v371
  v372.toNat
@[reducible] def k0_t6_loop : Scf.Loop 32 :=
  let c0_i32_420 : BitVec 32 := 0#32
  let c4_i32_421 : BitVec 32 := 4#32
  let v398 : BitVec 32 := Scalar.addi c0_i32_420 c4_i32_421
  let c1_i32_422 : BitVec 32 := 1#32
  ⟨c0_i32_420, v398, c1_i32_422⟩
def k0_off61 (k0_t6 : Fin k0_t6_loop.trips) (c0_i32_824 : BitVec 32) : Fin 1 → Nat :=
  let c1_i32_827 : BitVec 32 := 1#32
  let c0_i32_420 : BitVec 32 := 0#32
  let c1_i32_422 : BitVec 32 := 1#32
  let arg19 : BitVec 32 := Scf.iv c0_i32_420 c1_i32_422 k0_t6
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  ![v699.toNat]
def k0_off62 (k0_t6 : Fin k0_t6_loop.trips) (c0_i32_824 : BitVec 32) : Fin 3 → Nat :=
  let c1_i32_827 : BitVec 32 := 1#32
  let c0_i32_420 : BitVec 32 := 0#32
  let c1_i32_422 : BitVec 32 := 1#32
  let arg19 : BitVec 32 := Scf.iv c0_i32_420 c1_i32_422 k0_t6
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  let c0_i32_828 : BitVec 32 := 0#32
  let c0_i32_829 : BitVec 32 := 0#32
  ![v699.toNat, 0, 0]
def k0_off63 (k0_t6 : Fin k0_t6_loop.trips) (c0_i32_824 : BitVec 32) : Fin 2 → Nat :=
  let c0_i32_830 : BitVec 32 := 0#32
  let c0_i32_420 : BitVec 32 := 0#32
  let c1_i32_422 : BitVec 32 := 1#32
  let arg19 : BitVec 32 := Scf.iv c0_i32_420 c1_i32_422 k0_t6
  let c4_i32_823 : BitVec 32 := 4#32
  let v694 : BitVec 32 := Scalar.muli arg19 c4_i32_823
  let v695 : BitVec 32 := Scalar.addi v694 c0_i32_824
  let c1_i32_826 : BitVec 32 := 1#32
  let v697 : BitVec 32 := Scalar.addi v695 c1_i32_826
  let c16_i32 : BitVec 32 := 16#32
  let v698 : BitVec 32 := Scalar.remsi v697 c16_i32
  let c512_i32 : BitVec 32 := 512#32
  let v700 : BitVec 32 := Scalar.muli v698 c512_i32
  ![0, v700.toNat]
def k0_off64 (k0_t6 : Fin k0_t6_loop.trips) (c0_i32_824 : BitVec 32) : Fin 1 → Nat :=
  let c0_i32_420 : BitVec 32 := 0#32
  let c1_i32_422 : BitVec 32 := 1#32
  let arg19 : BitVec 32 := Scf.iv c0_i32_420 c1_i32_422 k0_t6
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  ![v696.toNat]
def k0_off65 (k0_t6 : Fin k0_t6_loop.trips) (c0_i32_824 : BitVec 32) : Fin 3 → Nat :=
  let c0_i32_420 : BitVec 32 := 0#32
  let c1_i32_422 : BitVec 32 := 1#32
  let arg19 : BitVec 32 := Scf.iv c0_i32_420 c1_i32_422 k0_t6
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let c0_i32_831 : BitVec 32 := 0#32
  let c0_i32_832 : BitVec 32 := 0#32
  ![v696.toNat, 0, 0]
def k0_off66 (k0_t6 : Fin k0_t6_loop.trips) (c0_i32_824 : BitVec 32) : Fin 3 → Nat :=
  let c0_i32_420 : BitVec 32 := 0#32
  let c1_i32_422 : BitVec 32 := 1#32
  let arg19 : BitVec 32 := Scf.iv c0_i32_420 c1_i32_422 k0_t6
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v711 : Index := Scalar.indexCast v696
  let c0_835 : Index := 0#32
  let c0_836 : Index := 0#32
  ![v711.toNat, 0, 0]
def k0_off67 (k0_t6 : Fin k0_t6_loop.trips) : Fin 1 → Nat :=
  let c1_i32_908 : BitVec 32 := 1#32
  let c0_i32_420 : BitVec 32 := 0#32
  let c1_i32_422 : BitVec 32 := 1#32
  let arg19 : BitVec 32 := Scf.iv c0_i32_420 c1_i32_422 k0_t6
  let c2_i32_820 : BitVec 32 := 2#32
  let v692 : BitVec 32 := Scalar.remsi arg19 c2_i32_820
  let v828 : BitVec 32 := Scalar.subi c1_i32_908 v692
  ![v828.toNat]
def k0_off68 (k0_t6 : Fin k0_t6_loop.trips) : Fin 3 → Nat :=
  let c1_i32_908 : BitVec 32 := 1#32
  let c0_i32_420 : BitVec 32 := 0#32
  let c1_i32_422 : BitVec 32 := 1#32
  let arg19 : BitVec 32 := Scf.iv c0_i32_420 c1_i32_422 k0_t6
  let c2_i32_820 : BitVec 32 := 2#32
  let v692 : BitVec 32 := Scalar.remsi arg19 c2_i32_820
  let v828 : BitVec 32 := Scalar.subi c1_i32_908 v692
  let c0_i32_909 : BitVec 32 := 0#32
  let c0_i32_910 : BitVec 32 := 0#32
  ![v828.toNat, 0, 0]
def k0_off69 (k0_t6 : Fin k0_t6_loop.trips) : Fin 2 → Nat :=
  let c0_i32_420 : BitVec 32 := 0#32
  let c1_i32_422 : BitVec 32 := 1#32
  let arg19 : BitVec 32 := Scf.iv c0_i32_420 c1_i32_422 k0_t6
  let c1_i32_906 : BitVec 32 := 1#32
  let v826 : BitVec 32 := Scalar.addi arg19 c1_i32_906
  let c4_i32_907 : BitVec 32 := 4#32
  let v827 : BitVec 32 := Scalar.remsi v826 c4_i32_907
  let c2048_i32 : BitVec 32 := 2048#32
  let v829 : BitVec 32 := Scalar.muli v827 c2048_i32
  let c0_i32_911 : BitVec 32 := 0#32
  ![v829.toNat, 0]
def k0_off70 (k0_t6 : Fin k0_t6_loop.trips) : Fin 1 → Nat :=
  let c0_i32_420 : BitVec 32 := 0#32
  let c1_i32_422 : BitVec 32 := 1#32
  let arg19 : BitVec 32 := Scf.iv c0_i32_420 c1_i32_422 k0_t6
  let c2_i32_820 : BitVec 32 := 2#32
  let v692 : BitVec 32 := Scalar.remsi arg19 c2_i32_820
  ![v692.toNat]
def k0_off71 (k0_t6 : Fin k0_t6_loop.trips) : Fin 3 → Nat :=
  let c0_i32_420 : BitVec 32 := 0#32
  let c1_i32_422 : BitVec 32 := 1#32
  let arg19 : BitVec 32 := Scf.iv c0_i32_420 c1_i32_422 k0_t6
  let c2_i32_820 : BitVec 32 := 2#32
  let v692 : BitVec 32 := Scalar.remsi arg19 c2_i32_820
  let c0_i32_912 : BitVec 32 := 0#32
  let c0_i32_913 : BitVec 32 := 0#32
  ![v692.toNat, 0, 0]
def k0_off72 (k0_t6 : Fin k0_t6_loop.trips) : Fin 3 → Nat :=
  let c0_i32_420 : BitVec 32 := 0#32
  let c1_i32_422 : BitVec 32 := 1#32
  let arg19 : BitVec 32 := Scf.iv c0_i32_420 c1_i32_422 k0_t6
  let c2_i32_820 : BitVec 32 := 2#32
  let v692 : BitVec 32 := Scalar.remsi arg19 c2_i32_820
  let v841 : Index := Scalar.indexCast v692
  let c0_918 : Index := 0#32
  let c0_919 : Index := 0#32
  ![v841.toNat, 0, 0]
def k0_dev14 (d0 : Dev nD) : Nat :=
  let c0_i32_452 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_439 : BitVec 32 := 3#32
  let v410 : BitVec 32 := Scalar.addi v2 c3_i32_439
  let c4_i32_440 : BitVec 32 := 4#32
  let c0_i32_441 : BitVec 32 := 0#32
  let v411 : BitVec 1 := Scalar.cmpi .eq c4_i32_440 c0_i32_441
  let c1_i32_442 : BitVec 32 := 1#32
  let v412 : BitVec 32 := Scalar.select v411 c1_i32_442 c4_i32_440
  let v413 : BitVec 32 := Scalar.remsi v410 v412
  let c0_i32_444 : BitVec 32 := 0#32
  let v415 : BitVec 1 := Scalar.cmpi .slt v413 c0_i32_444
  let c0_i32_445 : BitVec 32 := 0#32
  let v416 : BitVec 1 := Scalar.cmpi .slt v412 c0_i32_445
  let v417 : BitVec 1 := Scalar.xori v415 v416
  let c0_i32_443 : BitVec 32 := 0#32
  let v414 : BitVec 1 := Scalar.cmpi .ne v413 c0_i32_443
  let v418 : BitVec 1 := Scalar.andi v417 v414
  let v419 : BitVec 32 := Scalar.addi v413 v412
  let v420 : BitVec 32 := Scalar.select v418 v419 v413
  let c1_i32_451 : BitVec 32 := 1#32
  let v421 : BitVec 32 := Scalar.muli v420 c1_i32_451
  let v422 : BitVec 32 := Scalar.addi c0_i32_452 v421
  v422.toNat
@[reducible] def k0_t7_loop : Scf.Loop 32 :=
  let c0_i32_481 : BitVec 32 := 0#32
  let c4_i32_482 : BitVec 32 := 4#32
  let v448 : BitVec 32 := Scalar.addi c0_i32_481 c4_i32_482
  let c1_i32_483 : BitVec 32 := 1#32
  ⟨c0_i32_481, v448, c1_i32_483⟩
def k0_off73 (k0_t7 : Fin k0_t7_loop.trips) (c0_i32_824 : BitVec 32) : Fin 1 → Nat :=
  let c1_i32_827 : BitVec 32 := 1#32
  let c0_i32_481 : BitVec 32 := 0#32
  let c1_i32_483 : BitVec 32 := 1#32
  let arg19 : BitVec 32 := Scf.iv c0_i32_481 c1_i32_483 k0_t7
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  ![v699.toNat]
def k0_off74 (k0_t7 : Fin k0_t7_loop.trips) (c0_i32_824 : BitVec 32) : Fin 3 → Nat :=
  let c1_i32_827 : BitVec 32 := 1#32
  let c0_i32_481 : BitVec 32 := 0#32
  let c1_i32_483 : BitVec 32 := 1#32
  let arg19 : BitVec 32 := Scf.iv c0_i32_481 c1_i32_483 k0_t7
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  let c0_i32_828 : BitVec 32 := 0#32
  let c0_i32_829 : BitVec 32 := 0#32
  ![v699.toNat, 0, 0]
def k0_off75 (k0_t7 : Fin k0_t7_loop.trips) (c0_i32_824 : BitVec 32) : Fin 2 → Nat :=
  let c0_i32_830 : BitVec 32 := 0#32
  let c0_i32_481 : BitVec 32 := 0#32
  let c1_i32_483 : BitVec 32 := 1#32
  let arg19 : BitVec 32 := Scf.iv c0_i32_481 c1_i32_483 k0_t7
  let c4_i32_823 : BitVec 32 := 4#32
  let v694 : BitVec 32 := Scalar.muli arg19 c4_i32_823
  let v695 : BitVec 32 := Scalar.addi v694 c0_i32_824
  let c1_i32_826 : BitVec 32 := 1#32
  let v697 : BitVec 32 := Scalar.addi v695 c1_i32_826
  let c16_i32 : BitVec 32 := 16#32
  let v698 : BitVec 32 := Scalar.remsi v697 c16_i32
  let c512_i32 : BitVec 32 := 512#32
  let v700 : BitVec 32 := Scalar.muli v698 c512_i32
  ![0, v700.toNat]
def k0_off76 (k0_t7 : Fin k0_t7_loop.trips) (c0_i32_824 : BitVec 32) : Fin 1 → Nat :=
  let c0_i32_481 : BitVec 32 := 0#32
  let c1_i32_483 : BitVec 32 := 1#32
  let arg19 : BitVec 32 := Scf.iv c0_i32_481 c1_i32_483 k0_t7
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  ![v696.toNat]
def k0_off77 (k0_t7 : Fin k0_t7_loop.trips) (c0_i32_824 : BitVec 32) : Fin 3 → Nat :=
  let c0_i32_481 : BitVec 32 := 0#32
  let c1_i32_483 : BitVec 32 := 1#32
  let arg19 : BitVec 32 := Scf.iv c0_i32_481 c1_i32_483 k0_t7
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let c0_i32_831 : BitVec 32 := 0#32
  let c0_i32_832 : BitVec 32 := 0#32
  ![v696.toNat, 0, 0]
def k0_off78 (k0_t7 : Fin k0_t7_loop.trips) (c0_i32_824 : BitVec 32) : Fin 3 → Nat :=
  let c0_i32_481 : BitVec 32 := 0#32
  let c1_i32_483 : BitVec 32 := 1#32
  let arg19 : BitVec 32 := Scf.iv c0_i32_481 c1_i32_483 k0_t7
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v711 : Index := Scalar.indexCast v696
  let c0_835 : Index := 0#32
  let c0_836 : Index := 0#32
  ![v711.toNat, 0, 0]
def k0_off79 (k0_t7 : Fin k0_t7_loop.trips) : Fin 1 → Nat :=
  let c1_i32_908 : BitVec 32 := 1#32
  let c0_i32_481 : BitVec 32 := 0#32
  let c1_i32_483 : BitVec 32 := 1#32
  let arg19 : BitVec 32 := Scf.iv c0_i32_481 c1_i32_483 k0_t7
  let c2_i32_820 : BitVec 32 := 2#32
  let v692 : BitVec 32 := Scalar.remsi arg19 c2_i32_820
  let v828 : BitVec 32 := Scalar.subi c1_i32_908 v692
  ![v828.toNat]
def k0_off80 (k0_t7 : Fin k0_t7_loop.trips) : Fin 3 → Nat :=
  let c1_i32_908 : BitVec 32 := 1#32
  let c0_i32_481 : BitVec 32 := 0#32
  let c1_i32_483 : BitVec 32 := 1#32
  let arg19 : BitVec 32 := Scf.iv c0_i32_481 c1_i32_483 k0_t7
  let c2_i32_820 : BitVec 32 := 2#32
  let v692 : BitVec 32 := Scalar.remsi arg19 c2_i32_820
  let v828 : BitVec 32 := Scalar.subi c1_i32_908 v692
  let c0_i32_909 : BitVec 32 := 0#32
  let c0_i32_910 : BitVec 32 := 0#32
  ![v828.toNat, 0, 0]
def k0_off81 (k0_t7 : Fin k0_t7_loop.trips) : Fin 2 → Nat :=
  let c0_i32_481 : BitVec 32 := 0#32
  let c1_i32_483 : BitVec 32 := 1#32
  let arg19 : BitVec 32 := Scf.iv c0_i32_481 c1_i32_483 k0_t7
  let c1_i32_906 : BitVec 32 := 1#32
  let v826 : BitVec 32 := Scalar.addi arg19 c1_i32_906
  let c4_i32_907 : BitVec 32 := 4#32
  let v827 : BitVec 32 := Scalar.remsi v826 c4_i32_907
  let c2048_i32 : BitVec 32 := 2048#32
  let v829 : BitVec 32 := Scalar.muli v827 c2048_i32
  let c0_i32_911 : BitVec 32 := 0#32
  ![v829.toNat, 0]
def k0_off82 (k0_t7 : Fin k0_t7_loop.trips) : Fin 1 → Nat :=
  let c0_i32_481 : BitVec 32 := 0#32
  let c1_i32_483 : BitVec 32 := 1#32
  let arg19 : BitVec 32 := Scf.iv c0_i32_481 c1_i32_483 k0_t7
  let c2_i32_820 : BitVec 32 := 2#32
  let v692 : BitVec 32 := Scalar.remsi arg19 c2_i32_820
  ![v692.toNat]
def k0_off83 (k0_t7 : Fin k0_t7_loop.trips) : Fin 3 → Nat :=
  let c0_i32_481 : BitVec 32 := 0#32
  let c1_i32_483 : BitVec 32 := 1#32
  let arg19 : BitVec 32 := Scf.iv c0_i32_481 c1_i32_483 k0_t7
  let c2_i32_820 : BitVec 32 := 2#32
  let v692 : BitVec 32 := Scalar.remsi arg19 c2_i32_820
  let c0_i32_912 : BitVec 32 := 0#32
  let c0_i32_913 : BitVec 32 := 0#32
  ![v692.toNat, 0, 0]
def k0_off84 (k0_t7 : Fin k0_t7_loop.trips) : Fin 3 → Nat :=
  let c0_i32_481 : BitVec 32 := 0#32
  let c1_i32_483 : BitVec 32 := 1#32
  let arg19 : BitVec 32 := Scf.iv c0_i32_481 c1_i32_483 k0_t7
  let c2_i32_820 : BitVec 32 := 2#32
  let v692 : BitVec 32 := Scalar.remsi arg19 c2_i32_820
  let v841 : Index := Scalar.indexCast v692
  let c0_918 : Index := 0#32
  let c0_919 : Index := 0#32
  ![v841.toNat, 0, 0]
def k0_dev15 (d0 : Dev nD) : Nat :=
  let c0_i32_513 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_500 : BitVec 32 := 3#32
  let v460 : BitVec 32 := Scalar.addi v2 c3_i32_500
  let c4_i32_501 : BitVec 32 := 4#32
  let c0_i32_502 : BitVec 32 := 0#32
  let v461 : BitVec 1 := Scalar.cmpi .eq c4_i32_501 c0_i32_502
  let c1_i32_503 : BitVec 32 := 1#32
  let v462 : BitVec 32 := Scalar.select v461 c1_i32_503 c4_i32_501
  let v463 : BitVec 32 := Scalar.remsi v460 v462
  let c0_i32_505 : BitVec 32 := 0#32
  let v465 : BitVec 1 := Scalar.cmpi .slt v463 c0_i32_505
  let c0_i32_506 : BitVec 32 := 0#32
  let v466 : BitVec 1 := Scalar.cmpi .slt v462 c0_i32_506
  let v467 : BitVec 1 := Scalar.xori v465 v466
  let c0_i32_504 : BitVec 32 := 0#32
  let v464 : BitVec 1 := Scalar.cmpi .ne v463 c0_i32_504
  let v468 : BitVec 1 := Scalar.andi v467 v464
  let v469 : BitVec 32 := Scalar.addi v463 v462
  let v470 : BitVec 32 := Scalar.select v468 v469 v463
  let c1_i32_512 : BitVec 32 := 1#32
  let v471 : BitVec 32 := Scalar.muli v470 c1_i32_512
  let v472 : BitVec 32 := Scalar.addi c0_i32_513 v471
  v472.toNat
@[reducible] def k0_t8_loop : Scf.Loop 32 :=
  let c0_i32_525 : BitVec 32 := 0#32
  let c4_i32_526 : BitVec 32 := 4#32
  let v487 : BitVec 32 := Scalar.addi c0_i32_525 c4_i32_526
  let c1_i32_527 : BitVec 32 := 1#32
  ⟨c0_i32_525, v487, c1_i32_527⟩
def k0_off85 (k0_t8 : Fin k0_t8_loop.trips) (c0_i32_824 : BitVec 32) : Fin 1 → Nat :=
  let c1_i32_827 : BitVec 32 := 1#32
  let c0_i32_525 : BitVec 32 := 0#32
  let c1_i32_527 : BitVec 32 := 1#32
  let arg19 : BitVec 32 := Scf.iv c0_i32_525 c1_i32_527 k0_t8
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  ![v699.toNat]
def k0_off86 (k0_t8 : Fin k0_t8_loop.trips) (c0_i32_824 : BitVec 32) : Fin 3 → Nat :=
  let c1_i32_827 : BitVec 32 := 1#32
  let c0_i32_525 : BitVec 32 := 0#32
  let c1_i32_527 : BitVec 32 := 1#32
  let arg19 : BitVec 32 := Scf.iv c0_i32_525 c1_i32_527 k0_t8
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v699 : BitVec 32 := Scalar.subi c1_i32_827 v696
  let c0_i32_828 : BitVec 32 := 0#32
  let c0_i32_829 : BitVec 32 := 0#32
  ![v699.toNat, 0, 0]
def k0_off87 (k0_t8 : Fin k0_t8_loop.trips) (c0_i32_824 : BitVec 32) : Fin 2 → Nat :=
  let c0_i32_830 : BitVec 32 := 0#32
  let c0_i32_525 : BitVec 32 := 0#32
  let c1_i32_527 : BitVec 32 := 1#32
  let arg19 : BitVec 32 := Scf.iv c0_i32_525 c1_i32_527 k0_t8
  let c4_i32_823 : BitVec 32 := 4#32
  let v694 : BitVec 32 := Scalar.muli arg19 c4_i32_823
  let v695 : BitVec 32 := Scalar.addi v694 c0_i32_824
  let c1_i32_826 : BitVec 32 := 1#32
  let v697 : BitVec 32 := Scalar.addi v695 c1_i32_826
  let c16_i32 : BitVec 32 := 16#32
  let v698 : BitVec 32 := Scalar.remsi v697 c16_i32
  let c512_i32 : BitVec 32 := 512#32
  let v700 : BitVec 32 := Scalar.muli v698 c512_i32
  ![0, v700.toNat]
def k0_off88 (k0_t8 : Fin k0_t8_loop.trips) (c0_i32_824 : BitVec 32) : Fin 1 → Nat :=
  let c0_i32_525 : BitVec 32 := 0#32
  let c1_i32_527 : BitVec 32 := 1#32
  let arg19 : BitVec 32 := Scf.iv c0_i32_525 c1_i32_527 k0_t8
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  ![v696.toNat]
def k0_off89 (k0_t8 : Fin k0_t8_loop.trips) (c0_i32_824 : BitVec 32) : Fin 3 → Nat :=
  let c0_i32_525 : BitVec 32 := 0#32
  let c1_i32_527 : BitVec 32 := 1#32
  let arg19 : BitVec 32 := Scf.iv c0_i32_525 c1_i32_527 k0_t8
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let c0_i32_831 : BitVec 32 := 0#32
  let c0_i32_832 : BitVec 32 := 0#32
  ![v696.toNat, 0, 0]
def k0_off90 (k0_t8 : Fin k0_t8_loop.trips) (c0_i32_824 : BitVec 32) : Fin 3 → Nat :=
  let c0_i32_525 : BitVec 32 := 0#32
  let c1_i32_527 : BitVec 32 := 1#32
  let arg19 : BitVec 32 := Scf.iv c0_i32_525 c1_i32_527 k0_t8
  let c4_i32_823 : BitVec 32 := 4#32
  let v694 : BitVec 32 := Scalar.muli arg19 c4_i32_823
  let v695 : BitVec 32 := Scalar.addi v694 c0_i32_824
  let c2_i32_825 : BitVec 32 := 2#32
  let v696 : BitVec 32 := Scalar.remsi v695 c2_i32_825
  let v711 : Index := Scalar.indexCast v696
  let c0_835 : Index := 0#32
  let c0_836 : Index := 0#32
  ![v711.toNat, 0, 0]
def k0_off91 (k0_t8 : Fin k0_t8_loop.trips) : Fin 1 → Nat :=
  let c1_i32_908 : BitVec 32 := 1#32
  let c0_i32_525 : BitVec 32 := 0#32
  let c1_i32_527 : BitVec 32 := 1#32
  let arg19 : BitVec 32 := Scf.iv c0_i32_525 c1_i32_527 k0_t8
  let c2_i32_820 : BitVec 32 := 2#32
  let v692 : BitVec 32 := Scalar.remsi arg19 c2_i32_820
  let v828 : BitVec 32 := Scalar.subi c1_i32_908 v692
  ![v828.toNat]
def k0_off92 (k0_t8 : Fin k0_t8_loop.trips) : Fin 3 → Nat :=
  let c1_i32_908 : BitVec 32 := 1#32
  let c0_i32_525 : BitVec 32 := 0#32
  let c1_i32_527 : BitVec 32 := 1#32
  let arg19 : BitVec 32 := Scf.iv c0_i32_525 c1_i32_527 k0_t8
  let c2_i32_820 : BitVec 32 := 2#32
  let v692 : BitVec 32 := Scalar.remsi arg19 c2_i32_820
  let v828 : BitVec 32 := Scalar.subi c1_i32_908 v692
  let c0_i32_909 : BitVec 32 := 0#32
  let c0_i32_910 : BitVec 32 := 0#32
  ![v828.toNat, 0, 0]
def k0_off93 (k0_t8 : Fin k0_t8_loop.trips) : Fin 2 → Nat :=
  let c0_i32_525 : BitVec 32 := 0#32
  let c1_i32_527 : BitVec 32 := 1#32
  let arg19 : BitVec 32 := Scf.iv c0_i32_525 c1_i32_527 k0_t8
  let c1_i32_906 : BitVec 32 := 1#32
  let v826 : BitVec 32 := Scalar.addi arg19 c1_i32_906
  let c4_i32_907 : BitVec 32 := 4#32
  let v827 : BitVec 32 := Scalar.remsi v826 c4_i32_907
  let c2048_i32 : BitVec 32 := 2048#32
  let v829 : BitVec 32 := Scalar.muli v827 c2048_i32
  let c0_i32_911 : BitVec 32 := 0#32
  ![v829.toNat, 0]
def k0_off94 (k0_t8 : Fin k0_t8_loop.trips) : Fin 1 → Nat :=
  let c0_i32_525 : BitVec 32 := 0#32
  let c1_i32_527 : BitVec 32 := 1#32
  let arg19 : BitVec 32 := Scf.iv c0_i32_525 c1_i32_527 k0_t8
  let c2_i32_820 : BitVec 32 := 2#32
  let v692 : BitVec 32 := Scalar.remsi arg19 c2_i32_820
  ![v692.toNat]
def k0_off95 (k0_t8 : Fin k0_t8_loop.trips) : Fin 3 → Nat :=
  let c0_i32_525 : BitVec 32 := 0#32
  let c1_i32_527 : BitVec 32 := 1#32
  let arg19 : BitVec 32 := Scf.iv c0_i32_525 c1_i32_527 k0_t8
  let c2_i32_820 : BitVec 32 := 2#32
  let v692 : BitVec 32 := Scalar.remsi arg19 c2_i32_820
  let c0_i32_912 : BitVec 32 := 0#32
  let c0_i32_913 : BitVec 32 := 0#32
  ![v692.toNat, 0, 0]
def k0_off96 (k0_t8 : Fin k0_t8_loop.trips) : Fin 3 → Nat :=
  let c0_i32_525 : BitVec 32 := 0#32
  let c1_i32_527 : BitVec 32 := 1#32
  let arg19 : BitVec 32 := Scf.iv c0_i32_525 c1_i32_527 k0_t8
  let c2_i32_820 : BitVec 32 := 2#32
  let v692 : BitVec 32 := Scalar.remsi arg19 c2_i32_820
  let v841 : Index := Scalar.indexCast v692
  let c0_918 : Index := 0#32
  let c0_919 : Index := 0#32
  ![v841.toNat, 0, 0]
-- ==== ReferenceIdeal.lean ====
abbrev S8192x2048 : Shape := ⟨2, ![8192, 2048]⟩
abbrev S2048x32768 : Shape := ⟨2, ![2048, 32768]⟩
abbrev S32768x2048 : Shape := ⟨2, ![32768, 2048]⟩
abbrev S8192x32768 : Shape := ⟨2, ![8192, 32768]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x32768, .bf16⟩
  | .hbm, ⟨2, _⟩ => ⟨S32768x2048, .bf16⟩
  | .hbm, ⟨3, _⟩ => ⟨S8192x2048, .f32⟩
  | .hbm, ⟨4, _⟩ => ⟨S2048x32768, .f32⟩
  | .hbm, ⟨5, _⟩ => ⟨S8192x32768, .f32⟩
  | .hbm, ⟨6, _⟩ => ⟨S_, .i32⟩
  | .hbm, ⟨7, _⟩ => ⟨S_, .i32⟩
  | .hbm, ⟨8, _⟩ => ⟨S_, .f32⟩
  | .hbm, ⟨9, _⟩ => ⟨S8192x32768, .f32⟩
  | .hbm, ⟨10, _⟩ => ⟨S8192x32768, .f32⟩
  | .hbm, ⟨11, _⟩ => ⟨S_, .f32⟩
  | .hbm, ⟨12, _⟩ => ⟨S8192x32768, .f32⟩
  | .hbm, ⟨13, _⟩ => ⟨S8192x32768, .f32⟩
  | .hbm, ⟨14, _⟩ => ⟨S8192x32768, .f32⟩
  | .hbm, ⟨15, _⟩ => ⟨S8192x32768, .f32⟩
  | .hbm, ⟨16, _⟩ => ⟨S_, .f32⟩
  | .hbm, ⟨17, _⟩ => ⟨S8192x32768, .f32⟩
  | .hbm, ⟨18, _⟩ => ⟨S8192x32768, .f32⟩
  | .hbm, ⟨19, _⟩ => ⟨S8192x32768, .f32⟩
  | .hbm, ⟨20, _⟩ => ⟨S32768x2048, .f32⟩
  | .hbm, ⟨21, _⟩ => ⟨S8192x2048, .f32⟩
  | .hbm, ⟨22, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== UnclippedIdeal.lean ====
abbrev S8192x2048 : Shape := ⟨2, ![8192, 2048]⟩
abbrev S2048x32768 : Shape := ⟨2, ![2048, 32768]⟩
abbrev S32768x2048 : Shape := ⟨2, ![32768, 2048]⟩
abbrev S8192x32768 : Shape := ⟨2, ![8192, 32768]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x32768, .bf16⟩
  | .hbm, ⟨2, _⟩ => ⟨S32768x2048, .bf16⟩
  | .hbm, ⟨3, _⟩ => ⟨S8192x2048, .f32⟩
  | .hbm, ⟨4, _⟩ => ⟨S2048x32768, .f32⟩
  | .hbm, ⟨5, _⟩ => ⟨S8192x32768, .f32⟩
  | .hbm, ⟨6, _⟩ => ⟨S8192x32768, .f32⟩
  | .hbm, ⟨7, _⟩ => ⟨S8192x32768, .f32⟩
  | .hbm, ⟨8, _⟩ => ⟨S_, .f32⟩
  | .hbm, ⟨9, _⟩ => ⟨S8192x32768, .f32⟩
  | .hbm, ⟨10, _⟩ => ⟨S8192x32768, .f32⟩
  | .hbm, ⟨11, _⟩ => ⟨S8192x32768, .f32⟩
  | .hbm, ⟨12, _⟩ => ⟨S32768x2048, .f32⟩
  | .hbm, ⟨13, _⟩ => ⟨S8192x2048, .f32⟩
  | .hbm, ⟨14, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Base.lean ====
/-
The vocabulary of the proof: the ghost state's algebra, the windows of the kernel's buffers, and the
rules for loads, stores and local transfers, each stated over `owns` (a window owned at what it reads).
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Memref
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

/-! ## The resource algebra: the pipeline library's copy, the rounds' copy (duties `Fin 4`), the transfers' counters -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  (Emb.inl : Emb UB (UB × Counters)).trans (embR : Emb (UB × Counters) (MT nD τ sig Unit (Elt F) ℕ UU ℕ))
abbrev EC : UEmb Counters (MT nD τ sig Unit (Elt F) ℕ UU ℕ) := countersEmb

abbrev 𝒱₀ : Variants := Variants.none

instance : (EC (F := F)).LandsIn (upEmb : UEmb _ 𝕄) := inferInstance

/-- The weakest precondition of a program of device `c`'s TensorCore. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem wpc_ret {α : Type} (c : Dev nD) (a : α) (Q : α → sProp 𝕄) : Q a ⊢ wpc c (.ret a) Q := by
  show Q a ⊢ iprop(|={Set.univ}=> Q a)
  iintro H; imodintro; iexact H
theorem wpc_bind {α β : Type} (c : Dev nD) (p : Prog (TpuEff nD τ sig (Elt F) Λ₀ .tc) β) (k : β → Prog (TpuEff nD τ sig (Elt F) Λ₀ .tc) α) (Q : α → sProp 𝕄) :
    wpc c p (fun b => wpc c (k b) Q) ⊢ wpc c (p >>= k) Q :=
  Entails.of_eq (wp_bind ..).symm

abbrev Own (c : Dev nD) {sp : Space} {s : Shape} {e : EltTy} (m : Memref sig .tc sp s e) (q : PosShare TreeShare) (X : s.Idx → Elt F e) : sProp 𝕄 :=
  owns (c : Thread nD τ) m q X

/-! ## The windows -/

def xM (h : Fin 2) : Memref sig .tc .hbm S1024x2048 .bf16 :=
  (Memref.whole main_arg0).slice (Rect.unit (s := S2048x2048) ![1024 * h.val, 0] S1024x2048.size
    (by revert h; decide)) (fun _ => rfl)
def outM (h : Fin 2) : Memref sig .tc .hbm S1024x2048 .bf16 :=
  (Memref.whole main_v1_0).slice (Rect.unit (s := S2048x2048) ![1024 * h.val, 0] S1024x2048.size
    (by revert h; decide)) (fun _ => rfl)
def w1M (k : Fin 16) : Memref sig .tc .hbm S2048x512 .bf16 :=
  (Memref.whole main_arg1).slice (Rect.unit (s := S2048x8192) ![0, k.val * 512] S2048x512.size
    (by revert k; decide)) (fun _ => rfl)
def w2M (k : Fin 4) : Memref sig .tc .hbm S2048x2048 .bf16 :=
  (Memref.whole main_arg2).slice (Rect.unit (s := S8192x2048) ![k.val * 2048, 0] S2048x2048.size
    (by revert k; decide)) (fun _ => rfl)
def agM (s : Fin 3) (h : Fin 2) : Memref sig .tc .hbm S1024x2048 .bf16 :=
  ((Memref.whole main_v1_1).slice (Rect.unit (s := S3x2048x2048) ![s.val, 1024 * h.val, 0] S1x1024x2048.size
    (by revert s h; decide)) (fun _ => rfl)).squeeze S1024x2048 squeezes_S1x1024x2048_S1024x2048
def rsM (s : Fin 4) (h : Fin 2) : Memref sig .tc .hbm S1024x2048 .bf16 :=
  ((Memref.whole main_v1_2).slice (Rect.unit (s := S4x2048x2048) ![s.val, 1024 * h.val, 0] S1x1024x2048.size
    (by revert s h; decide)) (fun _ => rfl)).squeeze S1024x2048 squeezes_S1x1024x2048_S1024x2048
abbrev xsM : Memref sig .tc .vmem S1024x2048 .bf16 := Memref.whole cc0_scratch0
abbrev hbM : Memref sig .tc .vmem S1024x2048 .bf16 := Memref.whole cc0_scratch3
abbrev acM : Memref sig .tc .vmem S1024x2048 .f32 := Memref.whole cc0_scratch4
def w1b (s : Fin 2) : Memref sig .tc .vmem S2048x512 .bf16 :=
  ((Memref.whole cc0_scratch1).slice (Rect.unit (s := S2x2048x512) ![s.val, 0, 0] S1x2048x512.size
    (by revert s; decide)) (fun _ => rfl)).squeeze S2048x512 squeezes_S1x2048x512_S2048x512
def w2b (s : Fin 2) : Memref sig .tc .vmem S2048x2048 .bf16 :=
  ((Memref.whole cc0_scratch2).slice (Rect.unit (s := S2x2048x2048) ![s.val, 0, 0] S1x2048x2048.size
    (by revert s; decide)) (fun _ => rfl)).squeeze S2048x2048 squeezes_S1x2048x2048_S2048x2048
def rss (h : Fin 2) : Memref sig .tc .vmem S1024x2048 .bf16 :=
  ((Memref.whole cc0_scratch5).slice (Rect.unit (s := S2x1024x2048) ![h.val, 0, 0] S1x1024x2048.size
    (by revert h; decide)) (fun _ => rfl)).squeeze S1024x2048 squeezes_S1x1024x2048_S1024x2048

/-- The units a half's transfer credits. -/
def N : ℕ := (xM 0).view.dmaCredit
example (s : Fin 3) (h : Fin 2) : (agM s h).view.dmaCredit = N := rfl
example (s : Fin 4) (h : Fin 2) : (rsM s h).view.dmaCredit = N := rfl
example (h : Fin 2) : (rss h).view.dmaCredit = N := rfl
example (h : Fin 2) : (xM h).view.dmaCredit = N := rfl
example (h : Fin 2) : (outM h).view.dmaCredit = N := rfl
example : (xsM).view.dmaCredit = N := rfl

/-! ## Local transfers over `owns` -/

section Rules
variable (c : Dev nD) {sp sp' : Space} {s : Shape} {e : EltTy}

/-- Issue a local transfer: both windows owned and the semaphore at zero, the flight delivers the destination at
    what the source reads and the source share. -/
theorem wp_dma {src src' : Memref sig .tc sp s e} {dst dst' : Memref sig .tc sp' s e} {sm sm' : DmaSem sig} (hs : src' = src) (hd : dst' = dst) (hm : sm' = sm)
    {hsrc : src'.view.WordExact} {hdst : dst'.view.WordExact} {hsem : DmaTarget.Typed (nD := nD) (τ := τ) sp (.dma sm') (.here dst' : DmaTarget nD τ sig .tc sp' s e)}
    {α : Type} {Q : α → sProp 𝕄} {k : PUnit → Prog (TpuEff nD τ sig (Elt F) Λ₀ .tc) α} {q : PosShare TreeShare} (X Y : s.Idx → Elt F e) (hn : 0 < s.numel) :
    iprop(Own c src q X ∗ Own c dst fullShare Y ∗ semVal ((c : Thread nD τ), .dma sm) 0)
      ⊢ iprop((Flight EC (c : Thread nD τ) (.dma sm) () dst.view.dmaCredit iprop(Own c dst fullShare X ∗ Own c src q X) -∗ wpc c (k ⟨⟩) Q)
          -∗ wpc c (.op (.enqueueDma src' (.here dst') (.dma sm') hsrc hdst hsem) k) Q) := by
  subst hs hd hm
  unfold Own owns
  iintro ⟨⟨%fs, %hfs, Hs⟩, ⟨%fd, %hfd, Hd⟩, Hv⟩ Hk
  iapply (Transfers.wp_dmaLocal (via := ReadAs.same) EC 𝒱₀ (c : Thread nD τ) none () dst'.view.dmaCredit rfl (View.dmaCredit_pos _ hn) (Finset.Subset.refl _)) $$ [Hs Hd Hv]
  · isplitl [Hs]; · iexact Hs
    isplitl [Hd] <;> iassumption
  iintro Hf
  iapply Hk
  have hmono : iprop((dst'.view.loc (c : Thread nD τ) ↦[dst'.view.set]{fullShare} (dst'.view.write (Elt F) fd ((ReadAs.same).apply (src'.view.read (Elt F) fs)) Finset.univ))
      ∗ (src'.view.loc (c : Thread nD τ) ↦[src'.view.set]{q} fs) : sProp 𝕄) ⊢ iprop(Own c dst' fullShare X ∗ Own c src' q X) := by
    unfold Own owns
    iintro ⟨Hd, Hs⟩
    isplitl [Hd]
    · iexists (dst'.view.write (Elt F) fd ((ReadAs.same).apply (src'.view.read (Elt F) fs)) Finset.univ); isplitr
      · ipureintro; rw [View.read_write_univ]; exact hfs
      · iexact Hd
    · iexists fs; isplitr
      · ipureintro; exact hfs
      · iexact Hs
  iapply (Transfers.Flight_mono (EC (F := F)) (c : Thread nD τ) hmono) $$ Hf

/-- Load a window whole: what it reads at the rectangle's places. -/
theorem wp_ld {cs : CoreSpace} {m : Memref sig .tc cs s e} {r : Rect s} {hl : m.view.LoadsAt r.toLoadRect}
    {α : Type} {Q : α → sProp 𝕄} {k : (r.toLoadRect.shape.Idx → Elt F e) → Prog (TpuEff nD τ sig (Elt F) Λ₀ .tc) α}
    {q : PosShare TreeShare} (X : s.Idx → Elt F e) (Z : r.toLoadRect.shape.Idx → Elt F e) (hZ : (fun j => X (r.emb j)) = Z) :
    Own c m q X ⊢ iprop((Own c m q X -∗ wpc c (k Z) Q) -∗ wpc c (.op (.load m r.toLoadRect hl) k) Q) := by
  unfold Own owns
  iintro ⟨%f, %hf, H⟩ Hk
  iapply (wp_load 𝒱₀ (c : Thread nD τ) none Set.univ (m := m) (r := r.toLoadRect) (by exact View.setOn_subset_set _ _)) $$ H
  iintro H
  have hz : m.view.readAt (Elt F) r.toLoadRect f = Z := by
    rw [← hZ, ← hf]; rfl
  rw [hz]
  iapply Hk
  iexists f
  isplitr
  · ipureintro; exact hf
  iexact H

/-- Load a squeezed slot through the buffer it is in. -/
theorem wp_ldS {cs : CoreSpace} {m : Memref sig .tc cs s e} {r : Rect s} {s' : Shape} {w : Memref sig .tc cs s' e}
    (hr : ∀ a, r.stride a = 1) (hsq : r.shape.Squeezes s') (hw : (m.slice r hr).squeeze s' hsq = w) (hc : s'.ShapeCasts r.shape)
    {hl : m.view.LoadsAt r.toLoadRect}
    {α : Type} {Q : α → sProp 𝕄} {k : (r.toLoadRect.shape.Idx → Elt F e) → Prog (TpuEff nD τ sig (Elt F) Λ₀ .tc) α}
    {q : PosShare TreeShare} (X : s'.Idx → Elt F e) :
    Own c w q X ⊢ iprop((Own c w q X -∗ wpc c (k (shapeCast r.shape X hc)) Q) -∗ wpc c (.op (.load m r.toLoadRect hl) k) Q) := by
  subst hw
  unfold Own owns
  iintro ⟨%f, %hf, H⟩ Hk
  iapply (wp_load 𝒱₀ (c : Thread nD τ) none Set.univ (m := m) (r := r.toLoadRect) (S := ((m.slice r hr).squeeze s' hsq).view.set) (by
    have h : ((m.slice r hr).squeeze s' hsq).view.set = (m.view.slice r).set := View.set_reshape _ _
    rw [h, View.set_slice]
    exact Finset.Subset.refl _)) $$ H
  iintro H
  have hz : m.view.readAt (Elt F) r.toLoadRect f = shapeCast r.shape X hc := by
    rw [← hf]; funext j
    show m.view.read (Elt F) f (r.emb j) = m.view.read (Elt F) f (r.emb (Shape.reshapeEquiv _ (Shape.reshapeEquiv _ j)))
    rw [Shape.reshapeEquiv_reshapeEquiv, Shape.reshapeEquiv_self]
  rw [hz]
  iapply Hk
  iexists f
  isplitr
  · ipureintro; exact hf
  iexact H

/-- Store a squeezed slot through the buffer it is in. -/
theorem wp_stS {cs : CoreSpace} {m : Memref sig .tc cs s e} {r : Rect s} {s' : Shape} {w : Memref sig .tc cs s' e}
    (hr : ∀ a, r.stride a = 1) (hsq : r.shape.Squeezes s') (hw : (m.slice r hr).squeeze s' hsq = w) (hc : r.shape.ShapeCasts s')
    {v : r.shape.Idx → Elt F e} {hx : (m.access r).Stores Finset.univ} {hm : Finset.univ = Finset.univ ∨ ∀ a, r.stride a = 1}
    {α : Type} {Q : α → sProp 𝕄} {k : PUnit → Prog (TpuEff nD τ sig (Elt F) Λ₀ .tc) α}
    (X : s'.Idx → Elt F e) :
    Own c w fullShare X ⊢ iprop((Own c w fullShare (shapeCast s' v hc) -∗ wpc c (k ⟨⟩) Q) -∗ wpc c (.op (.store m r v Finset.univ hx hm) k) Q) := by
  subst hw
  unfold Own owns
  iintro ⟨%f, %hf, H⟩ Hk
  have h : ((m.slice r hr).squeeze s' hsq).view.set = (m.access r).set := View.set_reshape _ _
  iapply (wp_store 𝒱₀ (c : Thread nD τ) none Set.univ (m := m) (r := r) (Mk := Finset.univ) (S := ((m.slice r hr).squeeze s' hsq).view.set) (by
    rw [h]; exact Finset.Subset.refl _)) $$ H
  iintro H
  iapply Hk
  iexists ((m.access r).write (Elt F) f v Finset.univ)
  isplitr
  · ipureintro; funext j
    show (m.access r).read (Elt F) ((m.access r).write (Elt F) f v Finset.univ) (Shape.reshapeEquiv _ j) = _
    rw [View.read_write_univ]; rfl
  iexact H

/-- Store through a rectangle of an owned window: the rectangle's places overlaid. -/
theorem wp_st {cs : CoreSpace} {m : Memref sig .tc cs s e} {r : Rect s}
    {v : r.shape.Idx → Elt F e} {hx : (m.access r).Stores Finset.univ} {hm : Finset.univ = Finset.univ ∨ ∀ a, r.stride a = 1}
    {α : Type} {Q : α → sProp 𝕄} {k : PUnit → Prog (TpuEff nD τ sig (Elt F) Λ₀ .tc) α}
    (X Z : s.Idx → Elt F e) (hZ : r.overlay X v = Z) :
    Own c m fullShare X ⊢ iprop((Own c m fullShare Z -∗ wpc c (k ⟨⟩) Q) -∗ wpc c (.op (.store m r v Finset.univ hx hm) k) Q) := by
  unfold Own owns
  iintro ⟨%f, %hf, H⟩ Hk
  have h : (m.access r).set ⊆ m.view.set := View.set_slice_subset _ _
  iapply (wp_store 𝒱₀ (c : Thread nD τ) none Set.univ (m := m) (r := r) (Mk := Finset.univ) (S := m.view.set) h) $$ H
  iintro H
  iapply Hk
  iexists ((m.access r).write (Elt F) f v Finset.univ)
  isplitr
  · ipureintro; rw [← hZ, ← hf]; funext j
    by_cases hj : j ∈ r.set
    · rw [← Rect.map_emb_univ, Finset.mem_map] at hj
      obtain ⟨i, -, rfl⟩ := hj
      rw [Rect.overlay_emb]
      show (m.access r).read (Elt F) ((m.access r).write (Elt F) f v Finset.univ) i = _
      rw [View.read_write_univ]
    · rw [Rect.overlay_of_not_mem _ _ _ hj, View.read_apply, View.read_apply]
      congr 1
      exact View.write_of_not_mem _ _ _ (by
        rw [View.setOn_univ]
        show m.view.emb j ∉ (m.view.slice r).set
        rw [View.set_slice]; exact fun h' => hj ((Finset.mem_map' _).mp h'))
  iexact H

end Rules

end Cert.KProof

end
-- ==== Proof.Vals.lean ====
/-
The values of the run: what a device's blocks hold, one chunk of the hidden layer, one step of the accumulator,
and the partial result of a device's weights on a half of a device's rows.
-/
module

public import proofs.«01_k».proof.Proof.Base
public import Idealize.ShloMosaic.Lib.ValueIdxCore

@[expose] public section

noncomputable section

namespace Cert.KProof

open Cert.KernelIdeal Cert.KernelIdeal.Gen
open Idealize.ShloMosaic
open Idealize.ShloMosaic.TcCoe
open Idealize.ShloMosaic.ValueIdx (ix2)

variable {F : FTy → Type} [FloatOps F]

variable (F) in
abbrev HB := S1024x2048.Idx → Elt F .bf16
variable (F) in
abbrev HA := S1024x2048.Idx → Elt F .f32
variable (F) in
abbrev W1C := S2048x512.Idx → Elt F .bf16
variable (F) in
abbrev W2C := S2048x2048.Idx → Elt F .bf16
variable (F) in
abbrev W1A := S2048x8192.Idx → Elt F .bf16
variable (F) in
abbrev W2A := S8192x2048.Idx → Elt F .bf16

variable (F) in
/-- What the arguments' blocks hold on each device. -/
structure Args where
  x : Dev nD → S2048x2048.Idx → Elt F .bf16
  w1 : Dev nD → W1A F
  w2 : Dev nD → W2A F

/-- Half `h` of a device's rows. -/
def half (X : S2048x2048.Idx → Elt F .bf16) (h : Fin 2) : HB F := fun j =>
  X ((Rect.unit (s := S2048x2048) ![1024 * h.val, 0] S1024x2048.size (by revert h; decide)).emb j)
/-- Chunk `k` of 512 columns of a device's first weights. -/
def chunk (W : W1A F) (k : Fin 16) : W1C F := fun j =>
  W ((Rect.unit (s := S2048x8192) ![0, k.val * 512] S2048x512.size (by revert k; decide)).emb j)
/-- Group `k` of 2048 rows of a device's second weights. -/
def grp (W : W2A F) (k : Fin 4) : W2C F := fun j =>
  W ((Rect.unit (s := S8192x2048) ![k.val * 2048, 0] S2048x2048.size (by revert k; decide)).emb j)

theorem sc_w1 : S2048x512.ShapeCasts S1x2048x512 := shapeCasts_S1x2048x512_S2048x512.symm
theorem sc_w2 : S2048x2048.ShapeCasts S1x2048x2048 := shapeCasts_S1x2048x2048_S2048x2048.symm
theorem sc_h : S1024x2048.ShapeCasts S1x1024x2048 := shapeCasts_S1x1024x2048_S1024x2048.symm

/-- 512 columns of the hidden layer. -/
def hcol (X : HB F) (w : W1C F) : S1024x512.Idx → Elt F .bf16 := k0_pay5 X (shapeCast S1x2048x512 w sc_w1)

/-- 2048 columns of the hidden layer, from four chunks of weights. -/
def hval (X : HB F) (w : Fin 4 → W1C F) : HB F := fun i =>
  hcol X (w ⟨(i 1).val / 512, Nat.div_lt_of_lt_mul (i 1).isLt⟩) (ix2 (i 0) ⟨(i 1).val % 512, Nat.mod_lt _ (by decide)⟩)

/-- Chunk `j` of group `g`. -/
def cix (g j : ℕ) : Fin 16 := ⟨(4 * g + j) % 16, Nat.mod_lt _ (by decide)⟩
def gix (g : ℕ) : Fin 4 := ⟨g % 4, Nat.mod_lt _ (by decide)⟩

/-- One trip: the accumulator plus the group's hidden columns times the group's second weights. -/
def stepv (X : HB F) (W1 : W1A F) (W2 : W2A F) (g : ℕ) (A : HA F) : HA F :=
  k0_pay50 (hval X fun j => chunk W1 (cix g j.val)) (shapeCast S1x2048x2048 (grp W2 (gix g)) sc_w2) A

/-- The accumulator before trip `g`. -/
def accv (X : HB F) (W1 : W1A F) (W2 : W2A F) : ℕ → HA F
  | 0 => k0_pay49
  | g + 1 => stepv X W1 W2 g (accv X W1 W2 g)

/-- The partial result, before and after rounding. -/
def mlp (X : HB F) (W1 : W1A F) (W2 : W2A F) : HA F := accv X W1 W2 4
def pk (A : HA F) : HB F := truncf .bf16 A bitsLt_bf16_f32

variable (A : Args F)
/-- Half `h` of device `d`'s rows, and device `c`'s partial result on it. -/
def xh (d : Dev nD) (h : Fin 2) : HB F := half (A.x d) h
def part (c d : Dev nD) (h : Fin 2) : HA F := mlp (xh A d h) (A.w1 c) (A.w2 c)

/-! ## The hidden buffer's four stores -/

theorem unit_emb_val {s : Shape} {t : Fin s.rank → ℕ} (off : Fin s.rank → ℕ) (h) (j) (a : Fin s.rank) :
    ((Rect.unit (s := s) off t h).emb j a).val = off a + (j a).val := by
  show off a + 1 * (j a).val = _
  omega

theorem ov_at {α : Type} (off : Fin 2 → ℕ) (h : ∀ a, off a + S1024x512.size a ≤ S1024x2048.size a) (k : ℕ) (ho : off = ![0, 512 * k])
    (X : S1024x2048.Idx → α) (v : S1024x512.Idx → α) (i : S1024x2048.Idx) :
    (Rect.unit (s := S1024x2048) off S1024x512.size h).overlay X v i
      = if (i 1).val / 512 = k then v (ix2 (i 0) ⟨(i 1).val % 512, Nat.mod_lt _ (by decide)⟩) else X i := by
  subst ho
  split
  · rename_i hk
    have hi : i = (Rect.unit (s := S1024x2048) ![0, 512 * k] S1024x512.size h).emb (ix2 (i 0) ⟨(i 1).val % 512, Nat.mod_lt _ (by decide)⟩) := by
      funext a; apply Fin.ext; rw [unit_emb_val]
      fin_cases a
      · show (i 0).val = 0 + (i 0).val; omega
      · show (i 1).val = 512 * k + (i 1).val % 512; omega
    conv_lhs => rw [hi]
    exact Rect.overlay_emb _ _ _ _
  · rename_i hk
    apply Rect.overlay_of_not_mem
    rw [← Rect.map_emb_univ, Finset.mem_map]
    rintro ⟨j, -, rfl⟩
    apply hk
    have h1 := unit_emb_val (s := S1024x2048) (t := S1024x512.size) ![0, 512 * k] h j 1
    have h2 : (j 1).val < 512 := (j 1).isLt
    have h3 : ((Rect.unit (s := S1024x2048) ![0, 512 * k] S1024x512.size h).emb j 1).val = 512 * k + (j 1).val := h1
    rw [h3]; omega

end Cert.KProof

end
-- ==== Proof.Protocol.lean ====
/-
The protocol: who pays which semaphore cell, what the payment hands over, what each device owes, the levels under
which no wait is cyclic; and the rules for signals, remote sends and waits stated over it.
-/
module

public import proofs.«01_k».proof.Proof.Vals

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

/-! ## Devices and semaphores -/

/-- The device `d` places after `c`. -/
def peer (c : Dev nD) (d : ℕ) : Dev nD := ⟨(c.val + d) % 4, Nat.mod_lt _ (by decide)⟩

theorem peer_peer (c : Dev nD) (d d' : ℕ) : peer (peer c d) d' = peer c (d + d') := by
  apply Fin.ext; show ((c.val + d) % 4 + d') % 4 = _; show _ = (c.val + (d + d')) % 4; omega
theorem peer_four (c : Dev nD) : peer c 4 = c := by
  apply Fin.ext; show (c.val + 4) % 4 = c.val; have : c.val < 4 := c.isLt; omega

/-- The semaphores of the transfers between devices, by index. -/
def agSi (s : Fin 3) (h : Fin 2) : Fin 20 := ⟨2 * s.val + h.val, by omega⟩
def agRi (s : Fin 3) (h : Fin 2) : Fin 20 := ⟨6 + 2 * s.val + h.val, by omega⟩
def sgSi (h : Fin 2) : Fin 20 := ⟨12 + h.val, by omega⟩
def rsRi (s : Fin 3) (h : Fin 2) : Fin 20 := ⟨14 + 2 * s.val + h.val, by omega⟩
def dS (i : Fin 20) : DmaSem sig := ⟨i.val, Nat.lt_of_lt_of_le i.isLt (by decide)⟩
/-- The semaphores of a device's own transfers: the two slots of each weight buffer, the staging copies. -/
def wS1 (s : Fin 2) : DmaSem sig := ⟨20 + s.val, Nat.lt_of_lt_of_le (Nat.add_lt_add_left s.isLt 20) (by decide)⟩
def wS2 (s : Fin 2) : DmaSem sig := ⟨22 + s.val, Nat.lt_of_lt_of_le (Nat.add_lt_add_left s.isLt 22) (by decide)⟩
def lcS : DmaSem sig := ⟨24, by decide⟩
abbrev barS : Sem sig := sig.barrier 0 rfl

/-- The cells of the protocol: the barrier's (`none`) and the twenty transfers'. -/
abbrev csem : Option (Fin 20) → SemLoc sig
  | none => .reg barS
  | some i => .dma (dS i)
abbrev kcell (ck : Dev nD × Option (Fin 20)) : GSem nD τ sig := ((ck.1 : Thread nD τ), csem ck.2)
abbrev dcell (c : Dev nD) (i : Fin 20) : GSem nD τ sig := ((c : Thread nD τ), .dma (dS i))
abbrev bcell (c : Dev nD) : GSem nD τ sig := ((c : Thread nD τ), .reg barS)

/-! ## Payloads and the schedule -/

variable (A : Args F)

/-- The two halves of landing slot `s` of both landing buffers of the device `s + 1` places after `c`: what that device's
    signal hands `c`. -/
def slots (c : Dev nD) (s : Fin 3) : sProp 𝕄 :=
  iprop((∃ X, Own (peer c (s.val + 1)) (agM s 0) fullShare X) ∗ (∃ X, Own (peer c (s.val + 1)) (agM s 1) fullShare X)
    ∗ (∃ X, Own (peer c (s.val + 1)) (rsM s.castSucc 0) fullShare X) ∗ (∃ X, Own (peer c (s.val + 1)) (rsM s.castSucc 1) fullShare X))

/-- What the signal from the device `d` places before `c` hands `c`. -/
def barPay (c : Dev nD) : Fin 4 → sProp 𝕄
  | 0 => iprop(emp)
  | 1 => slots c 2
  | 2 => slots c 1
  | 3 => slots c 0

/-- What a transfer's cell hands its owner. -/
def dpay (c : Dev nD) : Fin 20 → sProp 𝕄 := fun i =>
  let s : Fin 3 := ⟨(i.val / 2) % 3, Nat.mod_lt _ (by decide)⟩
  let s' : Fin 3 := ⟨(i.val / 2 + 2) % 3, Nat.mod_lt _ (by decide)⟩
  let h : Fin 2 := ⟨i.val % 2, Nat.mod_lt _ (by decide)⟩
  if i.val < 6 then iprop(emp)
  else if i.val < 12 then Own c (agM s h) fullShare (xh A (peer c (3 - s.val)) h)
  else if i.val < 14 then iprop(∃ X, Own c (rss h) fullShare X)
  else Own c (rsM s'.castSucc h) fullShare (pk (part A (peer c (3 - s'.val)) c h))

theorem dpay_agS (c : Dev nD) (s : Fin 3) (h : Fin 2) : dpay A c (agSi s h) = iprop(emp) := by
  fin_cases s <;> fin_cases h <;> rfl
theorem dpay_agR (c : Dev nD) (s : Fin 3) (h : Fin 2) : dpay A c (agRi s h) = Own c (agM s h) fullShare (xh A (peer c (3 - s.val)) h) := by
  fin_cases s <;> fin_cases h <;> rfl
theorem dpay_sgS (c : Dev nD) (h : Fin 2) : dpay A c (sgSi h) = iprop(∃ X, Own c (rss h) fullShare X) := by
  fin_cases h <;> rfl
theorem dpay_rsR (c : Dev nD) (s : Fin 3) (h : Fin 2) :
    dpay A c (rsRi s h) = Own c (rsM s.castSucc h) fullShare (pk (part A (peer c (3 - s.val)) c h)) := by
  fin_cases s <;> fin_cases h <;> rfl

instance own_storable (c : Dev nD) {sp : Space} {s : Shape} {e : EltTy} (m : Memref sig .tc sp s e) (q : PosShare TreeShare) (X : s.Idx → Elt F e) :
    BI.Storable (upEmb : UEmb _ 𝕄) (Own c m q X) := by unfold Own owns; infer_instance
instance slots_storable (c : Dev nD) (s : Fin 3) : BI.Storable (upEmb : UEmb _ 𝕄) (slots (F := F) c s) := by unfold slots; infer_instance
instance barPay_storable (c : Dev nD) (d : Fin 4) : BI.Storable (upEmb : UEmb _ 𝕄) (barPay (F := F) c d) := by
  unfold barPay; split <;> infer_instance
instance dpay_storable (c : Dev nD) (i : Fin 20) : BI.Storable (upEmb : UEmb _ 𝕄) (dpay A c i) := by
  unfold dpay; dsimp only; (repeat' split) <;> infer_instance

theorem N_pos : 0 < N := View.dmaCredit_pos _ h_S1024x2048

/-- The barrier's cell has one round of three signals; a transfer's cell one round of one transfer, but for the two
    staging slots' send cells, which have three. -/
def rnds (i : ℕ) : ℕ := if i = 12 ∨ i = 13 then 3 else if i < 20 then 1 else 0

def dutyS : SemLoc sig → ℕ → Finset (Fin 4)
  | .reg _, r => if r = 0 then {1, 2, 3} else ∅
  | .dma i, r => if r < rnds i.val then {0} else ∅
def amtS : SemLoc sig → ℕ
  | .reg _ => 1
  | .dma _ => N
def payS (c : Dev nD) : SemLoc sig → Fin 4 → sProp 𝕄
  | .reg _, d => barPay c d
  | .dma i, _ => if h : i.val < 20 then dpay A c ⟨i.val, h⟩ else iprop(emp)
theorem amtS_pos (s : SemLoc sig) : 0 < amtS s := by
  cases s
  · exact Nat.one_pos
  · exact N_pos
instance payS_storable (c : Dev nD) (s : SemLoc sig) (d : Fin 4) : BI.Storable (upEmb : UEmb _ 𝕄) (payS A c s d) := by
  cases s
  · unfold payS; infer_instance
  · unfold payS; dsimp only; split <;> infer_instance

def Rd : Rounds.Schedule (GSem nD τ sig) (Fin 4) 𝕄 where
  duties g r := if g.1.2 = .tc then dutyS g.2 r else ∅
  unitless _ := False
  amount g _ _ := amtS g.2
  payload g _ d := payS A g.1.1 g.2 d
  amount_pos g _ _ _ := amtS_pos g.2

instance Rd_payload_storable (g : GSem nD τ sig) (r : ℕ) (d : Fin 4) : BI.Storable (upEmb : UEmb _ 𝕄) ((Rd A).payload g r d) :=
  payS_storable A g.1.1 g.2 d

theorem duties_eq (c : Dev nD) (s : SemLoc sig) (r : ℕ) : (Rd A).duties ((c : Thread nD τ), s) r = dutyS s r :=
  show (if (c : Thread nD τ).2 = .tc then dutyS s r else ∅) = _ from if_pos rfl
theorem duties_bar (c : Dev nD) : (Rd A).duties (bcell c) 0 = {1, 2, 3} := (duties_eq A c _ 0).trans rfl
theorem duties_dma (c : Dev nD) (i : Fin 20) (r : ℕ) (hr : r < rnds i.val) : (Rd A).duties (dcell c i) r = {0} :=
  (duties_eq A c _ r).trans (if_pos hr)
theorem payload_bar (c : Dev nD) (d : Fin 4) (r : ℕ) : (Rd A).payload (bcell c) r d = barPay c d := rfl
theorem payload_dma (c : Dev nD) (i : Fin 20) (r : ℕ) (d : Fin 4) : (Rd A).payload (dcell c i) r d = dpay A c i :=
  show (if h : i.val < 20 then dpay A c ⟨i.val, h⟩ else iprop(emp)) = _ from dif_pos i.isLt
theorem amount_bar (c : Dev nD) (d : Fin 4) (r : ℕ) : (Rd A).amount (bcell c) r d = 1 := rfl
theorem amount_dma (c : Dev nD) (i : Fin 20) (d : Fin 4) (r : ℕ) : (Rd A).amount (dcell c i) r d = N := rfl
theorem expect_bar (c : Dev nD) : (Rd A).expect (bcell c) 0 = 3 := by
  unfold Schedule.expect Schedule.amountOf; rw [duties_bar, Finset.sum_congr rfl fun d _ => amount_bar A c d 0, Finset.sum_const]; rfl
theorem expect_dma (c : Dev nD) (i : Fin 20) (r : ℕ) (hr : r < rnds i.val) : (Rd A).expect (dcell c i) r = N := by
  unfold Schedule.expect Schedule.amountOf; rw [duties_dma A c i r hr, Finset.sum_singleton, amount_dma]

theorem rest_bar (c : Dev nD) : bigSep ((Rd A).duties (bcell c) 0 \ ∅) (fun d => (Rd A).payload (bcell c) 0 d) = iprop(slots c 2 ∗ slots c 1 ∗ slots c 0) := by
  rw [Finset.sdiff_empty, duties_bar, bigSep_eq_bigSepL_of_eq [1, 2, 3] (by decide) (by decide), bigSepL_cons_cons, bigSepL_cons_cons, bigSepL_singleton]
  rfl
theorem rest_dma (c : Dev nD) (i : Fin 20) (r : ℕ) (hr : r < rnds i.val) :
    bigSep ((Rd A).duties (dcell c i) r \ ∅) (fun d => (Rd A).payload (dcell c i) r d) = dpay A c i := by
  rw [Finset.sdiff_empty, duties_dma A c i r hr, bigSep_singleton, payload_dma]

theorem later_bar (c : Dev nD) : ∀ r, 1 ≤ r → (Rd A).duties (bcell c) r = ∅ := fun r hr =>
  (duties_eq A c _ r).trans (if_neg (by omega))
theorem later_dma (c : Dev nD) (i : Fin 20) : ∀ r, rnds i.val ≤ r → (Rd A).duties (dcell c i) r = ∅ := fun r hr =>
  (duties_eq A c _ r).trans (if_neg (Nat.not_lt.mpr hr))

/-! ## What a device owes; the levels -/

/-- Debts: `(d, sm, n)` is `n` units of cell `sm` of the device `d` places on; the head is paid first. -/
abbrev Debts := List (ℕ × SemLoc sig × ℕ)
def owe (c : Dev nD) : Debts → CellTallies nD τ sig Unit
  | [] => 0
  | (d, sm, n) :: l => owe c l + tallyAt ((peer c d : Thread nD τ), sm) () n

/-- All a device owes, in the order it pays. -/
def pays : Debts :=
  [(1, .reg barS, 1), (2, .reg barS, 1), (3, .reg barS, 1),
   (1, .dma (dS (agRi 0 0)), N), (1, .dma (dS (agRi 0 1)), N), (2, .dma (dS (agRi 1 0)), N), (2, .dma (dS (agRi 1 1)), N),
   (3, .dma (dS (agRi 2 0)), N), (3, .dma (dS (agRi 2 1)), N),
   (1, .dma (dS (rsRi 0 0)), N), (1, .dma (dS (rsRi 0 1)), N), (2, .dma (dS (rsRi 1 0)), N), (2, .dma (dS (rsRi 1 1)), N),
   (3, .dma (dS (rsRi 2 0)), N), (3, .dma (dS (rsRi 2 1)), N)]

def Ow (c : Dev nD) (l : Debts) : sProp 𝕄 := iprop(∃ W, owes (c : Thread nD τ) (owe c l) W)

def lvl : SemLoc sig → ℕ
  | .reg _ => 1
  | .dma i => if i.val < 6 then 0 else if i.val < 12 then 2 else if i.val < 14 then 0 else if i.val < 20 then 3 else 0

def L (g : GSem nD τ sig) : Finset Unit := if g.1.2 = .tc then {()} else ∅
def lv (g : GSem nD τ sig) (_ : Unit) : ℕ := lvl g.2
theorem L_of_ne (g : GSem nD τ sig) (h : g.1.2 ≠ .tc) : L g = ∅ := if_neg h
theorem L_tc (c : Dev nD) (sm : SemLoc sig) : L ((c : Thread nD τ), sm) = {()} := if_pos rfl

theorem owe_pos (c : Dev nD) (l : Debts) (g : GSem nD τ sig) (u : Unit) (h : 0 < owe c l g u) :
    ∃ x ∈ l, g = ((peer c x.1 : Thread nD τ), x.2.1) := by
  induction l with
  | nil => exact absurd h (Nat.lt_irrefl 0)
  | cons x l ih =>
    obtain ⟨d, sm, n⟩ := x
    unfold owe at h
    rw [Pi.add_apply, Finsupp.add_apply, tallyAt_apply] at h
    by_cases h1 : g = ((peer c d : Thread nD τ), sm) ∧ u = ()
    · exact ⟨(d, sm, n), List.mem_cons_self, h1.1⟩
    · rw [if_neg h1, Nat.add_zero] at h
      obtain ⟨x, hx, hg⟩ := ih h
      exact ⟨x, List.mem_cons_of_mem _ hx, hg⟩

theorem mayWait (c : Dev nD) (sm : SemLoc sig) (l : Debts) (h : ∀ x ∈ l, lvl sm < lvl x.2.1) :
    (levAts L lv : sProp 𝕄) ⊢ MayWait (c : Thread nD τ) sm () (owe c l) :=
  MayOwe.of_cut (L := L) (lev := lv) (lvl sm) (fun p hp => by rw [Finset.mem_singleton.mp hp, L_tc]; exact Finset.mem_singleton_self _)
    (fun g u hg => by obtain ⟨x, -, rfl⟩ := owe_pos c l g u hg; rw [L_tc]; exact Finset.mem_singleton_self _)
    (fun p hp => by rw [Finset.mem_singleton.mp hp]; exact Nat.le_refl _)
    (fun g u hg => by obtain ⟨x, hx, rfl⟩ := owe_pos c l g u hg; exact h x hx)

/-! ## The persistent records -/

variable (K : Dev nD × Option (Fin 20) → ℕ)

def recs : sProp 𝕄 :=
  iprop((BI.bigSep Finset.univ fun ck => cellInv ER (Rd A) (K ck) (kcell ck)) ∗ (BI.bigSep Finset.univ fun ck => reached ER (kcell ck) 0))
instance recs_persistent : BI.Persistent (recs A K) := by unfold recs; infer_instance

theorem inv_at (ck : Dev nD × Option (Fin 20)) : recs A K ⊢ cellInv ER (Rd A) (K ck) (kcell ck) := by
  unfold recs; exact sep_elim_left.trans (bigSep_elim (Φ := fun ck => (cellInv ER (Rd A) (K ck) (kcell ck) : sProp 𝕄)) (Finset.mem_univ ck))
theorem reached_at (ck : Dev nD × Option (Fin 20)) : recs A K ⊢ reached ER (kcell ck) 0 := by
  unfold recs; exact sep_elim_right.trans (bigSep_elim (Φ := fun ck => (reached ER (kcell ck) 0 : sProp 𝕄)) (Finset.mem_univ ck))

/-- What every part of the body may use freely. -/
def Ctx : sProp 𝕄 := iprop(recs A K ∗ levAts L lv)
instance Ctx_persistent : BI.Persistent (Ctx A K) := by unfold Ctx; infer_instance
theorem Ctx_inv (ck : Dev nD × Option (Fin 20)) : Ctx A K ⊢ cellInv ER (Rd A) (K ck) (kcell ck) := by
  unfold Ctx; iintro ⟨H, -⟩; iapply (inv_at A K ck); iexact H
theorem Ctx_reached (ck : Dev nD × Option (Fin 20)) : Ctx A K ⊢ reached ER (kcell ck) 0 := by
  unfold Ctx; iintro ⟨H, -⟩; iapply (reached_at A K ck); iexact H
theorem Ctx_lev : Ctx A K ⊢ levAts L lv := by
  unfold Ctx; iintro ⟨-, H⟩; iexact H

/-! ## Rules -/

/-- Wait for a local transfer. -/
theorem wp_wt (c : Dev nD) {sp sp' : Space} {s s' : Shape} {e e' : EltTy} {sm sm' : DmaSem sig} (hm : sm' = sm)
    {srcw : Memref sig .tc sp' s' e'} {dstw : Memref sig .tc sp s e} {hsrc : srcw.view.WordExact} {hdst : dstw.view.WordExact}
    {α : Type} {Q : α → sProp 𝕄} {k : PUnit → Prog (TpuEff nD τ sig (Elt F) Λ₀ .tc) α} {n : ℕ} (hn : dstw.view.dmaCredit = n) {D : sProp 𝕄}
    (l : Debts) (hl : ∀ x ∈ l, lvl (.dma sm) < lvl x.2.1) :
    iprop(Ctx A K ∗ Flight EC (c : Thread nD τ) (.dma sm) () n D ∗ Ow c l)
      ⊢ iprop(((D ∗ semVal ((c : Thread nD τ), .dma sm) 0 ∗ Ow c l) -∗ wpc c (k ⟨⟩) Q)
          -∗ wpc c (.op (.waitDma2 sm' srcw dstw hsrc hdst) k) Q) := by
  subst hm
  unfold Ow
  iintro ⟨#HC, Hf, ⟨%W, HO⟩⟩ Hk
  iapply (Transfers.wp_waitLocalO EC 𝒱₀ (c : Thread nD τ) none () hn) $$ [Hf HO]
  · isplitl [Hf]; · iexact Hf
    isplitl [HO]; · iexact HO
    iapply (mayWait c (.dma sm') l hl); iapply (Ctx_lev A K); iexact HC
  iintro ⟨HD, Hv, HO⟩
  iapply Hk
  isplitl [HD]; · iexact HD
  isplitl [Hv]; · iexact Hv
  iexists _; iexact HO

/-- Signal the barrier of the device `d` places on. -/
theorem wp_sig (c : Dev nD) (d : Fin 4) (n : Dev nD) (hn : n = peer c d.val) (hd : d ≠ 0)
    {α : Type} {Q : α → sProp 𝕄} {k : PUnit → Prog (TpuEff nD τ sig (Elt F) Λ₀ .tc) α} (l : Debts) :
    iprop(Ctx A K ∗ Ow c ((d.val, .reg barS, 1) :: l) ∗ dutyTok ER (bcell (peer c d.val)) 0 d ∗ barPay (F := F) (peer c d.val) d)
      ⊢ iprop((Ow c l -∗ wpc c (k ⟨⟩) Q) -∗ wpc c (.op (.semSignal (n : Thread nD τ) barS 1) k) Q) := by
  subst hn
  unfold Ow
  iintro ⟨#HC, ⟨%W, HO⟩, Ht, Hp⟩ Hk
  iapply (Rounds.wp_signal 𝒱₀ ER (Rd A) (c : Thread nD τ) none (dst := (peer c d.val : Thread nD τ)) (κ := K (peer c d.val, none))
      (d := d) (by rw [duties_bar]; revert d; decide) (amount_bar A _ d 0) () (owe c l) rfl) $$ [HO Ht Hp]
  · isplitr; · iapply (Ctx_inv A K (peer c d.val, none)); iexact HC
    isplitl [HO]; · iexact HO
    isplitl [Ht]; · iexact Ht
    isplitl [Hp]; · rw [payload_bar]; iexact Hp
    iapply (Ctx_reached A K (peer c d.val, none)); iexact HC
  iintro HO
  iapply Hk
  iexists W; iexact HO

/-- Send to the device `d` places on. -/
theorem wp_snd (c : Dev nD) (d : ℕ) (n : Dev nD) (hn : n = peer c d) {sp sp' : Space} {s : Shape} {e : EltTy}
    {src src' : Memref sig .tc sp s e} {dst dst' : Memref sig .tc sp' s e} (hs : src' = src) (hd : dst' = dst)
    {i j : Fin 20} {smS smR : DmaSem sig} (hi : smS = dS i) (hj : smR = dS j)
    {hsc : (dst' : Memref sig (Dev.tc n : Thread nD τ).2.kind sp' s e).view.ref.isScScratch = false}
    {hsrc : src'.view.WordExact} {hdst : dst'.view.WordExact}
    {hsem : DmaTarget.Typed (nD := nD) (τ := τ) sp (.dma smR) (.remote (Dev.tc n : Thread nD τ) dst' (.dma smS) hsc)}
    {α : Type} {Q : α → sProp 𝕄} {k : PUnit → Prog (TpuEff nD τ sig (Elt F) Λ₀ .tc) α} (l : Debts) {q : PosShare TreeShare}
    (X : s.Idx → Elt F e) (r : ℕ) (hN : dst.view.dmaCredit = N) (hr : r < rnds i.val) (hr' : 0 < rnds j.val)
    (hp1 : Own c src q X ⊢ dpay A c i) (hp2 : Own (peer c d) dst fullShare X ⊢ dpay A (peer c d) j) :
    iprop(Ctx A K ∗ Own c src q X ∗ (∃ Y, Own (peer c d) dst fullShare Y) ∗ Ow c ((d, .dma (dS j), N) :: l)
        ∗ dutyTok ER (dcell c i) r 0 ∗ reached ER (dcell c i) r ∗ dutyTok ER (dcell (peer c d) j) 0 0)
      ⊢ iprop(((cred (tallyAt (dcell c i) () N) ∗ Ow c l) -∗ wpc c (k ⟨⟩) Q)
          -∗ wpc c (.op (.enqueueDma src' (.remote (Dev.tc n : Thread nD τ) dst' (.dma smS) hsc) (.dma smR) hsrc hdst hsem) k) Q) := by
  subst hn hs hd hi hj
  unfold Ow Own owns
  iintro ⟨#HC, ⟨%fs, %hfs, Hs⟩, ⟨%Y, %fd, %hfd, Hd⟩, ⟨%W, HO⟩, Ht1, Hr1, Ht2⟩ Hk
  iapply (Rounds.wp_send_pointsTo 𝒱₀ ER (Rd A) (c : Thread nD τ) none (c' := (peer c d : Thread nD τ)) (κ₁ := K (c, some i)) (κ₂ := K (peer c d, some j))
    (sS := .dma (dS i)) (sem := .dma (dS j)) (q := q) (r₁ := r) (r₂ := 0) (d₁ := 0) (d₂ := 0) (fs := fs) (fd := fd)
    (by rw [duties_dma A c i r hr]; exact Finset.mem_singleton_self _) (by rw [duties_dma A _ j 0 hr']; exact Finset.mem_singleton_self _)
    () () N (show dst'.view.dmaCredit = N from hN) (amount_dma A c i 0 r) (amount_dma A _ j 0 0) (owe c l) rfl (W := W)
    (by
      rw [payload_dma]; refine (show _ ⊢ (Own c src' q X : sProp 𝕄) from ?_).trans hp1; unfold Own owns
      iintro H; iexists fs; isplitr; · ipureintro; exact hfs
      iexact H)
    (by
      rw [payload_dma]; refine (show _ ⊢ (Own (peer c d) dst' fullShare X : sProp 𝕄) from ?_).trans hp2; unfold Own owns
      iintro H; iexists (dst'.view.write (Elt F) fd (src'.view.read (Elt F) fs) Finset.univ); isplitr
      · ipureintro; rw [View.read_write_univ]; exact hfs
      iexact H)) $$ [Hs Hd HO Ht1 Hr1 Ht2]
  · isplitr; · iapply (Ctx_inv A K (c, some i)); iexact HC
    isplitr; · iapply (Ctx_inv A K (peer c d, some j)); iexact HC
    isplitl [Hs]; · iexact Hs
    isplitl [Hd]; · iexact Hd
    isplitl [HO]; · iexact HO
    isplitl [Ht1]; · iexact Ht1
    isplitl [Hr1]; · iexact Hr1
    isplitl [Ht2]; · iexact Ht2
    iapply (Ctx_reached A K (peer c d, some j)); iexact HC
  iintro ⟨Hc, HO⟩
  iapply Hk
  isplitl [Hc]; · iexact Hc
  iexists W; iexact HO

/-- Wait for a transfer of the protocol. -/
theorem wp_rcv (c : Dev nD) {sp sp' : Space} {s s' : Shape} {e e' : EltTy} {i : Fin 20} {sm' : DmaSem sig} (hm : sm' = dS i)
    {srcw : Memref sig .tc sp' s' e'} {dstw : Memref sig .tc sp s e} {hsrc : srcw.view.WordExact} {hdst : dstw.view.WordExact}
    {α : Type} {Q : α → sProp 𝕄} {k : PUnit → Prog (TpuEff nD τ sig (Elt F) Λ₀ .tc) α} (hN : dstw.view.dmaCredit = N)
    (l : Debts) (hl : ∀ x ∈ l, lvl (.dma (dS i)) < lvl x.2.1) (r : ℕ) (hr : r < rnds i.val) :
    iprop(Ctx A K ∗ cred (tallyAt (dcell c i) () N) ∗ Ow c l ∗ atPos ER (dcell c i) r ∅ 0)
      ⊢ iprop(((Ow c l ∗ atPos ER (dcell c i) (r + 1) ∅ 0 ∗ reached ER (dcell c i) (r + 1) ∗ dpay A c i) -∗ wpc c (k ⟨⟩) Q)
          -∗ wpc c (.op (.waitDma2 sm' srcw dstw hsrc hdst) k) Q) := by
  subst hm
  unfold Ow
  iintro ⟨#HC, Hc, ⟨%W, HO⟩, Hat⟩ Hk
  iapply (Rounds.wp_wait_rest_token 𝒱₀ ER (Rd A) (c : Thread nD τ) none (κ := K (c, some i))
      (wpE_waitDma2_eq 𝒱₀ (c : Thread nD τ) none Set.univ) (Set.mem_univ _) () (O := owe c l) (W := W) (R := r) (m := 0) (T := ∅)
      (by rw [Nat.zero_add, expect_dma A c i r hr]; exact hN)) $$ [Hc HO Hat]
  · isplitr; · iapply (Ctx_inv A K (c, some i)); iexact HC
    isplitl [Hc]; · rw [hN]; iexact Hc
    isplitl [HO]; · iexact HO
    isplitr; · iapply (mayWait c _ l hl); iapply (Ctx_lev A K); iexact HC
    iexact Hat
  iintro ⟨HO, Hat, Hre, Hpay⟩
  ihave Hp := (Entails.of_eq (rest_dma A c i r hr)) $$ Hpay
  iapply Hk
  isplitl [HO]; · iexists _; iexact HO
  isplitl [Hat]; · iexact Hat
  isplitl [Hre]; · iexact Hre
  iexact Hp

/-- Wait for the three signals of the own barrier. -/
theorem wp_bar (c : Dev nD) {α : Type} {Q : α → sProp 𝕄} {k : PUnit → Prog (TpuEff nD τ sig (Elt F) Λ₀ .tc) α}
    (l : Debts) (hl : ∀ x ∈ l, 1 < lvl x.2.1) :
    iprop(Ctx A K ∗ cred (tallyAt (bcell c) () 3) ∗ Ow c l ∗ atPos ER (bcell c) 0 ∅ 0)
      ⊢ iprop(((Ow c l ∗ atPos ER (bcell c) 1 ∅ 0 ∗ slots (F := F) c 0 ∗ slots c 1 ∗ slots c 2) -∗ wpc c (k ⟨⟩) Q)
          -∗ wpc c (.op (.semWait barS 3) k) Q) := by
  unfold Ow
  iintro ⟨#HC, Hc, ⟨%W, HO⟩, Hat⟩ Hk
  iapply (Rounds.wp_wait_rest_token 𝒱₀ ER (Rd A) (c : Thread nD τ) none (κ := K (c, none))
      (wpE_semWait_eq 𝒱₀ (c : Thread nD τ) none Set.univ) (Set.mem_univ _) () (O := owe c l) (W := W) (R := 0) (m := 0) (T := ∅)
      (by rw [Nat.zero_add, expect_bar A c])) $$ [Hc HO Hat]
  · isplitr; · iapply (Ctx_inv A K (c, none)); iexact HC
    isplitl [Hc]; · iexact Hc
    isplitl [HO]; · iexact HO
    isplitr; · iapply (mayWait c (.reg barS) l hl); iapply (Ctx_lev A K); iexact HC
    iexact Hat
  iintro ⟨HO, Hat, -, Hpay⟩
  ihave Hp := (Entails.of_eq (rest_bar A c)) $$ Hpay
  icases Hp with ⟨H1, H2, H3⟩
  iapply Hk
  isplitl [HO]; · iexists _; iexact HO
  isplitl [Hat]; · iexact Hat
  isplitl [H3]; · iexact H3
  isplitl [H2]; · iexact H2
  iexact H1

/-- A finished cell's counter is the owner's again, at zero. -/
theorem close_dma (c : Dev nD) (i : Fin 20) : iprop(Ctx A K ∗ atPos ER (dcell c i) (rnds i.val) ∅ 0) ⊢ iprop(|={Set.univ}=> semVal (dcell c i) 0) := by
  iintro ⟨#HC, Hat⟩
  iapply (Rounds.cell_close ER (Rd A) (Set.mem_univ (K (c, some i))) (fun h => h) (R := rnds i.val) (later_dma A c i))
  isplitr; · iapply (Ctx_inv A K (c, some i)); iexact HC
  iexact Hat
theorem close_bar (c : Dev nD) : iprop(Ctx A K ∗ atPos ER (bcell c) 1 ∅ 0) ⊢ iprop(|={Set.univ}=> semVal (bcell c) 0) := by
  iintro ⟨#HC, Hat⟩
  iapply (Rounds.cell_close ER (Rd A) (Set.mem_univ (K (c, none))) (fun h => h) (R := 1) (later_bar A c))
  isplitr; · iapply (Ctx_inv A K (c, none)); iexact HC
  iexact Hat

end Cert.KProof

end
-- ==== Proof.Trip.lean ====
/-
One trip of the compute loop, and the loop: the weights' chunks come in through two slots, four chunks make a group's
hidden columns, and the group's second weights add its share to the accumulator.
-/
module

public import proofs.«01_k».proof.Proof.Protocol

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.ValueIdx (ix2)

variable {F : FTy → Type} [FloatOps F]

local notation "𝕄" => MT nD τ sig Unit (Elt F) ℕ UU ℕ

/-! ## Borrowing a window -/

/-- A window's slice may be taken out and put back unchanged. -/
theorem own_borrow (c : Dev nD) {sp : Space} {s : Shape} {e : EltTy} (m : Memref sig .tc sp s e) (q : PosShare TreeShare) (r : Rect s)
    (hr : ∀ a, r.stride a = 1) (X : s.Idx → Elt F e) :
    Own c m q X ⊢ iprop(Own c (m.slice r hr) q (fun i => X (r.emb i)) ∗ (Own c (m.slice r hr) q (fun i => X (r.emb i)) -∗ Own c m q X)) := by
  iintro H
  ihave H2 := (owns_slice_split (c : Thread nD τ) m q r hr X) $$ H
  icases H2 with ⟨Hs, ⟨%f, %hf, Hr⟩⟩
  isplitl [Hs]; · iexact Hs
  iintro Hs
  ihave H := (owns_slice_join (c : Thread nD τ) m q r hr (fun i => X (r.emb i)) f) $$ [Hs Hr]
  · isplitl [Hs] <;> iassumption
  have he : r.overlay (m.view.read (Elt F) f) (fun i => X (r.emb i)) = X := by
    rw [hf]; funext j
    by_cases hj : j ∈ r.set
    · rw [← Rect.map_emb_univ, Finset.mem_map] at hj
      obtain ⟨i, -, rfl⟩ := hj
      rw [Rect.overlay_emb]
    · rw [Rect.overlay_of_not_mem _ _ _ hj]
  rw [he]
  iexact H

/-! ## Slots -/

def sl (n : ℕ) : Fin 2 := ⟨n % 2, Nat.mod_lt _ (by decide)⟩
theorem sl_add2 (n : ℕ) : sl (n + 2) = sl n := by unfold sl; congr 1; omega
def ck (n : ℕ) : Fin 16 := ⟨n % 16, Nat.mod_lt _ (by decide)⟩

def N1 : ℕ := (w1b 0).view.dmaCredit
def N2 : ℕ := (w2b 0).view.dmaCredit
/-- The share of a weights' array that slot `s`'s transfers read with. -/
def qw (s : Fin 2) : PosShare TreeShare := if s = 0 then fullShare.right.left else fullShare.right.right

variable (c : Dev nD) (W1 : W1A F) (W2 : W2A F)

/-- Slot `s` of the first weights' buffer with chunk `k` on its way, and free. -/
def fly1 (s : Fin 2) (k : Fin 16) : sProp 𝕄 :=
  iprop(Flight EC (c : Thread nD τ) (.dma (wS1 s)) () N1 iprop(Own c (w1b s) fullShare (chunk W1 k) ∗ Own c (w1M k) (qw s) (chunk W1 k))
    ∗ (Own c (w1M k) (qw s) (chunk W1 k) -∗ Own c (Memref.whole main_arg1) (qw s) W1))
def free1 (s : Fin 2) : sProp 𝕄 :=
  iprop((∃ Y, Own c (w1b s) fullShare Y) ∗ semVal ((c : Thread nD τ), .dma (wS1 s)) 0 ∗ Own c (Memref.whole main_arg1) (qw s) W1)
def fly2 (s : Fin 2) (k : Fin 4) : sProp 𝕄 :=
  iprop(Flight EC (c : Thread nD τ) (.dma (wS2 s)) () N2 iprop(Own c (w2b s) fullShare (grp W2 k) ∗ Own c (w2M k) (qw s) (grp W2 k))
    ∗ (Own c (w2M k) (qw s) (grp W2 k) -∗ Own c (Memref.whole main_arg2) (qw s) W2))
def free2 (s : Fin 2) : sProp 𝕄 :=
  iprop((∃ Y, Own c (w2b s) fullShare Y) ∗ semVal ((c : Thread nD τ), .dma (wS2 s)) 0 ∗ Own c (Memref.whole main_arg2) (qw s) W2)

theorem h1pos : 0 < S2048x512.numel := Nat.lt_of_lt_of_eq h_S1x2048x512 sc_w1.symm
theorem h2pos : 0 < S2048x2048.numel := Nat.lt_of_lt_of_eq h_S1x2048x2048 sc_w2.symm

theorem inb1 (k : Fin 16) : ∀ a, (![0, k.val * 512] : Fin 2 → ℕ) a + S2048x512.size a ≤ S2048x8192.size a := by revert k; decide
theorem inb2 (k : Fin 4) : ∀ a, (![k.val * 2048, 0] : Fin 2 → ℕ) a + S2048x2048.size a ≤ S8192x2048.size a := by revert k; decide
theorem lvl1 (s : Fin 2) : lvl (.dma (wS1 s)) ≤ 0 := by revert s; decide
theorem lvl2 (s : Fin 2) : lvl (.dma (wS2 s)) ≤ 0 := by revert s; decide

/-- Start a chunk's transfer into a free slot. -/
theorem wp_i1 {src' : Memref sig .tc .hbm S2048x512 .bf16} {dst' : Memref sig .tc .vmem S2048x512 .bf16} {sm' : DmaSem sig} (s : Fin 2) (k : Fin 16)
    (hs : src' = w1M k) (hd : dst' = w1b s) (hm : sm' = wS1 s)
    {hsrc : src'.view.WordExact} {hdst : dst'.view.WordExact} {hsem : DmaTarget.Typed (nD := nD) (τ := τ) .hbm (.dma sm') (.here dst' : DmaTarget nD τ sig .tc .vmem S2048x512 .bf16)}
    {α : Type} {Q : α → sProp 𝕄} {kk : PUnit → Prog (TpuEff nD τ sig (Elt F) Λ₀ .tc) α} :
    free1 c W1 s ⊢ iprop((fly1 c W1 s k -∗ wpc c (kk ⟨⟩) Q) -∗ wpc c (.op (.enqueueDma src' (.here dst') (.dma sm') hsrc hdst hsem) kk) Q) := by
  unfold free1 fly1
  iintro ⟨⟨%Y, HY⟩, Hv, HW⟩ Hk
  ihave HB := (own_borrow c (Memref.whole main_arg1) (qw s) (Rect.unit (s := S2048x8192) ![0, k.val * 512] S2048x512.size (inb1 k)) (fun _ => rfl) W1) $$ HW
  icases HB with ⟨Hs, Hb⟩
  iapply (wp_dma c hs hd hm (chunk W1 k) Y h1pos (q := qw s)) $$ [Hs HY Hv]
  · isplitl [Hs]; · iexact Hs
    isplitl [HY]; · iexact HY
    iexact Hv
  iintro Hf
  iapply Hk
  isplitl [Hf]; · iexact Hf
  iexact Hb

/-- A chunk has arrived. -/
theorem wp_w1 (A : Args F) (K : Dev nD × Option (Fin 20) → ℕ) {sp sp' : Space} {s0 s' : Shape} {e e' : EltTy} {sm' : DmaSem sig} (s : Fin 2) (k : Fin 16) (hm : sm' = wS1 s)
    {srcw : Memref sig .tc sp' s' e'} {dstw : Memref sig .tc sp s0 e} {hsrc : srcw.view.WordExact} {hdst : dstw.view.WordExact}
    {α : Type} {Q : α → sProp 𝕄} {kk : PUnit → Prog (TpuEff nD τ sig (Elt F) Λ₀ .tc) α} (hn : dstw.view.dmaCredit = N1)
    (l : Debts) (hl : ∀ x ∈ l, 0 < lvl x.2.1) :
    iprop(Ctx A K ∗ fly1 c W1 s k ∗ Ow c l)
      ⊢ iprop(((Own c (w1b s) fullShare (chunk W1 k) ∗ semVal ((c : Thread nD τ), .dma (wS1 s)) 0 ∗ Own c (Memref.whole main_arg1) (qw s) W1 ∗ Ow c l) -∗ wpc c (kk ⟨⟩) Q)
          -∗ wpc c (.op (.waitDma2 sm' srcw dstw hsrc hdst) kk) Q) := by
  unfold fly1
  iintro ⟨#HC, ⟨Hf, Hb⟩, HO⟩ Hk
  iapply (wp_wt A K c hm hn l (fun x hx => Nat.lt_of_le_of_lt (lvl1 s) (hl x hx))) $$ [Hf HO]
  · isplitr; · iexact HC
    isplitl [Hf] <;> iassumption
  iintro ⟨⟨HY, Hs⟩, Hv, HO⟩
  iapply Hk
  isplitl [HY]; · iexact HY
  isplitl [Hv]; · iexact Hv
  isplitl [Hs Hb]; · iapply Hb $$ Hs
  iexact HO

theorem wp_i2 {src' : Memref sig .tc .hbm S2048x2048 .bf16} {dst' : Memref sig .tc .vmem S2048x2048 .bf16} {sm' : DmaSem sig} (s : Fin 2) (k : Fin 4)
    (hs : src' = w2M k) (hd : dst' = w2b s) (hm : sm' = wS2 s)
    {hsrc : src'.view.WordExact} {hdst : dst'.view.WordExact} {hsem : DmaTarget.Typed (nD := nD) (τ := τ) .hbm (.dma sm') (.here dst' : DmaTarget nD τ sig .tc .vmem S2048x2048 .bf16)}
    {α : Type} {Q : α → sProp 𝕄} {kk : PUnit → Prog (TpuEff nD τ sig (Elt F) Λ₀ .tc) α} :
    free2 c W2 s ⊢ iprop((fly2 c W2 s k -∗ wpc c (kk ⟨⟩) Q) -∗ wpc c (.op (.enqueueDma src' (.here dst') (.dma sm') hsrc hdst hsem) kk) Q) := by
  unfold free2 fly2
  iintro ⟨⟨%Y, HY⟩, Hv, HW⟩ Hk
  ihave HB := (own_borrow c (Memref.whole main_arg2) (qw s) (Rect.unit (s := S8192x2048) ![k.val * 2048, 0] S2048x2048.size (inb2 k)) (fun _ => rfl) W2) $$ HW
  icases HB with ⟨Hs, Hb⟩
  iapply (wp_dma c hs hd hm (grp W2 k) Y h2pos (q := qw s)) $$ [Hs HY Hv]
  · isplitl [Hs]; · iexact Hs
    isplitl [HY]; · iexact HY
    iexact Hv
  iintro Hf
  iapply Hk
  isplitl [Hf]; · iexact Hf
  iexact Hb

theorem wp_w2 (A : Args F) (K : Dev nD × Option (Fin 20) → ℕ) {sp sp' : Space} {s0 s' : Shape} {e e' : EltTy} {sm' : DmaSem sig} (s : Fin 2) (k : Fin 4) (hm : sm' = wS2 s)
    {srcw : Memref sig .tc sp' s' e'} {dstw : Memref sig .tc sp s0 e} {hsrc : srcw.view.WordExact} {hdst : dstw.view.WordExact}
    {α : Type} {Q : α → sProp 𝕄} {kk : PUnit → Prog (TpuEff nD τ sig (Elt F) Λ₀ .tc) α} (hn : dstw.view.dmaCredit = N2)
    (l : Debts) (hl : ∀ x ∈ l, 0 < lvl x.2.1) :
    iprop(Ctx A K ∗ fly2 c W2 s k ∗ Ow c l)
      ⊢ iprop(((Own c (w2b s) fullShare (grp W2 k) ∗ semVal ((c : Thread nD τ), .dma (wS2 s)) 0 ∗ Own c (Memref.whole main_arg2) (qw s) W2 ∗ Ow c l) -∗ wpc c (kk ⟨⟩) Q)
          -∗ wpc c (.op (.waitDma2 sm' srcw dstw hsrc hdst) kk) Q) := by
  unfold fly2
  iintro ⟨#HC, ⟨Hf, Hb⟩, HO⟩ Hk
  iapply (wp_wt A K c hm hn l (fun x hx => Nat.lt_of_le_of_lt (lvl2 s) (hl x hx))) $$ [Hf HO]
  · isplitr; · iexact HC
    isplitl [Hf] <;> iassumption
  iintro ⟨⟨HY, Hs⟩, Hv, HO⟩
  iapply Hk
  isplitl [HY]; · iexact HY
  isplitl [Hv]; · iexact Hv
  isplitl [Hs Hb]; · iapply Hb $$ Hs
  iexact HO

/-! ## The printed offsets -/

section Offs
variable (t : Fin k0_t1_loop.trips) (j : Fin 4)
theorem o1 : k0_off1 t (BitVec.ofNat 32 j.val) = ![(sl (4 * t.val + j.val + 1)).val] := by revert t j; decide
theorem o2 : k0_off2 t (BitVec.ofNat 32 j.val) = ![(sl (4 * t.val + j.val + 1)).val, 0, 0] := by revert t j; decide
theorem o3 : k0_off3 t (BitVec.ofNat 32 j.val) = ![0, (ck (4 * t.val + j.val + 1)).val * 512] := by revert t j; decide
theorem o4 : k0_off4 t (BitVec.ofNat 32 j.val) = ![(sl (4 * t.val + j.val)).val] := by revert t j; decide
theorem o6 : k0_off6 t (BitVec.ofNat 32 j.val) = ![(sl (4 * t.val + j.val)).val, 0, 0] := by revert t j; decide
theorem o7 : k0_off7 t = ![(sl (t.val + 1)).val] := by revert t; decide
theorem o8 : k0_off8 t = ![(sl (t.val + 1)).val, 0, 0] := by revert t; decide
theorem o9 : k0_off9 t = ![(gix (t.val + 1)).val * 2048, 0] := by revert t; decide
theorem o10 : k0_off10 t = ![(sl t.val).val] := by revert t; decide
theorem o12 : k0_off12 t = ![(sl t.val).val, 0, 0] := by revert t; decide
end Offs

theorem w1M_of {off : Fin 2 → ℕ} {h} {hr} (k : Fin 16) (ho : off = ![0, k.val * 512]) :
    (Memref.whole main_arg1 : Memref sig .tc .hbm S2048x8192 .bf16).slice (Rect.unit (s := S2048x8192) off S2048x512.size h) hr = w1M k := by
  subst ho; rfl
theorem w2M_of {off : Fin 2 → ℕ} {h} {hr} (k : Fin 4) (ho : off = ![k.val * 2048, 0]) :
    (Memref.whole main_arg2 : Memref sig .tc .hbm S8192x2048 .bf16).slice (Rect.unit (s := S8192x2048) off S2048x2048.size h) hr = w2M k := by
  subst ho; rfl
theorem w1b_of {off : Fin 3 → ℕ} {h} {hr} {hq} (s : Fin 2) (ho : off = ![s.val, 0, 0]) :
    ((Memref.whole cc0_scratch1 : Memref sig .tc .vmem S2x2048x512 .bf16).slice (Rect.unit (s := S2x2048x512) off S1x2048x512.size h) hr).squeeze S2048x512 hq = w1b s := by
  subst ho; rfl
theorem w2b_of {off : Fin 3 → ℕ} {h} {hr} {hq} (s : Fin 2) (ho : off = ![s.val, 0, 0]) :
    ((Memref.whole cc0_scratch2 : Memref sig .tc .vmem S2x2048x2048 .bf16).slice (Rect.unit (s := S2x2048x2048) off S1x2048x2048.size h) hr).squeeze S2048x2048 hq = w2b s := by
  subst ho; rfl
theorem wS1_0 : ((cc0_scratch10.slice (Rect.unit (s := S2) ![0] S1.size inb_S2_S1_0)).squeeze S_ squeezes_S1_S_).sem = wS1 0 := rfl
theorem wS1_1 : ((cc0_scratch10.slice (Rect.unit (s := S2) ![1] S1.size inb_S2_S1_1)).squeeze S_ squeezes_S1_S_).sem = wS1 1 := rfl
theorem wS1_of {off : Fin 1 → ℕ} {h} {hq} (s : Fin 2) (ho : off = ![s.val]) :
    ((cc0_scratch10.slice (Rect.unit (s := S2) off S1.size h)).squeeze S_ hq).sem = wS1 s := by
  subst ho
  match s with
  | 0 => exact wS1_0
  | 1 => exact wS1_1
theorem wS2_0 : ((cc0_scratch11.slice (Rect.unit (s := S2) ![0] S1.size inb_S2_S1_0)).squeeze S_ squeezes_S1_S_).sem = wS2 0 := rfl
theorem wS2_1 : ((cc0_scratch11.slice (Rect.unit (s := S2) ![1] S1.size inb_S2_S1_1)).squeeze S_ squeezes_S1_S_).sem = wS2 1 := rfl
theorem wS2_of {off : Fin 1 → ℕ} {h} {hq} (s : Fin 2) (ho : off = ![s.val]) :
    ((cc0_scratch11.slice (Rect.unit (s := S2) off S1.size h)).squeeze S_ hq).sem = wS2 s := by
  subst ho
  match s with
  | 0 => exact wS2_0
  | 1 => exact wS2_1

theorem cr1_of {off : Fin 3 → ℕ} {h} {hr} {hq} :
    (((Memref.whole cc0_scratch1 : Memref sig .tc .vmem S2x2048x512 .bf16).slice (Rect.unit (s := S2x2048x512) off S1x2048x512.size h) hr).squeeze S2048x512 hq).view.dmaCredit = N1 := rfl
theorem cr2_of {off : Fin 3 → ℕ} {h} {hr} {hq} :
    (((Memref.whole cc0_scratch2 : Memref sig .tc .vmem S2x2048x2048 .bf16).slice (Rect.unit (s := S2x2048x2048) off S1x2048x2048.size h) hr).squeeze S2048x2048 hq).view.dmaCredit = N2 := rfl

theorem emb_whole {α : Type} (h) (X : S1024x2048.Idx → α) :
    (fun j => X ((Rect.unit (s := S1024x2048) ![0, 0] S1024x2048.size h).emb j)) = X := by
  funext j; congr 1; funext a; apply Fin.ext; rw [unit_emb_val]
  fin_cases a <;> exact Nat.zero_add _
theorem ov_whole {α : Type} (h) (X v : S1024x2048.Idx → α) :
    (Rect.unit (s := S1024x2048) ![0, 0] S1024x2048.size h).overlay X v = v := by
  funext j
  have hj : (Rect.unit (s := S1024x2048) ![0, 0] S1024x2048.size h).emb j = j := by
    funext a; apply Fin.ext; rw [unit_emb_val]
    fin_cases a <;> exact Nat.zero_add _
  conv_lhs => rw [← hj]
  exact Rect.overlay_emb _ _ _ _

/-- Load a slot of a weights' buffer. -/
theorem wp_ld1 {off : Fin 3 → ℕ} {h} {hl} (s : Fin 2) (ho : off = ![s.val, 0, 0])
    {α : Type} {Q : α → sProp 𝕄} {k : (S1x2048x512.Idx → Elt F .bf16) → Prog (TpuEff nD τ sig (Elt F) Λ₀ .tc) α} (X : W1C F) :
    Own c (w1b s) fullShare X ⊢ iprop((Own c (w1b s) fullShare X -∗ wpc c (k (shapeCast S1x2048x512 X sc_w1)) Q)
      -∗ wpc c (.op (.load (Memref.whole cc0_scratch1 : Memref sig .tc .vmem S2x2048x512 .bf16) (Rect.unit (s := S2x2048x512) off S1x2048x512.size h).toLoadRect hl) k) Q) :=
  wp_ldS c (fun _ => rfl) squeezes_S1x2048x512_S2048x512 (w1b_of _ ho) sc_w1 X
theorem wp_ld2 {off : Fin 3 → ℕ} {h} {hl} (s : Fin 2) (ho : off = ![s.val, 0, 0])
    {α : Type} {Q : α → sProp 𝕄} {k : (S1x2048x2048.Idx → Elt F .bf16) → Prog (TpuEff nD τ sig (Elt F) Λ₀ .tc) α} (X : W2C F) :
    Own c (w2b s) fullShare X ⊢ iprop((Own c (w2b s) fullShare X -∗ wpc c (k (shapeCast S1x2048x2048 X sc_w2)) Q)
      -∗ wpc c (.op (.load (Memref.whole cc0_scratch2 : Memref sig .tc .vmem S2x2048x2048 .bf16) (Rect.unit (s := S2x2048x2048) off S1x2048x2048.size h).toLoadRect hl) k) Q) :=
  wp_ldS c (fun _ => rfl) squeezes_S1x2048x2048_S2048x2048 (w2b_of _ ho) sc_w2 X
/-- Store 512 columns of the hidden buffer. -/
theorem wp_sth {off : Fin 2 → ℕ} {h} {v v' : S1024x512.Idx → Elt F .bf16} (hv : v = v') {hx} {hm}
    {α : Type} {Q : α → sProp 𝕄} {k : PUnit → Prog (TpuEff nD τ sig (Elt F) Λ₀ .tc) α} (X : HB F) :
    Own c hbM fullShare X ⊢ iprop((Own c hbM fullShare ((Rect.unit (s := S1024x2048) off S1024x512.size h).overlay X v') -∗ wpc c (k ⟨⟩) Q)
      -∗ wpc c (.op (.store hbM (Rect.unit (s := S1024x2048) off S1024x512.size h) v Finset.univ hx hm) k) Q) :=
  wp_st c X _ (by rw [hv])
theorem pay_0 (X : HB F) (w : W1C F) : k0_pay2 (k0_pay1 X (shapeCast S1x2048x512 w sc_w1)) = hcol X w := rfl
theorem pay_1 (X : HB F) (w : W1C F) : k0_pay4 (k0_pay3 X (shapeCast S1x2048x512 w sc_w1)) = hcol X w := rfl
theorem pay_2 (X : HB F) (w : W1C F) : k0_pay5 X (shapeCast S1x2048x512 w sc_w1) = hcol X w := rfl
theorem pay_3 (X : HB F) (w : W1C F) : k0_pay6 X (shapeCast S1x2048x512 w sc_w1) = hcol X w := rfl

/-! ## The trip -/

/-- What the loop holds before trip `g`. -/
def Inv (l : Debts) (X : HB F) (g : ℕ) : sProp 𝕄 :=
  iprop(Own c xsM fullShare X ∗ Own c acM fullShare (accv X W1 W2 g) ∗ (∃ H, Own c hbM fullShare H)
    ∗ fly1 c W1 (sl (4 * g)) (ck (4 * g)) ∗ free1 c W1 (sl (4 * g + 1)) ∗ fly2 c W2 (sl g) (gix g) ∗ free2 c W2 (sl (g + 1)) ∗ Ow c l)

abbrev trip (t : Fin k0_t1_loop.trips) : Prog (TpuEff nD τ sig (Elt F) Λ₀ .tc) Unit :=
  k0_t1_body (F := F) (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 0#32 0#32 1#32 t ()

theorem chain4 {α : Type} {h0 h1 h2 h3} (H : S1024x2048.Idx → α) (v : Fin 4 → S1024x512.Idx → α) :
    (Rect.unit (s := S1024x2048) ![0, 1536] S1024x512.size h3).overlay
      ((Rect.unit (s := S1024x2048) ![0, 1024] S1024x512.size h2).overlay
        ((Rect.unit (s := S1024x2048) ![0, 512] S1024x512.size h1).overlay
          ((Rect.unit (s := S1024x2048) ![0, 0] S1024x512.size h0).overlay H (v 0)) (v 1)) (v 2)) (v 3)
      = fun i => v ⟨(i 1).val / 512, Nat.div_lt_of_lt_mul (i 1).isLt⟩ (ix2 (i 0) ⟨(i 1).val % 512, Nat.mod_lt _ (by decide)⟩) := by
  funext i
  rw [ov_at _ h3 3 rfl, ov_at _ h2 2 rfl, ov_at _ h1 1 rfl, ov_at _ h0 0 rfl]
  have hlt : (i 1).val / 512 < 4 := Nat.div_lt_of_lt_mul (i 1).isLt
  generalize hk : (⟨(i 1).val / 512, Nat.div_lt_of_lt_mul (i 1).isLt⟩ : Fin 4) = k
  have hv : (i 1).val / 512 = k.val := by rw [← hk]
  rw [hv]
  fin_cases k <;> rfl

/-- The hidden buffer after its four stores. -/
theorem hval_chain {h0 h1 h2 h3} (X : HB F) (W1 : W1A F) (g : ℕ) (H : HB F) :
    (Rect.unit (s := S1024x2048) ![0, 1536] S1024x512.size h3).overlay
      ((Rect.unit (s := S1024x2048) ![0, 1024] S1024x512.size h2).overlay
        ((Rect.unit (s := S1024x2048) ![0, 512] S1024x512.size h1).overlay
          ((Rect.unit (s := S1024x2048) ![0, 0] S1024x512.size h0).overlay H (hcol X (chunk W1 (ck (4 * g + 0))))) (hcol X (chunk W1 (ck (4 * g + 1)))))
        (hcol X (chunk W1 (ck (4 * g + 2))))) (hcol X (chunk W1 (ck (4 * g + 3))))
      = hval X fun j => chunk W1 (cix g j.val) :=
  chain4 H fun j => hcol X (chunk W1 (cix g j.val))

theorem free1_intro (n : ℕ) (Y : W1C F) :
    iprop(Own c (w1b (sl n)) fullShare Y ∗ semVal ((c : Thread nD τ), .dma (wS1 (sl n))) 0 ∗ Own c (Memref.whole main_arg1) (qw (sl n)) W1) ⊢ free1 c W1 (sl (n + 2)) := by
  rw [sl_add2]; unfold free1
  iintro ⟨HY, Hv, HW⟩
  isplitl [HY]; · iexists Y; iexact HY
  isplitl [Hv] <;> iassumption
theorem free2_intro (n : ℕ) (Y : W2C F) :
    iprop(Own c (w2b (sl n)) fullShare Y ∗ semVal ((c : Thread nD τ), .dma (wS2 (sl n))) 0 ∗ Own c (Memref.whole main_arg2) (qw (sl n)) W2) ⊢ free2 c W2 (sl (n + 2)) := by
  rw [sl_add2]; unfold free2
  iintro ⟨HY, Hv, HW⟩
  isplitl [HY]; · iexists Y; iexact HY
  isplitl [Hv] <;> iassumption

set_option maxRecDepth 10000 in
set_option maxHeartbeats 2000000 in
theorem sound_trip (A : Args F) (K : Dev nD × Option (Fin 20) → ℕ) (l : Debts) (hl : ∀ x ∈ l, 0 < lvl x.2.1) (X : HB F) (t : Fin k0_t1_loop.trips) :
    iprop(Ctx A K ∗ Inv c W1 W2 l X t.val) ⊢ wpc c (trip t) (fun _ => iprop(Inv c W1 W2 l X (t.val + 1))) := by
  unfold trip k0_t1_body
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret]
  unfold Inv
  iintro ⟨#HC, HX, HA, ⟨%H, HH⟩, Hf, He, Hf2, He2, HO⟩
  iapply (wp_ld c X X (emb_whole _ X)) $$ HX; iintro HX
  -- chunk 0: the next one's transfer starts, this one's has arrived
  iapply (wp_i1 c W1 (sl (4 * t.val + 0 + 1)) (ck (4 * t.val + 0 + 1)) (w1M_of _ (o3 t 0)) (w1b_of _ (o2 t 0)) (wS1_of _ (o1 t 0))) $$ He; iintro Hg
  iapply (wp_w1 c W1 A K (sl (4 * t.val + 0)) (ck (4 * t.val + 0)) (wS1_of _ (o4 t 0)) cr1_of l hl) $$ [Hf HO]
  · isplitr; · iexact HC
    isplitl [Hf] <;> iassumption
  iintro ⟨HY, Hv, HW, HO⟩
  iapply (wp_ld1 c (sl (4 * t.val + 0)) (o6 t 0) (chunk W1 (ck (4 * t.val + 0)))) $$ HY; iintro HY
  iapply (wp_ld c _ _ rfl) $$ HH; iintro HH
  iapply (wp_sth c (pay_0 X _)) $$ HH; iintro HH
  ihave He := (free1_intro c W1 (4 * t.val + 0) _) $$ [HY Hv HW]
  · isplitl [HY]; · iexact HY
    isplitl [Hv] <;> iassumption
  irename Hg => Hf
  -- chunk 1: the next one's transfer starts, this one's has arrived
  iapply (wp_i1 c W1 (sl (4 * t.val + 1 + 1)) (ck (4 * t.val + 1 + 1)) (w1M_of _ (o3 t 1)) (w1b_of _ (o2 t 1)) (wS1_of _ (o1 t 1))) $$ He; iintro Hg
  iapply (wp_w1 c W1 A K (sl (4 * t.val + 1)) (ck (4 * t.val + 1)) (wS1_of _ (o4 t 1)) cr1_of l hl) $$ [Hf HO]
  · isplitr; · iexact HC
    isplitl [Hf] <;> iassumption
  iintro ⟨HY, Hv, HW, HO⟩
  iapply (wp_ld1 c (sl (4 * t.val + 1)) (o6 t 1) (chunk W1 (ck (4 * t.val + 1)))) $$ HY; iintro HY
  iapply (wp_ld c _ _ rfl) $$ HH; iintro HH
  iapply (wp_sth c (pay_1 X _)) $$ HH; iintro HH
  ihave He := (free1_intro c W1 (4 * t.val + 1) _) $$ [HY Hv HW]
  · isplitl [HY]; · iexact HY
    isplitl [Hv] <;> iassumption
  irename Hg => Hf
  -- chunk 2: the next one's transfer starts, this one's has arrived
  iapply (wp_i1 c W1 (sl (4 * t.val + 2 + 1)) (ck (4 * t.val + 2 + 1)) (w1M_of _ (o3 t 2)) (w1b_of _ (o2 t 2)) (wS1_of _ (o1 t 2))) $$ He; iintro Hg
  iapply (wp_w1 c W1 A K (sl (4 * t.val + 2)) (ck (4 * t.val + 2)) (wS1_of _ (o4 t 2)) cr1_of l hl) $$ [Hf HO]
  · isplitr; · iexact HC
    isplitl [Hf] <;> iassumption
  iintro ⟨HY, Hv, HW, HO⟩
  iapply (wp_ld1 c (sl (4 * t.val + 2)) (o6 t 2) (chunk W1 (ck (4 * t.val + 2)))) $$ HY; iintro HY
  iapply (wp_ld c _ _ rfl) $$ HH; iintro HH
  iapply (wp_sth c (pay_2 X _)) $$ HH; iintro HH
  ihave He := (free1_intro c W1 (4 * t.val + 2) _) $$ [HY Hv HW]
  · isplitl [HY]; · iexact HY
    isplitl [Hv] <;> iassumption
  irename Hg => Hf
  -- chunk 3: the next one's transfer starts, this one's has arrived
  iapply (wp_i1 c W1 (sl (4 * t.val + 3 + 1)) (ck (4 * t.val + 3 + 1)) (w1M_of _ (o3 t 3)) (w1b_of _ (o2 t 3)) (wS1_of _ (o1 t 3))) $$ He; iintro Hg
  iapply (wp_w1 c W1 A K (sl (4 * t.val + 3)) (ck (4 * t.val + 3)) (wS1_of _ (o4 t 3)) cr1_of l hl) $$ [Hf HO]
  · isplitr; · iexact HC
    isplitl [Hf] <;> iassumption
  iintro ⟨HY, Hv, HW, HO⟩
  iapply (wp_ld1 c (sl (4 * t.val + 3)) (o6 t 3) (chunk W1 (ck (4 * t.val + 3)))) $$ HY; iintro HY
  iapply (wp_ld c _ _ rfl) $$ HH; iintro HH
  iapply (wp_sth c (pay_3 X _)) $$ HH; iintro HH
  ihave He := (free1_intro c W1 (4 * t.val + 3) _) $$ [HY Hv HW]
  · isplitl [HY]; · iexact HY
    isplitl [Hv] <;> iassumption
  irename Hg => Hf
  -- the group's second weights
  iapply (wp_i2 c W2 (sl (t.val + 1)) (gix (t.val + 1)) (w2M_of _ (o9 t)) (w2b_of _ (o8 t)) (wS2_of _ (o7 t))) $$ He2; iintro Hg2
  iapply (wp_w2 c W2 A K (sl t.val) (gix t.val) (wS2_of _ (o10 t)) cr2_of l hl) $$ [Hf2 HO]
  · isplitr; · iexact HC
    isplitl [Hf2] <;> iassumption
  iintro ⟨HY, Hv, HW, HO⟩
  iapply (wp_ld c _ (hval X fun j => chunk W1 (cix t.val j.val)) ((emb_whole _ _).trans (hval_chain X W1 t.val H))) $$ HH; iintro HH
  iapply (wp_ld2 c (sl t.val) (o12 t) (grp W2 (gix t.val))) $$ HY; iintro HY
  iapply (wp_ld c _ _ (emb_whole _ _)) $$ HA; iintro HA
  iapply (wp_ld c _ _ (emb_whole _ _)) $$ HA; iintro HA
  iapply (wp_st c _ _ (ov_whole _ _ _)) $$ HA; iintro HA
  ihave He2 := (free2_intro c W2 t.val _) $$ [HY Hv HW]
  · isplitl [HY]; · iexact HY
    isplitl [Hv] <;> iassumption
  iapply (wpc_ret c)
  isplitl [HX]; · iexact HX
  isplitl [HA]; · iexact HA
  isplitl [HH]; · iexists _; iexact HH
  isplitl [Hf]; · iexact Hf
  isplitl [He]; · iexact He
  isplitl [Hg2]; · iexact Hg2
  isplitl [He2]; · iexact He2
  iexact HO

/-! ## The loops -/

theorem loop_end (l : Debts) (X : HB F) : Inv c W1 W2 l X 4
    = iprop(Own c xsM fullShare X ∗ Own c acM fullShare (accv X W1 W2 4) ∗ (∃ H, Own c hbM fullShare H)
    ∗ fly1 c W1 (sl 0) (ck 0) ∗ free1 c W1 (sl 1) ∗ fly2 c W2 (sl 0) (gix 0) ∗ free2 c W2 (sl 1) ∗ Ow c l) := rfl

theorem sound_loop (A : Args F) (K : Dev nD × Option (Fin 20) → ℕ) (l : Debts) (hl : ∀ x ∈ l, 0 < lvl x.2.1) (X : HB F)
    {α : Type} {Q : α → sProp 𝕄} {k : Unit → Prog (TpuEff nD τ sig (Elt F) Λ₀ .tc) α} :
    iprop(Ctx A K ∗ Inv c W1 W2 l X 0) ⊢ iprop((Inv c W1 W2 l X 4 -∗ wpc c (k ⟨⟩) Q)
      -∗ wpc c (Scf.for k0_t1_loop.lb k0_t1_loop.ub k0_t1_loop.st k0_t1_ok ⟨⟩ (fun t _ => trip t) >>= k) Q) := by
  iintro ⟨#HC, HI⟩ Hk
  iapply (wpc_bind c)
  iapply (Scf.wp_for frame (wpE (defs₀ (F := F)) 𝒱₀ (c : Thread nD τ) none) Set.univ _ _ _ k0_t1_ok ⟨⟩ (fun t _ => trip t)
    (fun g _ => iprop(Ctx A K ∗ Inv c W1 W2 l X g)) (fun t _ => by
      refine (show iprop(Ctx A K ∗ Inv c W1 W2 l X t.val) ⊢ iprop(Ctx A K ∗ wpc c (trip t) (fun _ => iprop(Inv c W1 W2 l X (t.val + 1)))) from ?_).trans ?_
      · iintro ⟨#HC, HI⟩
        isplitr; · iexact HC
        iapply (sound_trip c W1 W2 A K l hl X t)
        isplitr; · iexact HC
        iexact HI
      · exact wp_frame_l frame (wpE (defs₀ (F := F)) 𝒱₀ (c : Thread nD τ) none) Set.univ))
  isplitl [HI]
  · isplitr; · iexact HC
    iexact HI
  iintro %_ ⟨-, HI⟩
  iapply Hk
  iexact HI

set_option maxRecDepth 10000 in
theorem loop_1 (v2 c0 c1 : BitVec 32) : k0_t1_body (F := F) (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 c0 c1 = fun t _ => trip t := rfl
set_option maxRecDepth 10000 in
theorem loop_2 (v2 : BitVec 32) : k0_t2_body (F := F) (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 = fun t _ => trip t := rfl
set_option maxRecDepth 10000 in
theorem loop_3 (d0 : Dev nD) (v2 : BitVec 32) (v250) : k0_t3_body (F := F) (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 d0 v2 v250 = fun t _ => trip t := rfl
set_option maxRecDepth 10000 in
theorem loop_4 (v2 : BitVec 32) : k0_t4_body (F := F) (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 = fun t _ => trip t := rfl
set_option maxRecDepth 10000 in
theorem loop_5 (v2 : BitVec 32) : k0_t5_body (F := F) (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 = fun t _ => trip t := rfl
set_option maxRecDepth 10000 in
theorem loop_6 (v2 : BitVec 32) : k0_t6_body (F := F) (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 = fun t _ => trip t := rfl
set_option maxRecDepth 10000 in
theorem loop_7 (v2 : BitVec 32) : k0_t7_body (F := F) (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 = fun t _ => trip t := rfl
set_option maxRecDepth 10000 in
theorem loop_8  : k0_t8_body (F := F) (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12  = fun t _ => trip t := rfl

end Cert.KProof

end
-- ==== Proof.Steps.lean ====
/-
The steps of the kernel's body outside its loops, each over the named windows and semaphores: how the printed windows
and semaphores read, sends and waits between devices, staging copies, and the loop over the second layer.
-/
module

public import proofs.«01_k».proof.Proof.Trip
public import Idealize.ShloMosaic.Lib.Pipeline.Value

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.ValueIdx (ix2)

variable {F : FTy → Type} [FloatOps F]

local notation "𝕄" => MT nD τ sig Unit (Elt F) ℕ UU ℕ

/-! ## Printed windows -/

theorem xW (off : Fin 2 → ℕ) {h} {hr} (hf : Fin 2) (ho : off = ![1024 * hf.val, 0]) :
    (Memref.whole main_arg0 : Memref sig .tc .hbm S2048x2048 .bf16).slice (Rect.unit (s := S2048x2048) off S1024x2048.size h) hr = xM hf := by
  subst ho; rfl
theorem outW (off : Fin 2 → ℕ) {h} {hr} (hf : Fin 2) (ho : off = ![1024 * hf.val, 0]) :
    (Memref.whole main_v1_0 : Memref sig .tc .hbm S2048x2048 .bf16).slice (Rect.unit (s := S2048x2048) off S1024x2048.size h) hr = outM hf := by
  subst ho; rfl
theorem agW (off : Fin 3 → ℕ) {h} {hr} {hq} (s : Fin 3) (hf : Fin 2) (ho : off = ![s.val, 1024 * hf.val, 0]) :
    ((Memref.whole main_v1_1 : Memref sig .tc .hbm S3x2048x2048 .bf16).slice (Rect.unit (s := S3x2048x2048) off S1x1024x2048.size h) hr).squeeze S1024x2048 hq = agM s hf := by
  subst ho; rfl
theorem rsW (off : Fin 3 → ℕ) {h} {hr} {hq} (s : Fin 4) (hf : Fin 2) (ho : off = ![s.val, 1024 * hf.val, 0]) :
    ((Memref.whole main_v1_2 : Memref sig .tc .hbm S4x2048x2048 .bf16).slice (Rect.unit (s := S4x2048x2048) off S1x1024x2048.size h) hr).squeeze S1024x2048 hq = rsM s hf := by
  subst ho; rfl
theorem rssW (off : Fin 3 → ℕ) {h} {hr} {hq} (hf : Fin 2) (ho : off = ![hf.val, 0, 0]) :
    ((Memref.whole cc0_scratch5 : Memref sig .tc .vmem S2x1024x2048 .bf16).slice (Rect.unit (s := S2x1024x2048) off S1x1024x2048.size h) hr).squeeze S1024x2048 hq = rss hf := by
  subst ho; rfl

theorem crX {off : Fin 2 → ℕ} {h} {hr} :
    ((Memref.whole main_arg0 : Memref sig .tc .hbm S2048x2048 .bf16).slice (Rect.unit (s := S2048x2048) off S1024x2048.size h) hr).view.dmaCredit = N := rfl
theorem crOut {off : Fin 2 → ℕ} {h} {hr} :
    ((Memref.whole main_v1_0 : Memref sig .tc .hbm S2048x2048 .bf16).slice (Rect.unit (s := S2048x2048) off S1024x2048.size h) hr).view.dmaCredit = N := rfl
theorem crAg {off : Fin 3 → ℕ} {h} {hr} {hq} :
    (((Memref.whole main_v1_1 : Memref sig .tc .hbm S3x2048x2048 .bf16).slice (Rect.unit (s := S3x2048x2048) off S1x1024x2048.size h) hr).squeeze S1024x2048 hq).view.dmaCredit = N := rfl
theorem crRs {off : Fin 3 → ℕ} {h} {hr} {hq} :
    (((Memref.whole main_v1_2 : Memref sig .tc .hbm S4x2048x2048 .bf16).slice (Rect.unit (s := S4x2048x2048) off S1x1024x2048.size h) hr).squeeze S1024x2048 hq).view.dmaCredit = N := rfl
theorem crRss {off : Fin 3 → ℕ} {h} {hr} {hq} :
    (((Memref.whole cc0_scratch5 : Memref sig .tc .vmem S2x1024x2048 .bf16).slice (Rect.unit (s := S2x1024x2048) off S1x1024x2048.size h) hr).squeeze S1024x2048 hq).view.dmaCredit = N := rfl
theorem crXs : (Memref.whole cc0_scratch0 : Memref sig .tc .vmem S1024x2048 .bf16).view.dmaCredit = N := rfl

/-! ## Printed semaphores -/

theorem agSW_00 : ((cc0_scratch6.slice (Rect.unit (s := S3x2) ![0, 0] S1x1.size inb_S3x2_S1x1_0_0)).squeeze S_ squeezes_S1x1_S_).sem = dS (agSi 0 0) := rfl
theorem agSW_01 : ((cc0_scratch6.slice (Rect.unit (s := S3x2) ![0, 1] S1x1.size inb_S3x2_S1x1_0_1)).squeeze S_ squeezes_S1x1_S_).sem = dS (agSi 0 1) := rfl
theorem agSW_10 : ((cc0_scratch6.slice (Rect.unit (s := S3x2) ![1, 0] S1x1.size inb_S3x2_S1x1_1_0)).squeeze S_ squeezes_S1x1_S_).sem = dS (agSi 1 0) := rfl
theorem agSW_11 : ((cc0_scratch6.slice (Rect.unit (s := S3x2) ![1, 1] S1x1.size inb_S3x2_S1x1_1_1)).squeeze S_ squeezes_S1x1_S_).sem = dS (agSi 1 1) := rfl
theorem agSW_20 : ((cc0_scratch6.slice (Rect.unit (s := S3x2) ![2, 0] S1x1.size inb_S3x2_S1x1_2_0)).squeeze S_ squeezes_S1x1_S_).sem = dS (agSi 2 0) := rfl
theorem agSW_21 : ((cc0_scratch6.slice (Rect.unit (s := S3x2) ![2, 1] S1x1.size inb_S3x2_S1x1_2_1)).squeeze S_ squeezes_S1x1_S_).sem = dS (agSi 2 1) := rfl
theorem agSW (off : Fin 2 → ℕ) {h} {hq} (s : Fin 3) (hf : Fin 2) (ho : off = ![s.val, hf.val]) :
    ((cc0_scratch6.slice (Rect.unit (s := S3x2) off S1x1.size h)).squeeze S_ hq).sem = dS (agSi s hf) := by
  subst ho
  match s, hf with
  | 0, 0 => exact agSW_00
  | 0, 1 => exact agSW_01
  | 1, 0 => exact agSW_10
  | 1, 1 => exact agSW_11
  | 2, 0 => exact agSW_20
  | 2, 1 => exact agSW_21
theorem agRW_00 : ((cc0_scratch7.slice (Rect.unit (s := S3x2) ![0, 0] S1x1.size inb_S3x2_S1x1_0_0)).squeeze S_ squeezes_S1x1_S_).sem = dS (agRi 0 0) := rfl
theorem agRW_01 : ((cc0_scratch7.slice (Rect.unit (s := S3x2) ![0, 1] S1x1.size inb_S3x2_S1x1_0_1)).squeeze S_ squeezes_S1x1_S_).sem = dS (agRi 0 1) := rfl
theorem agRW_10 : ((cc0_scratch7.slice (Rect.unit (s := S3x2) ![1, 0] S1x1.size inb_S3x2_S1x1_1_0)).squeeze S_ squeezes_S1x1_S_).sem = dS (agRi 1 0) := rfl
theorem agRW_11 : ((cc0_scratch7.slice (Rect.unit (s := S3x2) ![1, 1] S1x1.size inb_S3x2_S1x1_1_1)).squeeze S_ squeezes_S1x1_S_).sem = dS (agRi 1 1) := rfl
theorem agRW_20 : ((cc0_scratch7.slice (Rect.unit (s := S3x2) ![2, 0] S1x1.size inb_S3x2_S1x1_2_0)).squeeze S_ squeezes_S1x1_S_).sem = dS (agRi 2 0) := rfl
theorem agRW_21 : ((cc0_scratch7.slice (Rect.unit (s := S3x2) ![2, 1] S1x1.size inb_S3x2_S1x1_2_1)).squeeze S_ squeezes_S1x1_S_).sem = dS (agRi 2 1) := rfl
theorem agRW (off : Fin 2 → ℕ) {h} {hq} (s : Fin 3) (hf : Fin 2) (ho : off = ![s.val, hf.val]) :
    ((cc0_scratch7.slice (Rect.unit (s := S3x2) off S1x1.size h)).squeeze S_ hq).sem = dS (agRi s hf) := by
  subst ho
  match s, hf with
  | 0, 0 => exact agRW_00
  | 0, 1 => exact agRW_01
  | 1, 0 => exact agRW_10
  | 1, 1 => exact agRW_11
  | 2, 0 => exact agRW_20
  | 2, 1 => exact agRW_21
theorem rsRW_00 : ((cc0_scratch9.slice (Rect.unit (s := S3x2) ![0, 0] S1x1.size inb_S3x2_S1x1_0_0)).squeeze S_ squeezes_S1x1_S_).sem = dS (rsRi 0 0) := rfl
theorem rsRW_01 : ((cc0_scratch9.slice (Rect.unit (s := S3x2) ![0, 1] S1x1.size inb_S3x2_S1x1_0_1)).squeeze S_ squeezes_S1x1_S_).sem = dS (rsRi 0 1) := rfl
theorem rsRW_10 : ((cc0_scratch9.slice (Rect.unit (s := S3x2) ![1, 0] S1x1.size inb_S3x2_S1x1_1_0)).squeeze S_ squeezes_S1x1_S_).sem = dS (rsRi 1 0) := rfl
theorem rsRW_11 : ((cc0_scratch9.slice (Rect.unit (s := S3x2) ![1, 1] S1x1.size inb_S3x2_S1x1_1_1)).squeeze S_ squeezes_S1x1_S_).sem = dS (rsRi 1 1) := rfl
theorem rsRW_20 : ((cc0_scratch9.slice (Rect.unit (s := S3x2) ![2, 0] S1x1.size inb_S3x2_S1x1_2_0)).squeeze S_ squeezes_S1x1_S_).sem = dS (rsRi 2 0) := rfl
theorem rsRW_21 : ((cc0_scratch9.slice (Rect.unit (s := S3x2) ![2, 1] S1x1.size inb_S3x2_S1x1_2_1)).squeeze S_ squeezes_S1x1_S_).sem = dS (rsRi 2 1) := rfl
theorem rsRW (off : Fin 2 → ℕ) {h} {hq} (s : Fin 3) (hf : Fin 2) (ho : off = ![s.val, hf.val]) :
    ((cc0_scratch9.slice (Rect.unit (s := S3x2) off S1x1.size h)).squeeze S_ hq).sem = dS (rsRi s hf) := by
  subst ho
  match s, hf with
  | 0, 0 => exact rsRW_00
  | 0, 1 => exact rsRW_01
  | 1, 0 => exact rsRW_10
  | 1, 1 => exact rsRW_11
  | 2, 0 => exact rsRW_20
  | 2, 1 => exact rsRW_21
theorem sgSW_0 : ((cc0_scratch8.slice (Rect.unit (s := S2) ![0] S1.size inb_S2_S1_0)).squeeze S_ squeezes_S1_S_).sem = dS (sgSi 0) := rfl
theorem sgSW_1 : ((cc0_scratch8.slice (Rect.unit (s := S2) ![1] S1.size inb_S2_S1_1)).squeeze S_ squeezes_S1_S_).sem = dS (sgSi 1) := rfl
theorem sgSW (off : Fin 1 → ℕ) {h} {hq} (hf : Fin 2) (ho : off = ![hf.val]) :
    ((cc0_scratch8.slice (Rect.unit (s := S2) off S1.size h)).squeeze S_ hq).sem = dS (sgSi hf) := by
  subst ho
  match hf with
  | 0 => exact sgSW_0
  | 1 => exact sgSW_1
theorem lcW : cc0_scratch12.sem = lcS := rfl

/-! ## Printed devices -/

theorem dv1 (c : Dev nD) : (⟨k0_dev1 c, k0_dev1_lt c⟩ : Dev nD) = peer c 1 := by revert c; decide
theorem dv2 (c : Dev nD) : (⟨k0_dev2 c, k0_dev2_lt c⟩ : Dev nD) = peer c 2 := by revert c; decide
theorem dv3 (c : Dev nD) : (⟨k0_dev3 c, k0_dev3_lt c⟩ : Dev nD) = peer c 3 := by revert c; decide
theorem dv4 (c : Dev nD) : (⟨k0_dev4 c, k0_dev4_lt c⟩ : Dev nD) = peer c 1 := by revert c; decide
theorem dv5 (c : Dev nD) : (⟨k0_dev5 c, k0_dev5_lt c⟩ : Dev nD) = peer c 1 := by revert c; decide
theorem dv6 (c : Dev nD) : (⟨k0_dev6 c, k0_dev6_lt c⟩ : Dev nD) = peer c 2 := by revert c; decide
theorem dv7 (c : Dev nD) : (⟨k0_dev7 c, k0_dev7_lt c⟩ : Dev nD) = peer c 2 := by revert c; decide
theorem dv8 (c : Dev nD) : (⟨k0_dev8 c, k0_dev8_lt c⟩ : Dev nD) = peer c 3 := by revert c; decide
theorem dv9 (c : Dev nD) : (⟨k0_dev9 c, k0_dev9_lt c⟩ : Dev nD) = peer c 3 := by revert c; decide
theorem dv10 (c : Dev nD) : (⟨k0_dev10 c, k0_dev10_lt c⟩ : Dev nD) = peer c 1 := by revert c; decide
theorem dv11 (c : Dev nD) : (⟨k0_dev11 c, k0_dev11_lt c⟩ : Dev nD) = peer c 1 := by revert c; decide
theorem dv12 (c : Dev nD) : (⟨k0_dev12 c, k0_dev12_lt c⟩ : Dev nD) = peer c 2 := by revert c; decide
theorem dv13 (c : Dev nD) : (⟨k0_dev13 c, k0_dev13_lt c⟩ : Dev nD) = peer c 2 := by revert c; decide
theorem dv14 (c : Dev nD) : (⟨k0_dev14 c, k0_dev14_lt c⟩ : Dev nD) = peer c 3 := by revert c; decide
theorem dv15 (c : Dev nD) : (⟨k0_dev15 c, k0_dev15_lt c⟩ : Dev nD) = peer c 3 := by revert c; decide

/-! ## Debts, in the order they are paid -/

abbrev dB (d : ℕ) : ℕ × SemLoc sig × ℕ := (d, .reg barS, 1)
abbrev dA (s : Fin 3) (h : Fin 2) : ℕ × SemLoc sig × ℕ := (s.val + 1, .dma (dS (agRi s h)), N)
abbrev dR (s : Fin 3) (h : Fin 2) : ℕ × SemLoc sig × ℕ := (s.val + 1, .dma (dS (rsRi s h)), N)
abbrev lR0 : Debts := []
abbrev lR1 : Debts := dR 2 1 :: lR0
abbrev lR2 : Debts := dR 2 0 :: lR1
abbrev lR3 : Debts := dR 1 1 :: lR2
abbrev lR4 : Debts := dR 1 0 :: lR3
abbrev lR5 : Debts := dR 0 1 :: lR4
abbrev lR6 : Debts := dR 0 0 :: lR5
abbrev lA1 : Debts := dA 2 1 :: lR6
abbrev lA2 : Debts := dA 2 0 :: lA1
abbrev lA3 : Debts := dA 1 1 :: lA2
abbrev lA4 : Debts := dA 1 0 :: lA3
abbrev lA5 : Debts := dA 0 1 :: lA4
abbrev lA6 : Debts := dA 0 0 :: lA5
theorem pays_eq : pays = dB 1 :: dB 2 :: dB 3 :: lA6 := rfl

/-! ## The tokens and positions of the cells -/

variable (A : Args F) (K : Dev nD × Option (Fin 20) → ℕ) (c : Dev nD)

def agT (s : Fin 3) (h : Fin 2) : sProp 𝕄 :=
  iprop(dutyTok ER (dcell c (agSi s h)) 0 0 ∗ dutyTok ER (dcell (peer c (s.val + 1)) (agRi s h)) 0 0)
def rsT (s : Fin 3) (h : Fin 2) : sProp 𝕄 :=
  iprop(dutyTok ER (dcell c (sgSi h)) s.val 0 ∗ dutyTok ER (dcell (peer c (s.val + 1)) (rsRi s h)) 0 0)
/-- The position of a cell's owner: before round `r`. -/
def pos (i : Fin 20) (r : ℕ) : sProp 𝕄 := atPos ER (dcell c i) r ∅ 0
def crd (i : Fin 20) : sProp 𝕄 := cred (tallyAt (dcell c i) () N)

theorem rn_agS (s : Fin 3) (h : Fin 2) : rnds (agSi s h).val = 1 := by revert s h; decide
theorem rn_agR (s : Fin 3) (h : Fin 2) : rnds (agRi s h).val = 1 := by revert s h; decide
theorem rn_rsR (s : Fin 3) (h : Fin 2) : rnds (rsRi s h).val = 1 := by revert s h; decide
theorem rn_sgS (h : Fin 2) : rnds (sgSi h).val = 3 := by revert h; decide
theorem lv_agR (s : Fin 3) (h : Fin 2) : lvl (.dma (dS (agRi s h))) ≤ 2 := by revert s h; decide
theorem lv_sgS (h : Fin 2) : lvl (.dma (dS (sgSi h))) ≤ 2 := by revert h; decide

section Between
variable {sp sp' : Space} {s0 s' : Shape} {e e' : EltTy}

/-- Send the own rows' half `h` to the device `s + 1` places on. -/
theorem wp_sag {α : Type} {Q : α → sProp 𝕄} {k : PUnit → Prog (TpuEff nD τ sig (Elt F) Λ₀ .tc) α} (s : Fin 3) (h : Fin 2) (l : Debts) (q : PosShare TreeShare) {n : Dev nD} (hn : n = peer c (s.val + 1))
    {src' dst' : Memref sig .tc .hbm S1024x2048 .bf16} (hs : src' = xM h) (hd : dst' = agM s h)
    {smS smR : DmaSem sig} (hi : smS = dS (agSi s h)) (hj : smR = dS (agRi s h))
    {hsc : (dst' : Memref sig (Dev.tc n : Thread nD τ).2.kind .hbm S1024x2048 .bf16).view.ref.isScScratch = false}
    {hsrc : src'.view.WordExact} {hdst : dst'.view.WordExact}
    {hsem : DmaTarget.Typed (nD := nD) (τ := τ) .hbm (.dma smR) (.remote (Dev.tc n : Thread nD τ) dst' (.dma smS) hsc)} :
    iprop(Ctx A K ∗ Own c (xM h) q (xh A c h) ∗ (∃ Y, Own (peer c (s.val + 1)) (agM s h) fullShare Y) ∗ Ow c (dA s h :: l) ∗ agT c s h)
      ⊢ iprop(((crd c (agSi s h) ∗ Ow c l) -∗ wpc c (k ⟨⟩) Q)
          -∗ wpc c (.op (.enqueueDma src' (.remote (Dev.tc n : Thread nD τ) dst' (.dma smS) hsc) (.dma smR) hsrc hdst hsem) k) Q) := by
  unfold agT crd
  iintro ⟨#HC, Hs, Hd, HO, Ht1, Ht2⟩ Hk
  iapply (wp_snd A K c (s.val + 1) n hn hs hd hi hj l (xh A c h) 0 rfl (by rw [rn_agS]; exact Nat.one_pos) (by rw [rn_agR]; exact Nat.one_pos) (q := q)
    (by rw [dpay_agS]; iintro -; iempintro)
    (by rw [dpay_agR, peer_peer, show s.val + 1 + (3 - s.val) = 4 by omega, peer_four])) $$ [Hs Hd HO Ht1 Ht2]
  · isplitr; · iexact HC
    isplitl [Hs]; · iexact Hs
    isplitl [Hd]; · iexact Hd
    isplitl [HO]; · iexact HO
    isplitl [Ht1]; · iexact Ht1
    isplitr; · iapply (Ctx_reached A K (c, some (agSi s h))); iexact HC
    iexact Ht2
  iintro H
  iapply Hk
  iexact H

/-- Send the partial result for the device `s + 1` places on from staging slot `h`. -/
theorem wp_srs {α : Type} {Q : α → sProp 𝕄} {k : PUnit → Prog (TpuEff nD τ sig (Elt F) Λ₀ .tc) α} (s : Fin 3) (h : Fin 2) (l : Debts) {n : Dev nD} (hn : n = peer c (s.val + 1))
    {src' : Memref sig .tc .vmem S1024x2048 .bf16} {dst' : Memref sig .tc .hbm S1024x2048 .bf16} (hs : src' = rss h) (hd : dst' = rsM s.castSucc h)
    {smS smR : DmaSem sig} (hi : smS = dS (sgSi h)) (hj : smR = dS (rsRi s h))
    {hsc : (dst' : Memref sig (Dev.tc n : Thread nD τ).2.kind .hbm S1024x2048 .bf16).view.ref.isScScratch = false}
    {hsrc : src'.view.WordExact} {hdst : dst'.view.WordExact}
    {hsem : DmaTarget.Typed (nD := nD) (τ := τ) .vmem (.dma smR) (.remote (Dev.tc n : Thread nD τ) dst' (.dma smS) hsc)} :
    iprop(Ctx A K ∗ Own c (rss h) fullShare (pk (part A c (peer c (s.val + 1)) h)) ∗ (∃ Y, Own (peer c (s.val + 1)) (rsM s.castSucc h) fullShare Y)
        ∗ Ow c (dR s h :: l) ∗ rsT c s h ∗ reached ER (dcell c (sgSi h)) s.val)
      ⊢ iprop(((crd c (sgSi h) ∗ Ow c l) -∗ wpc c (k ⟨⟩) Q)
          -∗ wpc c (.op (.enqueueDma src' (.remote (Dev.tc n : Thread nD τ) dst' (.dma smS) hsc) (.dma smR) hsrc hdst hsem) k) Q) := by
  unfold rsT crd
  iintro ⟨#HC, Hs, Hd, HO, ⟨Ht1, Ht2⟩, Hr⟩ Hk
  iapply (wp_snd A K c (s.val + 1) n hn hs hd hi hj l (pk (part A c (peer c (s.val + 1)) h)) s.val rfl (by rw [rn_sgS]; exact s.isLt) (by rw [rn_rsR]; exact Nat.one_pos) (q := fullShare)
    (by rw [dpay_sgS]; iintro H; iexists _; iexact H)
    (by rw [dpay_rsR, peer_peer, show s.val + 1 + (3 - s.val) = 4 by omega, peer_four])) $$ [Hs Hd HO Ht1 Hr Ht2]
  · isplitr; · iexact HC
    isplitl [Hs]; · iexact Hs
    isplitl [Hd]; · iexact Hd
    isplitl [HO]; · iexact HO
    isplitl [Ht1]; · iexact Ht1
    isplitl [Hr]; · iexact Hr
    iexact Ht2
  iintro H
  iapply Hk
  iexact H

variable {srcw : Memref sig .tc sp' s' e'} {dstw : Memref sig .tc sp s0 e} {hsrc : srcw.view.WordExact} {hdst : dstw.view.WordExact} {sm' : DmaSem sig}

/-- The rows of the device `3 - s` places on have arrived. -/
theorem wp_agw {α : Type} {Q : α → sProp 𝕄} {k : PUnit → Prog (TpuEff nD τ sig (Elt F) Λ₀ .tc) α} (s : Fin 3) (h : Fin 2) (hm : sm' = dS (agRi s h)) (hN : dstw.view.dmaCredit = N) (l : Debts) (hl : ∀ x ∈ l, 2 < lvl x.2.1) :
    iprop(Ctx A K ∗ crd c (agRi s h) ∗ Ow c l ∗ pos c (agRi s h) 0)
      ⊢ iprop(((Ow c l ∗ pos c (agRi s h) 1 ∗ Own c (agM s h) fullShare (xh A (peer c (3 - s.val)) h)) -∗ wpc c (k ⟨⟩) Q)
          -∗ wpc c (.op (.waitDma2 sm' srcw dstw hsrc hdst) k) Q) := by
  unfold crd pos
  iintro H Hk
  iapply (wp_rcv A K c hm hN l (fun x hx => Nat.lt_of_le_of_lt (lv_agR s h) (hl x hx)) 0 (by rw [rn_agR]; exact Nat.one_pos)) $$ H
  iintro ⟨HO, Hp, -, Hd⟩
  iapply Hk
  isplitl [HO]; · iexact HO
  isplitl [Hp]; · iexact Hp
  iapply (Entails.of_eq (dpay_agR A c s h)); iexact Hd

/-- The partial result from the device `3 - s` places on has arrived. -/
theorem wp_rsw {α : Type} {Q : α → sProp 𝕄} {k : PUnit → Prog (TpuEff nD τ sig (Elt F) Λ₀ .tc) α} (s : Fin 3) (h : Fin 2) (hm : sm' = dS (rsRi s h)) (hN : dstw.view.dmaCredit = N) :
    iprop(Ctx A K ∗ crd c (rsRi s h) ∗ Ow c lR0 ∗ pos c (rsRi s h) 0)
      ⊢ iprop(((Ow c lR0 ∗ pos c (rsRi s h) 1 ∗ Own c (rsM s.castSucc h) fullShare (pk (part A (peer c (3 - s.val)) c h))) -∗ wpc c (k ⟨⟩) Q)
          -∗ wpc c (.op (.waitDma2 sm' srcw dstw hsrc hdst) k) Q) := by
  unfold crd pos
  iintro H Hk
  iapply (wp_rcv A K c hm hN lR0 (fun x hx => absurd hx List.not_mem_nil) 0 (by rw [rn_rsR]; exact Nat.one_pos)) $$ H
  iintro ⟨HO, Hp, -, Hd⟩
  iapply Hk
  isplitl [HO]; · iexact HO
  isplitl [Hp]; · iexact Hp
  iapply (Entails.of_eq (dpay_rsR A c s h)); iexact Hd

/-- The own rows have left. -/
theorem wp_agsw {α : Type} {Q : α → sProp 𝕄} {k : PUnit → Prog (TpuEff nD τ sig (Elt F) Λ₀ .tc) α} (s : Fin 3) (h : Fin 2) (hm : sm' = dS (agSi s h)) (hN : dstw.view.dmaCredit = N) :
    iprop(Ctx A K ∗ crd c (agSi s h) ∗ Ow c lR0 ∗ pos c (agSi s h) 0)
      ⊢ iprop(((Ow c lR0 ∗ pos c (agSi s h) 1) -∗ wpc c (k ⟨⟩) Q)
          -∗ wpc c (.op (.waitDma2 sm' srcw dstw hsrc hdst) k) Q) := by
  unfold crd pos
  iintro H Hk
  iapply (wp_rcv A K c hm hN lR0 (fun x hx => absurd hx List.not_mem_nil) 0 (by rw [rn_agS]; exact Nat.one_pos)) $$ H
  iintro ⟨HO, Hp, -, -⟩
  iapply Hk
  isplitl [HO]; · iexact HO
  iexact Hp

/-- The partial result in a staging slot has left: the slot is free again. -/
theorem wp_sgw {α : Type} {Q : α → sProp 𝕄} {k : PUnit → Prog (TpuEff nD τ sig (Elt F) Λ₀ .tc) α} (h : Fin 2) (r : ℕ) (hr : r < 3) (hm : sm' = dS (sgSi h)) (hN : dstw.view.dmaCredit = N) (l : Debts) (hl : ∀ x ∈ l, 2 < lvl x.2.1) :
    iprop(Ctx A K ∗ crd c (sgSi h) ∗ Ow c l ∗ pos c (sgSi h) r)
      ⊢ iprop(((Ow c l ∗ pos c (sgSi h) (r + 1) ∗ reached ER (dcell c (sgSi h)) (r + 1) ∗ (∃ X, Own c (rss h) fullShare X)) -∗ wpc c (k ⟨⟩) Q)
          -∗ wpc c (.op (.waitDma2 sm' srcw dstw hsrc hdst) k) Q) := by
  unfold crd pos
  iintro H Hk
  iapply (wp_rcv A K c hm hN l (fun x hx => Nat.lt_of_le_of_lt (lv_sgS h) (hl x hx)) r
    (Nat.lt_of_lt_of_eq hr (rn_sgS h).symm)) $$ H
  iintro ⟨HO, Hp, Hr, Hd⟩
  iapply Hk
  isplitl [HO]; · iexact HO
  isplitl [Hp]; · iexact Hp
  isplitl [Hr]; · iexact Hr
  iapply (Entails.of_eq (dpay_sgS A c h)); iexact Hd

end Between

/-! ## Staging copies -/

section Copies
variable {sp sp' : Space}

/-- A copy of half a block on its way. -/
def cpf (src : Memref sig .tc sp S1024x2048 .bf16) (dst : Memref sig .tc sp' S1024x2048 .bf16) (q : PosShare TreeShare) (X : HB F) : sProp 𝕄 :=
  Flight EC (c : Thread nD τ) (.dma lcS) () N iprop(Own c dst fullShare X ∗ Own c src q X)
def lc0 : sProp 𝕄 := semVal ((c : Thread nD τ), .dma lcS) 0

theorem wp_c1 {α : Type} {Q : α → sProp 𝕄} {k : PUnit → Prog (TpuEff nD τ sig (Elt F) Λ₀ .tc) α} {src src' : Memref sig .tc sp S1024x2048 .bf16} {dst dst' : Memref sig .tc sp' S1024x2048 .bf16} {sm' : DmaSem sig}
    (hs : src' = src) (hd : dst' = dst) (hm : sm' = lcS) (hN : dst.view.dmaCredit = N)
    {hsrc : src'.view.WordExact} {hdst : dst'.view.WordExact} {hsem : DmaTarget.Typed (nD := nD) (τ := τ) sp (.dma sm') (.here dst' : DmaTarget nD τ sig .tc sp' S1024x2048 .bf16)}
    {q : PosShare TreeShare} {X : HB F} :
    iprop(Own c src q X ∗ (∃ Y, Own c dst fullShare Y) ∗ lc0 c)
      ⊢ iprop((cpf c src dst q X -∗ wpc c (k ⟨⟩) Q) -∗ wpc c (.op (.enqueueDma src' (.here dst') (.dma sm') hsrc hdst hsem) k) Q) := by
  unfold cpf lc0
  iintro ⟨Hs, ⟨%Y, Hd⟩, Hv⟩ Hk
  rw [← hN]
  iapply (wp_dma c hs hd hm X Y h_S1024x2048 (q := q)) $$ [Hs Hd Hv]
  · isplitl [Hs]; · iexact Hs
    isplitl [Hd]; · iexact Hd
    iexact Hv
  iexact Hk

theorem wp_c2 {α : Type} {Q : α → sProp 𝕄} {k : PUnit → Prog (TpuEff nD τ sig (Elt F) Λ₀ .tc) α} {s0 s' : Shape} {e e' : EltTy} {sp1 sp2 : Space} {srcw : Memref sig .tc sp1 s' e'} {dstw : Memref sig .tc sp2 s0 e} {hsrc : srcw.view.WordExact} {hdst : dstw.view.WordExact} {sm' : DmaSem sig}
    {src : Memref sig .tc sp S1024x2048 .bf16} {dst : Memref sig .tc sp' S1024x2048 .bf16}
    (hm : sm' = lcS) (hn : dstw.view.dmaCredit = N) (l : Debts) (hl : ∀ x ∈ l, 2 < lvl x.2.1) {q : PosShare TreeShare} {X : HB F} :
    iprop(Ctx A K ∗ cpf c src dst q X ∗ Ow c l)
      ⊢ iprop(((Own c dst fullShare X ∗ Own c src q X ∗ lc0 c ∗ Ow c l) -∗ wpc c (k ⟨⟩) Q)
          -∗ wpc c (.op (.waitDma2 sm' srcw dstw hsrc hdst) k) Q) := by
  unfold cpf lc0
  iintro H Hk
  iapply (wp_wt A K c hm hn l (fun x hx => Nat.lt_of_le_of_lt (Nat.zero_le 2) (hl x hx))) $$ H
  iintro ⟨⟨Hd, Hs⟩, Hv, HO⟩
  iapply Hk
  isplitl [Hd]; · iexact Hd
  isplitl [Hs]; · iexact Hs
  isplitl [Hv]; · iexact Hv
  iexact HO

/-- Load a staging slot. -/
theorem wp_ldR {α : Type} {Q : α → sProp 𝕄} (off : Fin 3 → ℕ) {h} {hl} (hf : Fin 2) (ho : off = ![hf.val, 0, 0])
    {k : (S1x1024x2048.Idx → Elt F .bf16) → Prog (TpuEff nD τ sig (Elt F) Λ₀ .tc) α} {X : HB F} :
    Own c (rss hf) fullShare X ⊢ iprop((Own c (rss hf) fullShare X -∗ wpc c (k (shapeCast S1x1024x2048 X sc_h)) Q)
      -∗ wpc c (.op (.load (Memref.whole cc0_scratch5 : Memref sig .tc .vmem S2x1024x2048 .bf16) (Rect.unit (s := S2x1024x2048) off S1x1024x2048.size h).toLoadRect hl) k) Q) :=
  wp_ldS c (fun _ => rfl) squeezes_S1x1024x2048_S1024x2048 (rssW off hf ho) sc_h X
/-- Store to a staging slot. -/
theorem wp_stR {α : Type} {Q : α → sProp 𝕄} {k : PUnit → Prog (TpuEff nD τ sig (Elt F) Λ₀ .tc) α} (off : Fin 3 → ℕ) {h} {v : S1x1024x2048.Idx → Elt F .bf16} {hx} {hm} (hf : Fin 2) (ho : off = ![hf.val, 0, 0])
    (Z : HB F) (hv : shapeCast S1024x2048 v shapeCasts_S1x1024x2048_S1024x2048 = Z) {X : HB F} :
    Own c (rss hf) fullShare X ⊢ iprop((Own c (rss hf) fullShare Z -∗ wpc c (k ⟨⟩) Q)
      -∗ wpc c (.op (.store (Memref.whole cc0_scratch5 : Memref sig .tc .vmem S2x1024x2048 .bf16) (Rect.unit (s := S2x1024x2048) off S1x1024x2048.size h) v Finset.univ hx hm) k) Q) := by
  subst hv
  exact wp_stS c (fun _ => rfl) squeezes_S1x1024x2048_S1024x2048 (rssW off hf ho) shapeCasts_S1x1024x2048_S1024x2048 X

end Copies

/-- Rounding a partial result and storing it as a slot. -/
theorem put_eq (Z : HA F) : shapeCast S1024x2048 (k0_pay51 Z) shapeCasts_S1x1024x2048_S1024x2048 = pk Z :=
  shapeCast_shapeCast _ _ _
theorem put_54 (Z : HA F) : shapeCast S1024x2048 (k0_pay54 Z) shapeCasts_S1x1024x2048_S1024x2048 = pk Z := put_eq Z
theorem put_58 (Z : HA F) : shapeCast S1024x2048 (k0_pay58 Z) shapeCasts_S1x1024x2048_S1024x2048 = pk Z := put_eq Z
theorem put_61 (Z : HA F) : shapeCast S1024x2048 (k0_pay61 Z) shapeCasts_S1x1024x2048_S1024x2048 = pk Z := put_eq Z
theorem put_64 (Z : HA F) : shapeCast S1024x2048 (k0_pay64 Z) shapeCasts_S1x1024x2048_S1024x2048 = pk Z := put_eq Z
theorem put_67 (Z : HA F) : shapeCast S1024x2048 (k0_pay67 Z) shapeCasts_S1x1024x2048_S1024x2048 = pk Z := put_eq Z
theorem put_70 (Z : HA F) : shapeCast S1024x2048 (k0_pay70 Z) shapeCasts_S1x1024x2048_S1024x2048 = pk Z := put_eq Z

/-- The accumulator cleared. -/
theorem clr {h} {v : HA F} (X : HA F) (hv : v = k0_pay49) :
    (Rect.unit (s := S1024x2048) ![0, 0] S1024x2048.size h).overlay X v = k0_pay49 := (ov_whole h X v).trans hv
theorem clr_52 : (k0_pay52 : FVec F S1024x2048 .f32) = k0_pay49 := rfl
theorem clr_59 : (k0_pay59 : FVec F S1024x2048 .f32) = k0_pay49 := rfl
theorem clr_62 : (k0_pay62 : FVec F S1024x2048 .f32) = k0_pay49 := rfl
theorem clr_65 : (k0_pay65 : FVec F S1024x2048 .f32) = k0_pay49 := rfl
theorem clr_68 : (k0_pay68 : FVec F S1024x2048 .f32) = k0_pay49 := rfl
theorem clr_71 : (k0_pay71 : FVec F S1024x2048 .f32) = k0_pay49 := rfl
theorem clr_56 : (k0_pay56 (k0_pay55 (F := F)) : FVec F S1024x2048 .f32) = k0_pay49 := rfl

/-! ## The loop, with what is kept between loops apart -/

/-- The weights' pipeline between two loops, and the hidden buffer. -/
def Wt : sProp 𝕄 :=
  iprop((∃ H, Own c hbM fullShare H) ∗ fly1 c (A.w1 c) (sl 0) (ck 0) ∗ free1 c (A.w1 c) (sl 1) ∗ fly2 c (A.w2 c) (sl 0) (gix 0) ∗ free2 c (A.w2 c) (sl 1))

theorem wp_mlp (l : Debts) (hl : ∀ x ∈ l, 2 < lvl x.2.1) (X : HB F)
    {α : Type} {Q : α → sProp 𝕄} {k : Unit → Prog (TpuEff nD τ sig (Elt F) Λ₀ .tc) α} :
    iprop(Ctx A K ∗ Wt A c ∗ Own c xsM fullShare X ∗ Own c acM fullShare k0_pay49 ∗ Ow c l)
      ⊢ iprop(((Wt A c ∗ Own c xsM fullShare X ∗ Own c acM fullShare (mlp X (A.w1 c) (A.w2 c)) ∗ Ow c l) -∗ wpc c (k ⟨⟩) Q)
      -∗ wpc c (Scf.for k0_t1_loop.lb k0_t1_loop.ub k0_t1_loop.st k0_t1_ok ⟨⟩ (fun t _ => trip t) >>= k) Q) := by
  unfold Wt
  iintro ⟨#HC, ⟨HH, H1, H2, H3, H4⟩, HX, HA, HO⟩ Hk
  iapply (sound_loop c (A.w1 c) (A.w2 c) A K l (fun x hx => Nat.lt_of_le_of_lt (Nat.zero_le 2) (hl x hx)) X) $$ [HH H1 H2 H3 H4 HX HA HO]
  · isplitr; · iexact HC
    unfold Inv
    isplitl [HX]; · iexact HX
    isplitl [HA]; · iexact HA
    isplitl [HH]; · iexact HH
    isplitl [H1]; · iexact H1
    isplitl [H2]; · iexact H2
    isplitl [H3]; · iexact H3
    isplitl [H4]; · iexact H4
    iexact HO
  iintro HI
  ihave HI := (Entails.of_eq (loop_end c (A.w1 c) (A.w2 c) l X)) $$ HI
  icases HI with ⟨HX, HA, HH, H1, H2, H3, H4, HO⟩
  iapply Hk
  isplitl [HH H1 H2 H3 H4]
  · isplitl [HH]; · iexact HH
    isplitl [H1]; · iexact H1
    isplitl [H2]; · iexact H2
    isplitl [H3]; · iexact H3
    iexact H4
  isplitl [HX]; · iexact HX
  isplitl [HA]; · iexact HA
  iexact HO

end Cert.KProof

end
-- ==== Proof.Jobs.lean ====
/-
The recurring jobs of the kernel's body: fetch a landed half block, clear the accumulator and run the loop, put the
partial result into a staging slot, bring back a partial result that has landed.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.ValueIdx (ix2)

variable {F : FTy → Type} [FloatOps F]

local notation "𝕄" => MT nD τ sig Unit (Elt F) ℕ UU ℕ

variable (A : Args F) (K : Dev nD × Option (Fin 20) → ℕ) (c : Dev nD)

/-- The partial result, rounded, of the device `3 - s` places on for half `h` of the own rows. -/
abbrev got (s : Fin 3) (h : Fin 2) : HB F := pk (part A (peer c (3 - s.val)) c h)

section Landing
variable {sp sp' : Space} {s0 s' : Shape} {e e' : EltTy} {srcw : Memref sig .tc sp' s' e'} {dstw : Memref sig .tc sp s0 e} {hsrc : srcw.view.WordExact} {hdst : dstw.view.WordExact} {sm' : DmaSem sig}

/-- The rows of the device `d` places on have arrived. -/
theorem wp_land {α : Type} {Q : α → sProp 𝕄} {k : PUnit → Prog (TpuEff nD τ sig (Elt F) Λ₀ .tc) α} (s : Fin 3) (h : Fin 2) (d : ℕ) (hd : 3 - s.val = d) (hm : sm' = dS (agRi s h)) (hN : dstw.view.dmaCredit = N) (l : Debts) (hl : ∀ x ∈ l, 2 < lvl x.2.1) :
    iprop(Ctx A K ∗ crd c (agRi s h) ∗ pos c (agRi s h) 0 ∗ Ow c l)
      ⊢ iprop(((pos c (agRi s h) 1 ∗ Own c (agM s h) fullShare (xh A (peer c d) h) ∗ Ow c l) -∗ wpc c (k ⟨⟩) Q)
          -∗ wpc c (.op (.waitDma2 sm' srcw dstw hsrc hdst) k) Q) := by
  subst hd
  iintro ⟨#HC, Hc, Hp, HO⟩ Hk
  iapply (wp_agw A K c s h hm hN l hl) $$ [Hc Hp HO]
  · isplitr; · iexact HC
    isplitl [Hc]; · iexact Hc
    isplitl [HO]; · iexact HO
    iexact Hp
  iintro ⟨HO, Hp, Hs⟩
  iapply Hk
  isplitl [Hp]; · iexact Hp
  isplitl [Hs]; · iexact Hs
  iexact HO

end Landing

/-- Send staging slot `h` to the device `d` places on. -/
theorem wp_give {α : Type} {Q : α → sProp 𝕄} {k : PUnit → Prog (TpuEff nD τ sig (Elt F) Λ₀ .tc) α} (s : Fin 3) (h : Fin 2) (d r : ℕ) (hd : s.val + 1 = d) (hr : s.val = r) (l : Debts) {n : Dev nD} (hn : n = peer c d)
    {src' : Memref sig .tc .vmem S1024x2048 .bf16} {dst' : Memref sig .tc .hbm S1024x2048 .bf16} (hs : src' = rss h) (hd' : dst' = rsM s.castSucc h)
    {smS smR : DmaSem sig} (hi : smS = dS (sgSi h)) (hj : smR = dS (rsRi s h))
    {hsc : (dst' : Memref sig (Dev.tc n : Thread nD τ).2.kind .hbm S1024x2048 .bf16).view.ref.isScScratch = false}
    {hsrc : src'.view.WordExact} {hdst : dst'.view.WordExact}
    {hsem : DmaTarget.Typed (nD := nD) (τ := τ) .vmem (.dma smR) (.remote (Dev.tc n : Thread nD τ) dst' (.dma smS) hsc)} :
    iprop(Ctx A K ∗ Own c (rss h) fullShare (pk (part A c (peer c d) h)) ∗ (∃ Y, Own (peer c d) (rsM s.castSucc h) fullShare Y)
        ∗ rsT c s h ∗ reached ER (dcell c (sgSi h)) r ∗ Ow c (dR s h :: l))
      ⊢ iprop(((crd c (sgSi h) ∗ Ow c l) -∗ wpc c (k ⟨⟩) Q)
          -∗ wpc c (.op (.enqueueDma src' (.remote (Dev.tc n : Thread nD τ) dst' (.dma smS) hsc) (.dma smR) hsrc hdst hsem) k) Q) := by
  subst hd hr
  iintro ⟨#HC, Hs, Hd, Ht, Hr, HO⟩ Hk
  iapply (wp_srs A K c s h l hn hs hd' hi hj) $$ [Hs Hd Ht Hr HO]
  · isplitr; · iexact HC
    isplitl [Hs]; · iexact Hs
    isplitl [Hd]; · iexact Hd
    isplitl [HO]; · iexact HO
    isplitl [Ht]; · iexact Ht
    iexact Hr
  iexact Hk

/-- The loop on the rows of device `d`. -/
theorem wp_comp {α : Type} {Q : α → sProp 𝕄} {k : Unit → Prog (TpuEff nD τ sig (Elt F) Λ₀ .tc) α} (d : Dev nD) (h : Fin 2) (l : Debts) (hl : ∀ x ∈ l, 2 < lvl x.2.1) :
    iprop(Ctx A K ∗ Wt A c ∗ Own c xsM fullShare (xh A d h) ∗ Own c acM fullShare k0_pay49 ∗ Ow c l)
      ⊢ iprop(((Wt A c ∗ (∃ X, Own c xsM fullShare X) ∗ Own c acM fullShare (part A c d h) ∗ Ow c l) -∗ wpc c (k ⟨⟩) Q)
        -∗ wpc c (Scf.for k0_t1_loop.lb k0_t1_loop.ub k0_t1_loop.st k0_t1_ok ⟨⟩ (fun t _ => trip t) >>= k) Q) := by
  unfold part
  iintro H Hk
  iapply (wp_mlp A K c l hl (xh A d h)) $$ H
  iintro ⟨HW, HX, HA, HO⟩
  iapply Hk
  isplitl [HW]; · iexact HW
  isplitl [HX]; · iexists _; iexact HX
  isplitl [HA]; · iexact HA
  iexact HO

/-- The block of results from a rounded first partial result and the three that landed. -/
def out0 : HB F := shapeCast S1024x2048 (k0_pay75 (k0_pay74 (k0_pay73 (shapeCast S1x1024x2048 (pk (part A c c 0)) sc_h)) (shapeCast S1x1024x2048 (got A c 0 0) sc_h) (shapeCast S1x1024x2048 (got A c 1 0) sc_h)) (shapeCast S1x1024x2048 (got A c 2 0) sc_h)) shapeCasts_S1x1024x2048_S1024x2048
/-- The block of results from an unrounded first partial result and the three that landed. -/
def out1 : HB F := shapeCast S1024x2048 (k0_pay77 (k0_pay76 (part A c c 1) (shapeCast S1x1024x2048 (got A c 0 1) sc_h) (shapeCast S1x1024x2048 (got A c 1 1) sc_h)) (shapeCast S1x1024x2048 (got A c 2 1) sc_h)) shapeCasts_S1x1024x2048_S1024x2048

/-- Wait for the half block in landing slot `s` and copy it to the staging buffer. -/
theorem wp_fetch {α : Type} {Q : α → sProp 𝕄} {k : PUnit → Prog (TpuEff nD τ sig (Elt F) Λ₀ .tc) α} (s : Fin 3) (h : Fin 2) (d : ℕ) (hd : 3 - s.val = d) (l : Debts) (hl : ∀ x ∈ l, 2 < lvl x.2.1)
    {sp1 sp2 sp3 : Space} {s1 s2 s3 : Shape} {e1 e2 e3 : EltTy} {srcw : Memref sig .tc sp1 s1 e1} {dstw : Memref sig .tc sp2 s2 e2} {srcw' : Memref sig .tc sp3 s3 e3}
    {h1 : srcw.view.WordExact} {h2 : dstw.view.WordExact} {h3 : srcw'.view.WordExact} {smR smL : DmaSem sig} {src' : Memref sig .tc .hbm S1024x2048 .bf16}
    {h4 : src'.view.WordExact} {h5 h6 : xsM.view.WordExact} {h7 : DmaTarget.Typed (nD := nD) (τ := τ) .hbm (.dma smL) (.here xsM : DmaTarget nD τ sig .tc .vmem S1024x2048 .bf16)}
    (hR : smR = dS (agRi s h)) (hL : smL = lcS) (hs : src' = agM s h) (hN : dstw.view.dmaCredit = N) :
    iprop(Ctx A K ∗ crd c (agRi s h) ∗ pos c (agRi s h) 0 ∗ (∃ X, Own c xsM fullShare X) ∗ lc0 c ∗ Ow c l)
      ⊢ iprop(((pos c (agRi s h) 1 ∗ Own c xsM fullShare (xh A (peer c d) h) ∗ lc0 c ∗ Ow c l) -∗ wpc c (k ⟨⟩) Q)
        -∗ wpc c (.op (.waitDma2 smR srcw dstw h1 h2) fun _ => .op (.enqueueDma src' (.here xsM) (.dma smL) h4 h5 h7) fun _ => .op (.waitDma2 smL srcw' xsM h3 h6) k) Q) := by
  iintro ⟨#HC, Hc, Hp, HX, Hv, HO⟩ Hk
  iapply (wp_land A K c s h d hd hR hN l hl) $$ [Hc Hp HO]
  · isplitr; · iexact HC
    isplitl [Hc]; · iexact Hc
    isplitl [Hp]; · iexact Hp
    iexact HO
  iintro ⟨Hp, Hs, HO⟩
  iapply (wp_c1 c hs rfl hL crXs) $$ [Hs HX Hv]
  · isplitl [Hs]; · iexact Hs
    isplitl [HX]; · iexact HX
    iexact Hv
  iintro Hf
  iapply (wp_c2 A K c hL crXs l hl) $$ [Hf HO]
  · isplitr; · iexact HC
    isplitl [Hf]; · iexact Hf
    iexact HO
  iintro ⟨HX, -, Hv, HO⟩
  iapply Hk
  isplitl [Hp]; · iexact Hp
  isplitl [HX]; · iexact HX
  isplitl [Hv]; · iexact Hv
  iexact HO

/-- Clear the accumulator and run the loop on the staged half block. -/
theorem wp_run {α : Type} {Q : α → sProp 𝕄} {k : Unit → Prog (TpuEff nD τ sig (Elt F) Λ₀ .tc) α} {v : HA F} (hv : v = k0_pay49) (d : Dev nD) (h : Fin 2) (l : Debts) (hl : ∀ x ∈ l, 2 < lvl x.2.1)
    {h1 h2} {h3 : acM.view.LoadsAt (Rect.unit (s := S1024x2048) ![0, 0] S1024x2048.size h1).toLoadRect} {h4 : (acM.access (Rect.unit (s := S1024x2048) ![0, 0] S1024x2048.size h2)).Stores Finset.univ} {h5} :
    iprop(Ctx A K ∗ Wt A c ∗ Own c xsM fullShare (xh A d h) ∗ (∃ Z, Own c acM fullShare Z) ∗ Ow c l)
      ⊢ iprop(((Wt A c ∗ (∃ X, Own c xsM fullShare X) ∗ Own c acM fullShare (part A c d h) ∗ Ow c l) -∗ wpc c (k ⟨⟩) Q)
        -∗ wpc c (.op (.load acM (Rect.unit (s := S1024x2048) ![0, 0] S1024x2048.size h1).toLoadRect h3) fun _ =>
            .op (.store acM (Rect.unit (s := S1024x2048) ![0, 0] S1024x2048.size h2) v Finset.univ h4 h5) fun _ =>
            Scf.for k0_t1_loop.lb k0_t1_loop.ub k0_t1_loop.st k0_t1_ok ⟨⟩ (fun t _ => trip t) >>= k) Q) := by
  iintro ⟨#HC, HW, HX, ⟨%Z, HA⟩, HO⟩ Hk
  iapply (wp_ld c _ _ (emb_whole _ Z)) $$ HA; iintro HA
  iapply (wp_st c _ _ (clr _ hv)) $$ HA; iintro HA
  iapply (wp_comp A K c d h l hl) $$ [HW HX HA HO]
  · isplitr; · iexact HC
    isplitl [HW]; · iexact HW
    isplitl [HX]; · iexact HX
    isplitl [HA]; · iexact HA
    iexact HO
  iexact Hk

/-- Round the accumulator into staging slot `h`. -/
theorem wp_put {α : Type} {Q : α → sProp 𝕄} {k : PUnit → Prog (TpuEff nD τ sig (Elt F) Λ₀ .tc) α} (h : Fin 2) (off : Fin 3 → ℕ) (ho : off = ![h.val, 0, 0]) {v : HA F → S1x1024x2048.Idx → Elt F .bf16}
    (hv : ∀ Z, shapeCast S1024x2048 (v Z) shapeCasts_S1x1024x2048_S1024x2048 = pk Z) (Z : HA F)
    {h1 h2 h6} {h3 : acM.view.LoadsAt (Rect.unit (s := S1024x2048) ![0, 0] S1024x2048.size h1).toLoadRect}
    {h4 : (Memref.whole cc0_scratch5 : Memref sig .tc .vmem S2x1024x2048 .bf16).view.LoadsAt (Rect.unit (s := S2x1024x2048) off S1x1024x2048.size h2).toLoadRect}
    {h5 : ((Memref.whole cc0_scratch5 : Memref sig .tc .vmem S2x1024x2048 .bf16).access (Rect.unit (s := S2x1024x2048) off S1x1024x2048.size h2)).Stores Finset.univ} :
    iprop(Own c acM fullShare Z ∗ (∃ X, Own c (rss h) fullShare X))
      ⊢ iprop(((Own c acM fullShare Z ∗ Own c (rss h) fullShare (pk Z)) -∗ wpc c (k ⟨⟩) Q)
        -∗ wpc c (.op (.load acM (Rect.unit (s := S1024x2048) ![0, 0] S1024x2048.size h1).toLoadRect h3) fun a =>
            .op (.load (Memref.whole cc0_scratch5 : Memref sig .tc .vmem S2x1024x2048 .bf16) (Rect.unit (s := S2x1024x2048) off S1x1024x2048.size h2).toLoadRect h4) fun _ =>
            .op (.store (Memref.whole cc0_scratch5 : Memref sig .tc .vmem S2x1024x2048 .bf16) (Rect.unit (s := S2x1024x2048) off S1x1024x2048.size h2) (v a) Finset.univ h5 h6) k) Q) := by
  iintro ⟨HA, ⟨%X, HR⟩⟩ Hk
  iapply (wp_ld c _ _ (emb_whole _ Z)) $$ HA; iintro HA
  iapply (wp_ldR c off h ho) $$ HR; iintro HR
  iapply (wp_stR c off h ho _ (hv Z)) $$ HR; iintro HR
  iapply Hk
  isplitl [HA]; · iexact HA
  iexact HR

/-- Wait for the partial result in landing slot `s`, copy it to staging slot `h` and load it. -/
theorem wp_back {α : Type} {Q : α → sProp 𝕄} {k : (S1x1024x2048.Idx → Elt F .bf16) → Prog (TpuEff nD τ sig (Elt F) Λ₀ .tc) α} (s : Fin 3) (h : Fin 2) (off : Fin 3 → ℕ) (ho : off = ![h.val, 0, 0])
    {sp1 sp2 sp3 sp4 : Space} {s1 s2 s3 s4 : Shape} {e1 e2 e3 e4 : EltTy} {srcw : Memref sig .tc sp1 s1 e1} {dstw : Memref sig .tc sp2 s2 e2} {srcw' : Memref sig .tc sp3 s3 e3} {dstw' : Memref sig .tc sp4 s4 e4}
    {h1 : srcw.view.WordExact} {h2 : dstw.view.WordExact} {h3 : srcw'.view.WordExact} {h6 : dstw'.view.WordExact} {smR smL : DmaSem sig} {src' : Memref sig .tc .hbm S1024x2048 .bf16} {dst' : Memref sig .tc .vmem S1024x2048 .bf16}
    {h4 : src'.view.WordExact} {h5 : dst'.view.WordExact} {h7 : DmaTarget.Typed (nD := nD) (τ := τ) .hbm (.dma smL) (.here dst' : DmaTarget nD τ sig .tc .vmem S1024x2048 .bf16)}
    {h8} {h9 : (Memref.whole cc0_scratch5 : Memref sig .tc .vmem S2x1024x2048 .bf16).view.LoadsAt (Rect.unit (s := S2x1024x2048) off S1x1024x2048.size h8).toLoadRect}
    (hR : smR = dS (rsRi s h)) (hL : smL = lcS) (hs : src' = rsM s.castSucc h) (hd : dst' = rss h) (hN : dstw.view.dmaCredit = N) (hN' : dstw'.view.dmaCredit = N) :
    iprop(Ctx A K ∗ crd c (rsRi s h) ∗ pos c (rsRi s h) 0 ∗ (∃ X, Own c (rss h) fullShare X) ∗ lc0 c ∗ Ow c lR0)
      ⊢ iprop(((pos c (rsRi s h) 1 ∗ Own c (rss h) fullShare (got A c s h) ∗ lc0 c ∗ Ow c lR0) -∗ wpc c (k (shapeCast S1x1024x2048 (got A c s h) sc_h)) Q)
        -∗ wpc c (.op (.waitDma2 smR srcw dstw h1 h2) fun _ => .op (.enqueueDma src' (.here dst') (.dma smL) h4 h5 h7) fun _ => .op (.waitDma2 smL srcw' dstw' h3 h6) fun _ =>
            .op (.load (Memref.whole cc0_scratch5 : Memref sig .tc .vmem S2x1024x2048 .bf16) (Rect.unit (s := S2x1024x2048) off S1x1024x2048.size h8).toLoadRect h9) k) Q) := by
  iintro ⟨#HC, Hc, Hp, HX, Hv, HO⟩ Hk
  iapply (wp_rsw A K c s h hR hN) $$ [Hc Hp HO]
  · isplitr; · iexact HC
    isplitl [Hc]; · iexact Hc
    isplitl [HO]; · iexact HO
    iexact Hp
  iintro ⟨HO, Hp, Hs⟩
  iapply (wp_c1 c hs hd hL rfl) $$ [Hs HX Hv]
  · isplitl [Hs]; · iexact Hs
    isplitl [HX]; · iexact HX
    iexact Hv
  iintro Hf
  iapply (wp_c2 A K c hL hN' lR0 (fun x hx => absurd hx List.not_mem_nil)) $$ [Hf HO]
  · isplitr; · iexact HC
    isplitl [Hf]; · iexact Hf
    iexact HO
  iintro ⟨HX, -, Hv, HO⟩
  iapply (wp_ldR c off h ho) $$ HX; iintro HX
  iapply Hk
  isplitl [Hp]; · iexact Hp
  isplitl [HX]; · iexact HX
  isplitl [Hv]; · iexact Hv
  iexact HO

end Cert.KProof

end
-- ==== Proof.Parts.lean ====
/-
The parts of the kernel's body, in order: what each wants and what it leaves.
-/
module

public import proofs.«01_k».proof.Proof.Jobs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.ValueIdx (ix2)

variable {F : FTy → Type} [FloatOps F]

local notation "𝕄" => MT nD τ sig Unit (Elt F) ℕ UU ℕ

variable (A : Args F) (K : Dev nD × Option (Fin 20) → ℕ) (c : Dev nD)

theorem wpc_dev {α : Type} {Q : α → sProp 𝕄} {k : Dev nD → Prog (TpuEff nD τ sig (Elt F) Λ₀ .tc) α} :
    wpc c (k c) Q ⊢ wpc c (.op .deviceId k) Q := by
  unfold wpc
  rw [wp_deviceId]

/-- Every debt is to a later cell than those the gathering half waits on. -/
theorem lo_R (l : Debts) (h : l <:+ lR6) : ∀ x ∈ l, 2 < lvl x.2.1 := fun x hx => by
  have h6 : ∀ x ∈ lR6, 2 < lvl x.2.1 := by decide
  exact h6 x (h.subset hx)

/-- Signal the first two devices on. -/
theorem part33 {α : Type} {Q : α → sProp 𝕄} {k : (Σ' (d0 : Dev nD) (v2 : BitVec 32) (v3 : Sems sig S_) (v30 : BitVec 32) (c4_i32_18 : BitVec 32), BitVec 1) → Prog (TpuEff nD τ sig (Elt F) Λ₀ .tc) α}  :
    iprop(Ctx A K ∗ Ow c (dB 1 :: dB 2 :: dB 3 :: lA6) ∗ (dutyTok ER (bcell (peer c 1)) 0 1 ∗ barPay (F := F) (peer c 1) 1) ∗ (dutyTok ER (bcell (peer c 2)) 0 2 ∗ barPay (F := F) (peer c 2) 2))
      ⊢ iprop((∀ v2 v30 w v31, (Ow c (dB 3 :: lA6)) -∗ wpc c (k ⟨c, v2, SemArray.scalar (sig.barrier 0 rfl), v30, w, v31⟩) Q)
        -∗ wpc c (k0_part33 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12  >>= k) Q) := by
  iintro ⟨#HC, HO, ⟨Ht1, Hp1⟩, ⟨Ht2, Hp2⟩⟩ Hk
  iapply (wpc_bind c)
  rw [k0_part33_eq_skeleton]; unfold k0_part33_skel
  simp only [semSignalWord, semWaitWord, Prog.lift, Prog.bind_op, Prog.bind_ret, Prog.pure_eq_ret]
  iapply (wpc_dev c)
  iapply (wp_sig A K c 1 _ (dv1 c) (by decide) (dB 2 :: dB 3 :: lA6)) $$ [HO Ht1 Hp1]
  · isplitr; · iexact HC
    isplitl [HO]; · iexact HO
    isplitl [Ht1]; · iexact Ht1
    iexact Hp1
  iintro HO
  iapply (wp_sig A K c 2 _ (dv2 c) (by decide) (dB 3 :: lA6)) $$ [HO Ht2 Hp2]
  · isplitr; · iexact HC
    isplitl [HO]; · iexact HO
    isplitl [Ht2]; · iexact Ht2
    iexact Hp2
  iintro HO
  iapply (wpc_ret c)
  iapply Hk
  iexact HO

/-- Signal the third device on and wait for the three signals. -/
theorem part34 {α : Type} {Q : α → sProp 𝕄} {k : PUnit → Prog (TpuEff nD τ sig (Elt F) Λ₀ .tc) α} (v2 v30 w : BitVec 32) (v31 : BitVec 1) :
    iprop(Ctx A K ∗ Ow c (dB 3 :: lA6) ∗ (dutyTok ER (bcell (peer c 3)) 0 3 ∗ barPay (F := F) (peer c 3) 3) ∗ cred (tallyAt (bcell c) () 3) ∗ atPos ER (bcell c) 0 ∅ 0)
      ⊢ iprop(((Ow c lA6 ∗ atPos ER (bcell c) 1 ∅ 0 ∗ slots (F := F) c 0 ∗ slots (F := F) c 1 ∗ slots (F := F) c 2) -∗ wpc c (k ⟨⟩) Q)
        -∗ wpc c (k0_part34 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 (SemArray.scalar (sig.barrier 0 rfl)) v30 w v31 >>= k) Q) := by
  iintro ⟨#HC, HO, ⟨Ht1, Hp1⟩, Hc, Hp⟩ Hk
  iapply (wpc_bind c)
  rw [k0_part34_eq_skeleton]; unfold k0_part34_skel
  simp only [semSignalWord, semWaitWord, Prog.lift, Prog.bind_op, Prog.bind_ret, Prog.pure_eq_ret]
  iapply (wp_sig A K c 3 _ (dv3 c) (by decide) lA6) $$ [HO Ht1 Hp1]
  · isplitr; · iexact HC
    isplitl [HO]; · iexact HO
    isplitl [Ht1]; · iexact Ht1
    iexact Hp1
  iintro HO
  iapply (wp_bar A K c lA6 (by decide)) $$ [Hc HO Hp]
  · isplitr; · iexact HC
    isplitl [Hc]; · iexact Hc
    isplitl [HO]; · iexact HO
    iexact Hp
  iintro H
  iapply (wpc_ret c)
  iapply Hk
  iexact H

/-- Send both halves of the own rows to the device 1 places on. -/
theorem part35 {α : Type} {Q : α → sProp 𝕄} {k : BitVec 32 → Prog (TpuEff nD τ sig (Elt F) Λ₀ .tc) α} (q0 q1 : PosShare TreeShare) (v2 : BitVec 32) :
    iprop(Ctx A K ∗ (Own c (xM 0) q0 (xh A c 0) ∗ Own c (xM 1) q1 (xh A c 1)) ∗ ((∃ Y, Own (peer c ((0 : Fin 3).val + 1)) (agM 0 0) fullShare Y) ∗ (∃ Y, Own (peer c ((0 : Fin 3).val + 1)) (agM 0 1) fullShare Y)) ∗ (agT c 0 0 ∗ agT c 0 1) ∗ Ow c lA6)
      ⊢ iprop((∀ v, (crd c (agSi 0 0) ∗ crd c (agSi 0 1) ∗ Ow c lA4) -∗ wpc c (k v) Q)
        -∗ wpc c (k0_part35 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 >>= k) Q) := by
  iintro ⟨#HC, ⟨Hx0, Hx1⟩, ⟨Hd0, Hd1⟩, ⟨Ht0, Ht1⟩, HO⟩ Hk
  iapply (wpc_bind c)
  rw [k0_part35_eq_skeleton]; unfold k0_part35_skel
  simp only [semSignalWord, semWaitWord, Prog.lift, Prog.bind_op, Prog.bind_ret, Prog.pure_eq_ret]
  iapply (wp_sag A K c 0 0 lA5 q0 (dv4 c) (xW _ 0 rfl) (agW _ 0 0 rfl) (agSW _ 0 0 rfl) (agRW _ 0 0 rfl)) $$ [Hx0 Hd0 HO Ht0]
  · isplitr; · iexact HC
    isplitl [Hx0]; · iexact Hx0
    isplitl [Hd0]; · iexact Hd0
    isplitl [HO]; · iexact HO
    iexact Ht0
  iintro ⟨Hc0, HO⟩
  iapply (wp_sag A K c 0 1 lA4 q1 (dv5 c) (xW _ 1 rfl) (agW _ 0 1 rfl) (agSW _ 0 1 rfl) (agRW _ 0 1 rfl)) $$ [Hx1 Hd1 HO Ht1]
  · isplitr; · iexact HC
    isplitl [Hx1]; · iexact Hx1
    isplitl [Hd1]; · iexact Hd1
    isplitl [HO]; · iexact HO
    iexact Ht1
  iintro ⟨Hc1, HO⟩
  iapply (wpc_ret c)
  iapply Hk
  isplitl [Hc0]; · iexact Hc0
  isplitl [Hc1]; · iexact Hc1
  iexact HO

/-- Send both halves of the own rows to the device 2 places on. -/
theorem part36 {α : Type} {Q : α → sProp 𝕄} {k : BitVec 32 → Prog (TpuEff nD τ sig (Elt F) Λ₀ .tc) α} (q0 q1 : PosShare TreeShare) (v2 v93 : BitVec 32) :
    iprop(Ctx A K ∗ (Own c (xM 0) q0 (xh A c 0) ∗ Own c (xM 1) q1 (xh A c 1)) ∗ ((∃ Y, Own (peer c ((1 : Fin 3).val + 1)) (agM 1 0) fullShare Y) ∗ (∃ Y, Own (peer c ((1 : Fin 3).val + 1)) (agM 1 1) fullShare Y)) ∗ (agT c 1 0 ∗ agT c 1 1) ∗ Ow c lA4)
      ⊢ iprop((∀ v, (crd c (agSi 1 0) ∗ crd c (agSi 1 1) ∗ Ow c lA2) -∗ wpc c (k v) Q)
        -∗ wpc c (k0_part36 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v93 >>= k) Q) := by
  iintro ⟨#HC, ⟨Hx0, Hx1⟩, ⟨Hd0, Hd1⟩, ⟨Ht0, Ht1⟩, HO⟩ Hk
  iapply (wpc_bind c)
  rw [k0_part36_eq_skeleton]; unfold k0_part36_skel
  simp only [semSignalWord, semWaitWord, Prog.lift, Prog.bind_op, Prog.bind_ret, Prog.pure_eq_ret]
  iapply (wp_sag A K c 1 0 lA3 q0 (dv6 c) (xW _ 0 rfl) (agW _ 1 0 rfl) (agSW _ 1 0 rfl) (agRW _ 1 0 rfl)) $$ [Hx0 Hd0 HO Ht0]
  · isplitr; · iexact HC
    isplitl [Hx0]; · iexact Hx0
    isplitl [Hd0]; · iexact Hd0
    isplitl [HO]; · iexact HO
    iexact Ht0
  iintro ⟨Hc0, HO⟩
  iapply (wp_sag A K c 1 1 lA2 q1 (dv7 c) (xW _ 1 rfl) (agW _ 1 1 rfl) (agSW _ 1 1 rfl) (agRW _ 1 1 rfl)) $$ [Hx1 Hd1 HO Ht1]
  · isplitr; · iexact HC
    isplitl [Hx1]; · iexact Hx1
    isplitl [Hd1]; · iexact Hd1
    isplitl [HO]; · iexact HO
    iexact Ht1
  iintro ⟨Hc1, HO⟩
  iapply (wpc_ret c)
  iapply Hk
  isplitl [Hc0]; · iexact Hc0
  isplitl [Hc1]; · iexact Hc1
  iexact HO

/-- Send the first half of the own rows to the device three places on. -/
theorem part37 {α : Type} {Q : α → sProp 𝕄} {k : BitVec 32 → Prog (TpuEff nD τ sig (Elt F) Λ₀ .tc) α} (q : PosShare TreeShare) (v2 v123 : BitVec 32) :
    iprop(Ctx A K ∗ Own c (xM 0) q (xh A c 0) ∗ (∃ Y, Own (peer c ((2 : Fin 3).val + 1)) (agM 2 0) fullShare Y) ∗ agT c 2 0 ∗ Ow c lA2)
      ⊢ iprop((∀ v, (crd c (agSi 2 0) ∗ Ow c lA1) -∗ wpc c (k v) Q)
        -∗ wpc c (k0_part37 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v123 >>= k) Q) := by
  iintro ⟨#HC, Hx0, Hd0, Ht0, HO⟩ Hk
  iapply (wpc_bind c)
  rw [k0_part37_eq_skeleton]; unfold k0_part37_skel
  simp only [semSignalWord, semWaitWord, Prog.lift, Prog.bind_op, Prog.bind_ret, Prog.pure_eq_ret]
  iapply (wp_sag A K c 2 0 lA1 q (dv8 c) (xW _ 0 rfl) (agW _ 2 0 rfl) (agSW _ 2 0 rfl) (agRW _ 2 0 rfl)) $$ [Hx0 Hd0 HO Ht0]
  · isplitr; · iexact HC
    isplitl [Hx0]; · iexact Hx0
    isplitl [Hd0]; · iexact Hd0
    isplitl [HO]; · iexact HO
    iexact Ht0
  iintro H
  iapply (wpc_ret c)
  iapply Hk
  iexact H

/-- Send the second half to the device three places on, start the weights' transfers, stage the own first half and clear the accumulator. -/
theorem part38 {α : Type} {Q : α → sProp 𝕄} {k : (Σ' (c0_i32_152 : BitVec 32), BitVec 32) → Prog (TpuEff nD τ sig (Elt F) Λ₀ .tc) α} (q q1 : PosShare TreeShare) (v153 : BitVec 32) :
    iprop(Ctx A K ∗ Own c (xM 1) q (xh A c 1) ∗ (∃ Y, Own (peer c ((2 : Fin 3).val + 1)) (agM 2 1) fullShare Y) ∗ agT c 2 1 ∗ Ow c lA1 ∗ (∃ H, Own c hbM fullShare H) ∗ free1 c (A.w1 c) (sl 0) ∗ free1 c (A.w1 c) (sl 1) ∗ free2 c (A.w2 c) (sl 0) ∗ free2 c (A.w2 c) (sl 1) ∗ Own c (xM 0) q1 (xh A c 0) ∗ (∃ Y, Own c xsM fullShare Y) ∗ (∃ Y, Own c acM fullShare Y) ∗ lc0 c)
      ⊢ iprop((∀ v w, (crd c (agSi 2 1) ∗ Wt A c ∗ Own c xsM fullShare (xh A c 0) ∗ Own c acM fullShare k0_pay49 ∗ lc0 c ∗ Ow c lR6) -∗ wpc c (k ⟨v, w⟩) Q)
        -∗ wpc c (k0_part38 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v153 >>= k) Q) := by
  unfold Wt
  iintro ⟨#HC, Hx, Hd, Ht, HO, HH, H1, H2, H3, H4, Hx0, HX, ⟨%Z, HA⟩, Hv⟩ Hk
  iapply (wpc_bind c)
  rw [k0_part38_eq_skeleton]; unfold k0_part38_skel
  simp only [semSignalWord, semWaitWord, Prog.lift, Prog.bind_op, Prog.bind_ret, Prog.pure_eq_ret]
  iapply (wp_sag A K c 2 1 lR6 q (dv9 c) (xW _ 1 rfl) (agW _ 2 1 rfl) (agSW _ 2 1 rfl) (agRW _ 2 1 rfl)) $$ [Hx Hd HO Ht]
  · isplitr; · iexact HC
    isplitl [Hx]; · iexact Hx
    isplitl [Hd]; · iexact Hd
    isplitl [HO]; · iexact HO
    iexact Ht
  iintro ⟨Hc, HO⟩
  iapply (wp_i1 c (A.w1 c) (sl 0) (ck 0) (w1M_of (ck 0) rfl) (w1b_of (sl 0) rfl) (wS1_of (sl 0) rfl)) $$ H1; iintro H1
  iapply (wp_i2 c (A.w2 c) (sl 0) (gix 0) (w2M_of (gix 0) rfl) (w2b_of (sl 0) rfl) (wS2_of (sl 0) rfl)) $$ H3; iintro H3
  iapply (wp_c1 c (xW _ 0 rfl) rfl lcW crXs) $$ [Hx0 HX Hv]
  · isplitl [Hx0]; · iexact Hx0
    isplitl [HX]; · iexact HX
    iexact Hv
  iintro Hf
  iapply (wp_c2 A K c lcW crXs lR6 (by decide)) $$ [Hf HO]
  · isplitr; · iexact HC
    isplitl [Hf]; · iexact Hf
    iexact HO
  iintro ⟨HX, -, Hv, HO⟩
  iapply (wp_ld c _ _ (emb_whole _ Z)) $$ HA; iintro HA
  iapply (wp_st c _ _ (clr _ rfl)) $$ HA; iintro HA
  iapply (wpc_ret c)
  iapply Hk
  isplitl [Hc]; · iexact Hc
  isplitl [HH H1 H2 H3 H4]
  · isplitl [HH]; · iexact HH
    isplitl [H1]; · iexact H1
    isplitl [H2]; · iexact H2
    isplitl [H3]; · iexact H3
    iexact H4
  isplitl [HX]; · iexact HX
  isplitl [HA]; · iexact HA
  isplitl [Hv]; · iexact Hv
  iexact HO

/-- The loop on the own first half; the rounded result goes to the fourth landing slot; the first rows arrive. -/
theorem part39 {α : Type} {Q : α → sProp 𝕄} {k : PUnit → Prog (TpuEff nD τ sig (Elt F) Λ₀ .tc) α} (v2 v w : BitVec 32) :
    iprop(Ctx A K ∗ Wt A c ∗ Own c xsM fullShare (xh A c 0) ∗ Own c acM fullShare k0_pay49 ∗ (∃ Y, Own c (rss 0) fullShare Y) ∗ (∃ Y, Own c (rsM 3 0) fullShare Y) ∗ lc0 c ∗ Ow c lR6 ∗ crd c (agRi 2 0) ∗ pos c (agRi 2 0) 0)
      ⊢ iprop(((Wt A c ∗ (∃ Y, Own c xsM fullShare Y) ∗ (∃ Y, Own c acM fullShare Y) ∗ (∃ Y, Own c (rss 0) fullShare Y) ∗ Own c (rsM 3 0) fullShare (pk (part A c c 0)) ∗ lc0 c ∗ pos c (agRi 2 0) 1 ∗ Own c (agM 2 0) fullShare (xh A (peer c 1) 0) ∗ Ow c lR6) -∗ wpc c (k ⟨⟩) Q)
        -∗ wpc c (k0_part39 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 v w >>= k) Q) := by
  iintro ⟨#HC, HW, HX, HA, HR, HD, Hv, HO, Hc, Hp⟩ Hk
  iapply (wpc_bind c)
  rw [k0_part39_eq_skeleton]; unfold k0_part39_skel
  simp only [semSignalWord, semWaitWord, Prog.lift, Prog.bind_op, Prog.bind_ret, Prog.pure_eq_ret]
  rw [loop_1]
  iapply (wp_comp A K c c 0 lR6 (by decide)) $$ [HW HX HA HO]
  · isplitr; · iexact HC
    isplitl [HW]; · iexact HW
    isplitl [HX]; · iexact HX
    isplitl [HA]; · iexact HA
    iexact HO
  iintro ⟨HW, HX, HA, HO⟩
  iapply (wp_put c 0 _ rfl put_eq _) $$ [HA HR]
  · isplitl [HA]; · iexact HA
    iexact HR
  iintro ⟨HA, HR⟩
  iapply (wp_c1 c (rssW _ 0 rfl) (rsW _ 3 0 rfl) lcW rfl) $$ [HR HD Hv]
  · isplitl [HR]; · iexact HR
    isplitl [HD]; · iexact HD
    iexact Hv
  iintro Hf
  iapply (wp_c2 A K c lcW crRs lR6 (by decide)) $$ [Hf HO]
  · isplitr; · iexact HC
    isplitl [Hf]; · iexact Hf
    iexact HO
  iintro ⟨HD, HR, Hv, HO⟩
  iapply (wp_land A K c 2 0 1 rfl (agRW _ 2 0 rfl) crAg lR6 (by decide)) $$ [Hc Hp HO]
  · isplitr; · iexact HC
    isplitl [Hc]; · iexact Hc
    isplitl [Hp]; · iexact Hp
    iexact HO
  iintro ⟨Hp, Hs, HO⟩
  iapply (wpc_ret c)
  iapply Hk
  isplitl [HW]; · iexact HW
  isplitl [HX]; · iexact HX
  isplitl [HA]; · iexists _; iexact HA
  isplitl [HR]; · iexists _; iexact HR
  isplitl [HD]; · iexact HD
  isplitl [Hv]; · iexact Hv
  isplitl [Hp]; · iexact Hp
  isplitl [Hs]; · iexact Hs
  iexact HO

/-- Stage the first rows, run the loop and round the result into the first staging slot. -/
theorem part40 {α : Type} {Q : α → sProp 𝕄} {k : BitVec 32 → Prog (TpuEff nD τ sig (Elt F) Λ₀ .tc) α} (v2 : BitVec 32) :
    iprop(Ctx A K ∗ Own c (agM 2 0) fullShare (xh A (peer c 1) 0) ∗ (∃ Y, Own c xsM fullShare Y) ∗ lc0 c ∗ Ow c lR6 ∗ Wt A c ∗ (∃ Y, Own c acM fullShare Y) ∗ (∃ Y, Own c (rss 0) fullShare Y))
      ⊢ iprop((∀ v, (Wt A c ∗ (∃ Y, Own c xsM fullShare Y) ∗ (∃ Y, Own c acM fullShare Y) ∗ lc0 c ∗ Own c (rss 0) fullShare (pk (part A c (peer c 1) 0)) ∗ Ow c lR6) -∗ wpc c (k v) Q)
        -∗ wpc c (k0_part40 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 >>= k) Q) := by
  iintro ⟨#HC, Hs, HX, Hv, HO, HW, HA, HR⟩ Hk
  iapply (wpc_bind c)
  rw [k0_part40_eq_skeleton]; unfold k0_part40_skel
  simp only [semSignalWord, semWaitWord, Prog.lift, Prog.bind_op, Prog.bind_ret, Prog.pure_eq_ret]
  rw [loop_2]
  iapply (wp_c1 c (agW _ 2 0 rfl) rfl lcW crXs) $$ [Hs HX Hv]
  · isplitl [Hs]; · iexact Hs
    isplitl [HX]; · iexact HX
    iexact Hv
  iintro Hf
  iapply (wp_c2 A K c lcW crXs lR6 (by decide)) $$ [Hf HO]
  · isplitr; · iexact HC
    isplitl [Hf]; · iexact Hf
    iexact HO
  iintro ⟨HX, -, Hv, HO⟩
  iapply (wp_run A K c clr_52 (peer c 1) 0 lR6 (by decide)) $$ [HW HX HA HO]
  · isplitr; · iexact HC
    isplitl [HW]; · iexact HW
    isplitl [HX]; · iexact HX
    isplitl [HA]; · iexact HA
    iexact HO
  iintro ⟨HW, HX, HA, HO⟩
  iapply (wp_put c 0 _ rfl put_54 _) $$ [HA HR]
  · isplitl [HA]; · iexact HA
    iexact HR
  iintro ⟨HA, HR⟩
  iapply (wpc_ret c)
  iapply Hk
  isplitl [HW]; · iexact HW
  isplitl [HX]; · iexact HX
  isplitl [HA]; · iexists _; iexact HA
  isplitl [Hv]; · iexact Hv
  isplitl [HR]; · iexact HR
  iexact HO

/-- Send the first staging slot; the next rows arrive and are staged. -/
theorem part41 {α : Type} {Q : α → sProp 𝕄} {k : (FVec F S1024x2048 .f32) → Prog (TpuEff nD τ sig (Elt F) Λ₀ .tc) α} (v2 v : BitVec 32) :
    iprop(Ctx A K ∗ Own c (rss 0) fullShare (pk (part A c (peer c 1) 0)) ∗ (∃ Y, Own (peer c 1) (rsM (0 : Fin 3).castSucc 0) fullShare Y) ∗ rsT c 0 0 ∗ reached ER (dcell c (sgSi 0)) 0 ∗ Ow c lR6 ∗ crd c (agRi 2 1) ∗ pos c (agRi 2 1) 0 ∗ (∃ Y, Own c xsM fullShare Y) ∗ lc0 c ∗ (∃ Y, Own c acM fullShare Y))
      ⊢ iprop(((crd c (sgSi 0) ∗ pos c (agRi 2 1) 1 ∗ Own c xsM fullShare (xh A (peer c 1) 1) ∗ lc0 c ∗ (∃ Y, Own c acM fullShare Y) ∗ Ow c lR5) -∗ wpc c (k (k0_pay55 (F := F))) Q)
        -∗ wpc c (k0_part41 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v >>= k) Q) := by
  iintro ⟨#HC, HR, Hd, Ht, Hr, HO, Hc, Hp, HX, Hv, ⟨%Z, HA⟩⟩ Hk
  iapply (wpc_bind c)
  rw [k0_part41_eq_skeleton]; unfold k0_part41_skel
  simp only [semSignalWord, semWaitWord, Prog.lift, Prog.bind_op, Prog.bind_ret, Prog.pure_eq_ret]
  iapply (wp_give A K c 0 0 1 0 rfl rfl lR5 (dv10 c) (rssW _ 0 rfl) (rsW _ (Fin.castSucc 0) 0 rfl) (sgSW _ 0 rfl) (rsRW _ 0 0 rfl)) $$ [HR Hd Ht Hr HO]
  · isplitr; · iexact HC
    isplitl [HR]; · iexact HR
    isplitl [Hd]; · iexact Hd
    isplitl [Ht]; · iexact Ht
    isplitl [Hr]; · iexact Hr
    iexact HO
  iintro ⟨Hg, HO⟩
  iapply (wp_fetch A K c 2 1 1 rfl lR5 (by decide) (agRW _ 2 1 rfl) lcW (agW _ 2 1 rfl) crAg) $$ [Hc Hp HX Hv HO]
  · isplitr; · iexact HC
    isplitl [Hc]; · iexact Hc
    isplitl [Hp]; · iexact Hp
    isplitl [HX]; · iexact HX
    isplitl [Hv]; · iexact Hv
    iexact HO
  iintro ⟨Hp, HX, Hv, HO⟩
  iapply (wp_ld c _ _ (emb_whole _ Z)) $$ HA; iintro HA
  iapply (wpc_ret c)
  iapply Hk
  isplitl [Hg]; · iexact Hg
  isplitl [Hp]; · iexact Hp
  isplitl [HX]; · iexact HX
  isplitl [Hv]; · iexact Hv
  isplitl [HA]; · iexists _; iexact HA
  iexact HO

/-- Clear the accumulator, run the loop, and send the rounded result from the second staging slot. -/
theorem part42 {α : Type} {Q : α → sProp 𝕄} {k : PUnit → Prog (TpuEff nD τ sig (Elt F) Λ₀ .tc) α} (v2 : BitVec 32) :
    iprop(Ctx A K ∗ Wt A c ∗ Own c xsM fullShare (xh A (peer c 1) 1) ∗ (∃ Y, Own c acM fullShare Y) ∗ (∃ Y, Own c (rss 1) fullShare Y) ∗ (∃ Y, Own (peer c 1) (rsM (0 : Fin 3).castSucc 1) fullShare Y) ∗ rsT c 0 1 ∗ reached ER (dcell c (sgSi 1)) 0 ∗ Ow c lR5)
      ⊢ iprop(((Wt A c ∗ (∃ Y, Own c xsM fullShare Y) ∗ (∃ Y, Own c acM fullShare Y) ∗ crd c (sgSi 1) ∗ Ow c lR4) -∗ wpc c (k ⟨⟩) Q)
        -∗ wpc c (k0_part42 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 (k0_pay55 (F := F)) >>= k) Q) := by
  iintro ⟨#HC, HW, HX, ⟨%Z, HA⟩, HR, Hd, Ht, Hr, HO⟩ Hk
  iapply (wpc_bind c)
  rw [k0_part42_eq_skeleton]; unfold k0_part42_skel
  simp only [semSignalWord, semWaitWord, Prog.lift, Prog.bind_op, Prog.bind_ret, Prog.pure_eq_ret]
  rw [loop_3]
  iapply (wp_st c _ _ (clr _ clr_56)) $$ HA; iintro HA
  iapply (wp_comp A K c (peer c 1) 1 lR5 (by decide)) $$ [HW HX HA HO]
  · isplitr; · iexact HC
    isplitl [HW]; · iexact HW
    isplitl [HX]; · iexact HX
    isplitl [HA]; · iexact HA
    iexact HO
  iintro ⟨HW, HX, HA, HO⟩
  iapply (wp_put c 1 _ rfl put_58 _) $$ [HA HR]
  · isplitl [HA]; · iexact HA
    iexact HR
  iintro ⟨HA, HR⟩
  iapply (wp_give A K c 0 1 1 0 rfl rfl lR4 (dv11 c) (rssW _ 1 rfl) (rsW _ (Fin.castSucc 0) 1 rfl) (sgSW _ 1 rfl) (rsRW _ 0 1 rfl)) $$ [HR Hd Ht Hr HO]
  · isplitr; · iexact HC
    isplitl [HR]; · iexact HR
    isplitl [Hd]; · iexact Hd
    isplitl [Ht]; · iexact Ht
    isplitl [Hr]; · iexact Hr
    iexact HO
  iintro ⟨Hg, HO⟩
  iapply (wpc_ret c)
  iapply Hk
  isplitl [HW]; · iexact HW
  isplitl [HX]; · iexact HX
  isplitl [HA]; · iexists _; iexact HA
  isplitl [Hg]; · iexact Hg
  iexact HO

/-- The first half of the rows of the device two places on arrives and is staged; the loop runs on it. -/
theorem part43 {α : Type} {Q : α → sProp 𝕄} {k : PUnit → Prog (TpuEff nD τ sig (Elt F) Λ₀ .tc) α} (v2 : BitVec 32) :
    iprop(Ctx A K ∗ crd c (agRi 1 0) ∗ pos c (agRi 1 0) 0 ∗ (∃ Y, Own c xsM fullShare Y) ∗ lc0 c ∗ Wt A c ∗ (∃ Y, Own c acM fullShare Y) ∗ Ow c lR4)
      ⊢ iprop(((pos c (agRi 1 0) 1 ∗ Wt A c ∗ (∃ Y, Own c xsM fullShare Y) ∗ Own c acM fullShare (part A c (peer c 2) 0) ∗ lc0 c ∗ Ow c lR4) -∗ wpc c (k ⟨⟩) Q)
        -∗ wpc c (k0_part43 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 >>= k) Q) := by
  iintro ⟨#HC, Hc, Hp, HX, Hv, HW, HA, HO⟩ Hk
  iapply (wpc_bind c)
  rw [k0_part43_eq_skeleton]; unfold k0_part43_skel
  simp only [semSignalWord, semWaitWord, Prog.lift, Prog.bind_op, Prog.bind_ret, Prog.pure_eq_ret]
  rw [loop_4]
  iapply (wp_fetch A K c 1 0 2 rfl lR4 (by decide) (agRW _ 1 0 rfl) lcW (agW _ 1 0 rfl) crAg) $$ [Hc Hp HX Hv HO]
  · isplitr; · iexact HC
    isplitl [Hc]; · iexact Hc
    isplitl [Hp]; · iexact Hp
    isplitl [HX]; · iexact HX
    isplitl [Hv]; · iexact Hv
    iexact HO
  iintro ⟨Hp, HX, Hv, HO⟩
  iapply (wp_run A K c clr_59 (peer c 2) 0 lR4 (by decide)) $$ [HW HX HA HO]
  · isplitr; · iexact HC
    isplitl [HW]; · iexact HW
    isplitl [HX]; · iexact HX
    isplitl [HA]; · iexact HA
    iexact HO
  iintro ⟨HW, HX, HA, HO⟩
  iapply (wpc_ret c)
  iapply Hk
  isplitl [Hp]; · iexact Hp
  isplitl [HW]; · iexact HW
  isplitl [HX]; · iexact HX
  isplitl [HA]; · iexact HA
  isplitl [Hv]; · iexact Hv
  iexact HO

/-- Staging slot 0 is free again: the rounded result goes out from it. -/
theorem part44 {α : Type} {Q : α → sProp 𝕄} {k : PUnit → Prog (TpuEff nD τ sig (Elt F) Λ₀ .tc) α} (v2 : BitVec 32) :
    iprop(Ctx A K ∗ crd c (sgSi 0) ∗ pos c (sgSi 0) 0 ∗ Own c acM fullShare (part A c (peer c 2) 0) ∗ (∃ Y, Own (peer c 2) (rsM (1 : Fin 3).castSucc 0) fullShare Y) ∗ rsT c 1 0 ∗ Ow c lR4)
      ⊢ iprop(((pos c (sgSi 0) 1 ∗ (∃ Y, Own c acM fullShare Y) ∗ crd c (sgSi 0) ∗ Ow c lR3) -∗ wpc c (k ⟨⟩) Q)
        -∗ wpc c (k0_part44 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 >>= k) Q) := by
  iintro ⟨#HC, Hc, Hp, HA, Hd, Ht, HO⟩ Hk
  iapply (wpc_bind c)
  rw [k0_part44_eq_skeleton]; unfold k0_part44_skel
  simp only [semSignalWord, semWaitWord, Prog.lift, Prog.bind_op, Prog.bind_ret, Prog.pure_eq_ret]
  iapply (wp_sgw A K c 0 0 (by decide) (sgSW _ 0 rfl) crRss lR4 (by decide)) $$ [Hc HO Hp]
  · isplitr; · iexact HC
    isplitl [Hc]; · iexact Hc
    isplitl [HO]; · iexact HO
    iexact Hp
  iintro ⟨HO, Hp, Hr, HR⟩
  iapply (wp_put c 0 _ rfl put_61 _) $$ [HA HR]
  · isplitl [HA]; · iexact HA
    iexact HR
  iintro ⟨HA, HR⟩
  iapply (wp_give A K c 1 0 2 1 rfl rfl lR3 (dv12 c) (rssW _ 0 rfl) (rsW _ (Fin.castSucc 1) 0 rfl) (sgSW _ 0 rfl) (rsRW _ 1 0 rfl)) $$ [HR Hd Ht Hr HO]
  · isplitr; · iexact HC
    isplitl [HR]; · iexact HR
    isplitl [Hd]; · iexact Hd
    isplitl [Ht]; · iexact Ht
    isplitl [Hr]; · iexact Hr
    iexact HO
  iintro ⟨Hg, HO⟩
  iapply (wpc_ret c)
  iapply Hk
  isplitl [Hp]; · iexact Hp
  isplitl [HA]; · iexists _; iexact HA
  isplitl [Hg]; · iexact Hg
  iexact HO

/-- The second half of the rows of the device two places on arrives and is staged; the loop runs on it. -/
theorem part45 {α : Type} {Q : α → sProp 𝕄} {k : PUnit → Prog (TpuEff nD τ sig (Elt F) Λ₀ .tc) α} (v2 : BitVec 32) :
    iprop(Ctx A K ∗ crd c (agRi 1 1) ∗ pos c (agRi 1 1) 0 ∗ (∃ Y, Own c xsM fullShare Y) ∗ lc0 c ∗ Wt A c ∗ (∃ Y, Own c acM fullShare Y) ∗ Ow c lR3)
      ⊢ iprop(((pos c (agRi 1 1) 1 ∗ Wt A c ∗ (∃ Y, Own c xsM fullShare Y) ∗ Own c acM fullShare (part A c (peer c 2) 1) ∗ lc0 c ∗ Ow c lR3) -∗ wpc c (k ⟨⟩) Q)
        -∗ wpc c (k0_part45 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 >>= k) Q) := by
  iintro ⟨#HC, Hc, Hp, HX, Hv, HW, HA, HO⟩ Hk
  iapply (wpc_bind c)
  rw [k0_part45_eq_skeleton]; unfold k0_part45_skel
  simp only [semSignalWord, semWaitWord, Prog.lift, Prog.bind_op, Prog.bind_ret, Prog.pure_eq_ret]
  rw [loop_5]
  iapply (wp_fetch A K c 1 1 2 rfl lR3 (by decide) (agRW _ 1 1 rfl) lcW (agW _ 1 1 rfl) crAg) $$ [Hc Hp HX Hv HO]
  · isplitr; · iexact HC
    isplitl [Hc]; · iexact Hc
    isplitl [Hp]; · iexact Hp
    isplitl [HX]; · iexact HX
    isplitl [Hv]; · iexact Hv
    iexact HO
  iintro ⟨Hp, HX, Hv, HO⟩
  iapply (wp_run A K c clr_62 (peer c 2) 1 lR3 (by decide)) $$ [HW HX HA HO]
  · isplitr; · iexact HC
    isplitl [HW]; · iexact HW
    isplitl [HX]; · iexact HX
    isplitl [HA]; · iexact HA
    iexact HO
  iintro ⟨HW, HX, HA, HO⟩
  iapply (wpc_ret c)
  iapply Hk
  isplitl [Hp]; · iexact Hp
  isplitl [HW]; · iexact HW
  isplitl [HX]; · iexact HX
  isplitl [HA]; · iexact HA
  isplitl [Hv]; · iexact Hv
  iexact HO

/-- Staging slot 1 is free again: the rounded result goes out from it. -/
theorem part46 {α : Type} {Q : α → sProp 𝕄} {k : PUnit → Prog (TpuEff nD τ sig (Elt F) Λ₀ .tc) α} (v2 : BitVec 32) :
    iprop(Ctx A K ∗ crd c (sgSi 1) ∗ pos c (sgSi 1) 0 ∗ Own c acM fullShare (part A c (peer c 2) 1) ∗ (∃ Y, Own (peer c 2) (rsM (1 : Fin 3).castSucc 1) fullShare Y) ∗ rsT c 1 1 ∗ Ow c lR3)
      ⊢ iprop(((pos c (sgSi 1) 1 ∗ (∃ Y, Own c acM fullShare Y) ∗ crd c (sgSi 1) ∗ Ow c lR2) -∗ wpc c (k ⟨⟩) Q)
        -∗ wpc c (k0_part46 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 >>= k) Q) := by
  iintro ⟨#HC, Hc, Hp, HA, Hd, Ht, HO⟩ Hk
  iapply (wpc_bind c)
  rw [k0_part46_eq_skeleton]; unfold k0_part46_skel
  simp only [semSignalWord, semWaitWord, Prog.lift, Prog.bind_op, Prog.bind_ret, Prog.pure_eq_ret]
  iapply (wp_sgw A K c 1 0 (by decide) (sgSW _ 1 rfl) crRss lR3 (by decide)) $$ [Hc HO Hp]
  · isplitr; · iexact HC
    isplitl [Hc]; · iexact Hc
    isplitl [HO]; · iexact HO
    iexact Hp
  iintro ⟨HO, Hp, Hr, HR⟩
  iapply (wp_put c 1 _ rfl put_64 _) $$ [HA HR]
  · isplitl [HA]; · iexact HA
    iexact HR
  iintro ⟨HA, HR⟩
  iapply (wp_give A K c 1 1 2 1 rfl rfl lR2 (dv13 c) (rssW _ 1 rfl) (rsW _ (Fin.castSucc 1) 1 rfl) (sgSW _ 1 rfl) (rsRW _ 1 1 rfl)) $$ [HR Hd Ht Hr HO]
  · isplitr; · iexact HC
    isplitl [HR]; · iexact HR
    isplitl [Hd]; · iexact Hd
    isplitl [Ht]; · iexact Ht
    isplitl [Hr]; · iexact Hr
    iexact HO
  iintro ⟨Hg, HO⟩
  iapply (wpc_ret c)
  iapply Hk
  isplitl [Hp]; · iexact Hp
  isplitl [HA]; · iexists _; iexact HA
  isplitl [Hg]; · iexact Hg
  iexact HO

/-- The first half of the rows of the device three places on arrives and is staged; the loop runs on it. -/
theorem part47 {α : Type} {Q : α → sProp 𝕄} {k : PUnit → Prog (TpuEff nD τ sig (Elt F) Λ₀ .tc) α} (v2 : BitVec 32) :
    iprop(Ctx A K ∗ crd c (agRi 0 0) ∗ pos c (agRi 0 0) 0 ∗ (∃ Y, Own c xsM fullShare Y) ∗ lc0 c ∗ Wt A c ∗ (∃ Y, Own c acM fullShare Y) ∗ Ow c lR2)
      ⊢ iprop(((pos c (agRi 0 0) 1 ∗ Wt A c ∗ (∃ Y, Own c xsM fullShare Y) ∗ Own c acM fullShare (part A c (peer c 3) 0) ∗ lc0 c ∗ Ow c lR2) -∗ wpc c (k ⟨⟩) Q)
        -∗ wpc c (k0_part47 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 >>= k) Q) := by
  iintro ⟨#HC, Hc, Hp, HX, Hv, HW, HA, HO⟩ Hk
  iapply (wpc_bind c)
  rw [k0_part47_eq_skeleton]; unfold k0_part47_skel
  simp only [semSignalWord, semWaitWord, Prog.lift, Prog.bind_op, Prog.bind_ret, Prog.pure_eq_ret]
  rw [loop_6]
  iapply (wp_fetch A K c 0 0 3 rfl lR2 (by decide) (agRW _ 0 0 rfl) lcW (agW _ 0 0 rfl) crAg) $$ [Hc Hp HX Hv HO]
  · isplitr; · iexact HC
    isplitl [Hc]; · iexact Hc
    isplitl [Hp]; · iexact Hp
    isplitl [HX]; · iexact HX
    isplitl [Hv]; · iexact Hv
    iexact HO
  iintro ⟨Hp, HX, Hv, HO⟩
  iapply (wp_run A K c clr_65 (peer c 3) 0 lR2 (by decide)) $$ [HW HX HA HO]
  · isplitr; · iexact HC
    isplitl [HW]; · iexact HW
    isplitl [HX]; · iexact HX
    isplitl [HA]; · iexact HA
    iexact HO
  iintro ⟨HW, HX, HA, HO⟩
  iapply (wpc_ret c)
  iapply Hk
  isplitl [Hp]; · iexact Hp
  isplitl [HW]; · iexact HW
  isplitl [HX]; · iexact HX
  isplitl [HA]; · iexact HA
  isplitl [Hv]; · iexact Hv
  iexact HO

/-- Staging slot 0 is free again: the rounded result goes out from it. -/
theorem part48 {α : Type} {Q : α → sProp 𝕄} {k : PUnit → Prog (TpuEff nD τ sig (Elt F) Λ₀ .tc) α} (v2 : BitVec 32) :
    iprop(Ctx A K ∗ crd c (sgSi 0) ∗ pos c (sgSi 0) 1 ∗ Own c acM fullShare (part A c (peer c 3) 0) ∗ (∃ Y, Own (peer c 3) (rsM (2 : Fin 3).castSucc 0) fullShare Y) ∗ rsT c 2 0 ∗ Ow c lR2)
      ⊢ iprop(((pos c (sgSi 0) 2 ∗ (∃ Y, Own c acM fullShare Y) ∗ crd c (sgSi 0) ∗ Ow c lR1) -∗ wpc c (k ⟨⟩) Q)
        -∗ wpc c (k0_part48 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 >>= k) Q) := by
  iintro ⟨#HC, Hc, Hp, HA, Hd, Ht, HO⟩ Hk
  iapply (wpc_bind c)
  rw [k0_part48_eq_skeleton]; unfold k0_part48_skel
  simp only [semSignalWord, semWaitWord, Prog.lift, Prog.bind_op, Prog.bind_ret, Prog.pure_eq_ret]
  iapply (wp_sgw A K c 0 1 (by decide) (sgSW _ 0 rfl) crRss lR2 (by decide)) $$ [Hc HO Hp]
  · isplitr; · iexact HC
    isplitl [Hc]; · iexact Hc
    isplitl [HO]; · iexact HO
    iexact Hp
  iintro ⟨HO, Hp, Hr, HR⟩
  iapply (wp_put c 0 _ rfl put_67 _) $$ [HA HR]
  · isplitl [HA]; · iexact HA
    iexact HR
  iintro ⟨HA, HR⟩
  iapply (wp_give A K c 2 0 3 2 rfl rfl lR1 (dv14 c) (rssW _ 0 rfl) (rsW _ (Fin.castSucc 2) 0 rfl) (sgSW _ 0 rfl) (rsRW _ 2 0 rfl)) $$ [HR Hd Ht Hr HO]
  · isplitr; · iexact HC
    isplitl [HR]; · iexact HR
    isplitl [Hd]; · iexact Hd
    isplitl [Ht]; · iexact Ht
    isplitl [Hr]; · iexact Hr
    iexact HO
  iintro ⟨Hg, HO⟩
  iapply (wpc_ret c)
  iapply Hk
  isplitl [Hp]; · iexact Hp
  isplitl [HA]; · iexists _; iexact HA
  isplitl [Hg]; · iexact Hg
  iexact HO

/-- The second half of the rows of the device three places on arrives and is staged; the loop runs on it. -/
theorem part49 {α : Type} {Q : α → sProp 𝕄} {k : PUnit → Prog (TpuEff nD τ sig (Elt F) Λ₀ .tc) α} (v2 : BitVec 32) :
    iprop(Ctx A K ∗ crd c (agRi 0 1) ∗ pos c (agRi 0 1) 0 ∗ (∃ Y, Own c xsM fullShare Y) ∗ lc0 c ∗ Wt A c ∗ (∃ Y, Own c acM fullShare Y) ∗ Ow c lR1)
      ⊢ iprop(((pos c (agRi 0 1) 1 ∗ Wt A c ∗ (∃ Y, Own c xsM fullShare Y) ∗ Own c acM fullShare (part A c (peer c 3) 1) ∗ lc0 c ∗ Ow c lR1) -∗ wpc c (k ⟨⟩) Q)
        -∗ wpc c (k0_part49 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 >>= k) Q) := by
  iintro ⟨#HC, Hc, Hp, HX, Hv, HW, HA, HO⟩ Hk
  iapply (wpc_bind c)
  rw [k0_part49_eq_skeleton]; unfold k0_part49_skel
  simp only [semSignalWord, semWaitWord, Prog.lift, Prog.bind_op, Prog.bind_ret, Prog.pure_eq_ret]
  rw [loop_7]
  iapply (wp_fetch A K c 0 1 3 rfl lR1 (by decide) (agRW _ 0 1 rfl) lcW (agW _ 0 1 rfl) crAg) $$ [Hc Hp HX Hv HO]
  · isplitr; · iexact HC
    isplitl [Hc]; · iexact Hc
    isplitl [Hp]; · iexact Hp
    isplitl [HX]; · iexact HX
    isplitl [Hv]; · iexact Hv
    iexact HO
  iintro ⟨Hp, HX, Hv, HO⟩
  iapply (wp_run A K c clr_68 (peer c 3) 1 lR1 (by decide)) $$ [HW HX HA HO]
  · isplitr; · iexact HC
    isplitl [HW]; · iexact HW
    isplitl [HX]; · iexact HX
    isplitl [HA]; · iexact HA
    iexact HO
  iintro ⟨HW, HX, HA, HO⟩
  iapply (wpc_ret c)
  iapply Hk
  isplitl [Hp]; · iexact Hp
  isplitl [HW]; · iexact HW
  isplitl [HX]; · iexact HX
  isplitl [HA]; · iexact HA
  isplitl [Hv]; · iexact Hv
  iexact HO

/-- Staging slot 1 is free again: the rounded result goes out from it. The own second half starts to be staged. -/
theorem part50 {α : Type} {Q : α → sProp 𝕄} {k : PUnit → Prog (TpuEff nD τ sig (Elt F) Λ₀ .tc) α} (q : PosShare TreeShare) (v2 : BitVec 32) :
    iprop(Ctx A K ∗ crd c (sgSi 1) ∗ pos c (sgSi 1) 1 ∗ Own c acM fullShare (part A c (peer c 3) 1) ∗ (∃ Y, Own (peer c 3) (rsM (2 : Fin 3).castSucc 1) fullShare Y) ∗ rsT c 2 1 ∗ Ow c lR1 ∗ Own c (xM 1) q (xh A c 1) ∗ (∃ Y, Own c xsM fullShare Y) ∗ lc0 c)
      ⊢ iprop(((pos c (sgSi 1) 2 ∗ (∃ Y, Own c acM fullShare Y) ∗ crd c (sgSi 1) ∗ cpf c (xM 1) xsM q (xh A c 1) ∗ Ow c lR0) -∗ wpc c (k ⟨⟩) Q)
        -∗ wpc c (k0_part50 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 >>= k) Q) := by
  iintro ⟨#HC, Hc, Hp, HA, Hd, Ht, HO, Hx, HX, Hv⟩ Hk
  iapply (wpc_bind c)
  rw [k0_part50_eq_skeleton]; unfold k0_part50_skel
  simp only [semSignalWord, semWaitWord, Prog.lift, Prog.bind_op, Prog.bind_ret, Prog.pure_eq_ret]
  iapply (wp_sgw A K c 1 1 (by decide) (sgSW _ 1 rfl) crRss lR1 (by decide)) $$ [Hc HO Hp]
  · isplitr; · iexact HC
    isplitl [Hc]; · iexact Hc
    isplitl [HO]; · iexact HO
    iexact Hp
  iintro ⟨HO, Hp, Hr, HR⟩
  iapply (wp_put c 1 _ rfl put_70 _) $$ [HA HR]
  · isplitl [HA]; · iexact HA
    iexact HR
  iintro ⟨HA, HR⟩
  iapply (wp_give A K c 2 1 3 2 rfl rfl lR0 (dv15 c) (rssW _ 1 rfl) (rsW _ (Fin.castSucc 2) 1 rfl) (sgSW _ 1 rfl) (rsRW _ 2 1 rfl)) $$ [HR Hd Ht Hr HO]
  · isplitr; · iexact HC
    isplitl [HR]; · iexact HR
    isplitl [Hd]; · iexact Hd
    isplitl [Ht]; · iexact Ht
    isplitl [Hr]; · iexact Hr
    iexact HO
  iintro ⟨Hg, HO⟩
  iapply (wp_c1 c (xW _ 1 rfl) rfl lcW crXs) $$ [Hx HX Hv]
  · isplitl [Hx]; · iexact Hx
    isplitl [HX]; · iexact HX
    iexact Hv
  iintro Hf
  iapply (wpc_ret c)
  iapply Hk
  isplitl [Hp]; · iexact Hp
  isplitl [HA]; · iexists _; iexact HA
  isplitl [Hg]; · iexact Hg
  isplitl [Hf]; · iexact Hf
  iexact HO

/-- The loop on the own second half; both staging slots are free again. -/
theorem part51 {α : Type} {Q : α → sProp 𝕄} {k : PUnit → Prog (TpuEff nD τ sig (Elt F) Λ₀ .tc) α} (q : PosShare TreeShare) :
    iprop(Ctx A K ∗ cpf c (xM 1) xsM q (xh A c 1) ∗ Wt A c ∗ (∃ Y, Own c acM fullShare Y) ∗ (crd c (sgSi 0) ∗ pos c (sgSi 0) 2) ∗ (crd c (sgSi 1) ∗ pos c (sgSi 1) 2) ∗ Ow c lR0)
      ⊢ iprop(((Wt A c ∗ (∃ Y, Own c xsM fullShare Y) ∗ Own c acM fullShare (part A c c 1) ∗ lc0 c ∗ pos c (sgSi 0) 3 ∗ pos c (sgSi 1) 3 ∗ (∃ Y, Own c (rss 0) fullShare Y) ∗ (∃ Y, Own c (rss 1) fullShare Y) ∗ Ow c lR0) -∗ wpc c (k ⟨⟩) Q)
        -∗ wpc c (k0_part51 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12  >>= k) Q) := by
  iintro ⟨#HC, Hf, HW, HA, ⟨Hc0, Hp0⟩, ⟨Hc1, Hp1⟩, HO⟩ Hk
  iapply (wpc_bind c)
  rw [k0_part51_eq_skeleton]; unfold k0_part51_skel
  simp only [semSignalWord, semWaitWord, Prog.lift, Prog.bind_op, Prog.bind_ret, Prog.pure_eq_ret]
  rw [loop_8]
  iapply (wp_c2 A K c lcW crXs lR0 (by decide)) $$ [Hf HO]
  · isplitr; · iexact HC
    isplitl [Hf]; · iexact Hf
    iexact HO
  iintro ⟨HX, -, Hv, HO⟩
  iapply (wp_run A K c clr_71 c 1 lR0 (by decide)) $$ [HW HX HA HO]
  · isplitr; · iexact HC
    isplitl [HW]; · iexact HW
    isplitl [HX]; · iexact HX
    isplitl [HA]; · iexact HA
    iexact HO
  iintro ⟨HW, HX, HA, HO⟩
  iapply (wp_sgw A K c 0 2 (by decide) (sgSW _ 0 rfl) crRss lR0 (by decide)) $$ [Hc0 HO Hp0]
  · isplitr; · iexact HC
    isplitl [Hc0]; · iexact Hc0
    isplitl [HO]; · iexact HO
    iexact Hp0
  iintro ⟨HO, Hp0, -, HR0⟩
  iapply (wp_sgw A K c 1 2 (by decide) (sgSW _ 1 rfl) crRss lR0 (by decide)) $$ [Hc1 HO Hp1]
  · isplitr; · iexact HC
    isplitl [Hc1]; · iexact Hc1
    isplitl [HO]; · iexact HO
    iexact Hp1
  iintro ⟨HO, Hp1, -, HR1⟩
  iapply (wpc_ret c)
  iapply Hk
  isplitl [HW]; · iexact HW
  isplitl [HX]; · iexact HX
  isplitl [HA]; · iexact HA
  isplitl [Hv]; · iexact Hv
  isplitl [Hp0]; · iexact Hp0
  isplitl [Hp1]; · iexact Hp1
  isplitl [HR0]; · iexact HR0
  isplitl [HR1]; · iexact HR1
  iexact HO

/-- The own rounded result comes back to the first staging slot; the first partial result has landed. -/
theorem part52 {α : Type} {Q : α → sProp 𝕄} {k : (FVec F S1024x2048 .f32) → Prog (TpuEff nD τ sig (Elt F) Λ₀ .tc) α} (v2 : BitVec 32) :
    iprop(Ctx A K ∗ Own c (rsM 3 0) fullShare (pk (part A c c 0)) ∗ (∃ Y, Own c (rss 0) fullShare Y) ∗ lc0 c ∗ crd c (rsRi 0 0) ∗ pos c (rsRi 0 0) 0 ∗ Ow c lR0)
      ⊢ iprop(((pos c (rsRi 0 0) 1 ∗ cpf c (rsM (0 : Fin 3).castSucc 0) (rss 0) fullShare (got A c 0 0) ∗ Ow c lR0) -∗ wpc c (k (k0_pay73 (shapeCast S1x1024x2048 (pk (part A c c 0)) sc_h))) Q)
        -∗ wpc c (k0_part52 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 >>= k) Q) := by
  iintro ⟨#HC, HD, HR, Hv, Hc, Hp, HO⟩ Hk
  iapply (wpc_bind c)
  rw [k0_part52_eq_skeleton]; unfold k0_part52_skel
  simp only [semSignalWord, semWaitWord, Prog.lift, Prog.bind_op, Prog.bind_ret, Prog.pure_eq_ret]
  iapply (wp_c1 c (rsW _ 3 0 rfl) (rssW _ 0 rfl) lcW rfl) $$ [HD HR Hv]
  · isplitl [HD]; · iexact HD
    isplitl [HR]; · iexact HR
    iexact Hv
  iintro Hf
  iapply (wp_c2 A K c lcW crRss lR0 (by decide)) $$ [Hf HO]
  · isplitr; · iexact HC
    isplitl [Hf]; · iexact Hf
    iexact HO
  iintro ⟨HR, -, Hv, HO⟩
  iapply (wp_ldR c _ 0 rfl) $$ HR; iintro HR
  iapply (wp_rsw A K c 0 0 (rsRW _ 0 0 rfl) crRs) $$ [Hc HO Hp]
  · isplitr; · iexact HC
    isplitl [Hc]; · iexact Hc
    isplitl [HO]; · iexact HO
    iexact Hp
  iintro ⟨HO, Hp, HD⟩
  iapply (wp_c1 c (rsW _ (Fin.castSucc 0) 0 rfl) (rssW _ 0 rfl) lcW rfl) $$ [HD HR Hv]
  · isplitl [HD]; · iexact HD
    isplitl [HR]; · iexists _; iexact HR
    iexact Hv
  iintro Hf
  iapply (wpc_ret c)
  iapply Hk
  isplitl [Hp]; · iexact Hp
  isplitl [Hf]; · iexact Hf
  iexact HO

/-- The first and the second landed partial results are added. -/
theorem part53 {α : Type} {Q : α → sProp 𝕄} {k : (FVec F S1024x2048 .f32) → Prog (TpuEff nD τ sig (Elt F) Λ₀ .tc) α} (v2 : BitVec 32) (v : FVec F S1024x2048 .f32) :
    iprop(Ctx A K ∗ cpf c (rsM (0 : Fin 3).castSucc 0) (rss 0) fullShare (got A c 0 0) ∗ crd c (rsRi 1 0) ∗ pos c (rsRi 1 0) 0 ∗ Ow c lR0)
      ⊢ iprop(((pos c (rsRi 1 0) 1 ∗ (∃ Y, Own c (rss 0) fullShare Y) ∗ lc0 c ∗ Ow c lR0) -∗ wpc c (k (k0_pay74 v (shapeCast S1x1024x2048 (got A c 0 0) sc_h) (shapeCast S1x1024x2048 (got A c 1 0) sc_h))) Q)
        -∗ wpc c (k0_part53 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 v >>= k) Q) := by
  iintro ⟨#HC, Hf, Hc, Hp, HO⟩ Hk
  iapply (wpc_bind c)
  rw [k0_part53_eq_skeleton]; unfold k0_part53_skel
  simp only [semSignalWord, semWaitWord, Prog.lift, Prog.bind_op, Prog.bind_ret, Prog.pure_eq_ret]
  iapply (wp_c2 A K c lcW crRss lR0 (by decide)) $$ [Hf HO]
  · isplitr; · iexact HC
    isplitl [Hf]; · iexact Hf
    iexact HO
  iintro ⟨HR, -, Hv, HO⟩
  iapply (wp_ldR c _ 0 rfl) $$ HR; iintro HR
  iapply (wp_back A K c 1 0 _ rfl (rsRW _ 1 0 rfl) lcW (rsW _ (Fin.castSucc 1) 0 rfl) (rssW _ 0 rfl) crRs crRss) $$ [Hc Hp HR Hv HO]
  · isplitr; · iexact HC
    isplitl [Hc]; · iexact Hc
    isplitl [Hp]; · iexact Hp
    isplitl [HR]; · iexists _; iexact HR
    isplitl [Hv]; · iexact Hv
    iexact HO
  iintro ⟨Hp, HR, Hv, HO⟩
  iapply (wpc_ret c)
  iapply Hk
  isplitl [Hp]; · iexact Hp
  isplitl [HR]; · iexists _; iexact HR
  isplitl [Hv]; · iexact Hv
  iexact HO

/-- The third landed partial result is added and the sum rounded. -/
theorem part54 {α : Type} {Q : α → sProp 𝕄} {k : PUnit → Prog (TpuEff nD τ sig (Elt F) Λ₀ .tc) α} (v2 : BitVec 32) (v : FVec F S1024x2048 .f32) :
    iprop(Ctx A K ∗ (∃ Y, Own c (rss 0) fullShare Y) ∗ lc0 c ∗ crd c (rsRi 2 0) ∗ pos c (rsRi 2 0) 0 ∗ Ow c lR0)
      ⊢ iprop(((pos c (rsRi 2 0) 1 ∗ Own c (rss 0) fullShare (shapeCast S1024x2048 (k0_pay75 v (shapeCast S1x1024x2048 (got A c 2 0) sc_h)) shapeCasts_S1x1024x2048_S1024x2048) ∗ lc0 c ∗ Ow c lR0) -∗ wpc c (k ⟨⟩) Q)
        -∗ wpc c (k0_part54 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 v >>= k) Q) := by
  iintro ⟨#HC, HR, Hv, Hc, Hp, HO⟩ Hk
  iapply (wpc_bind c)
  rw [k0_part54_eq_skeleton]; unfold k0_part54_skel
  simp only [semSignalWord, semWaitWord, Prog.lift, Prog.bind_op, Prog.bind_ret, Prog.pure_eq_ret]
  iapply (wp_back A K c 2 0 _ rfl (rsRW _ 2 0 rfl) lcW (rsW _ (Fin.castSucc 2) 0 rfl) (rssW _ 0 rfl) crRs crRss) $$ [Hc Hp HR Hv HO]
  · isplitr; · iexact HC
    isplitl [Hc]; · iexact Hc
    isplitl [Hp]; · iexact Hp
    isplitl [HR]; · iexact HR
    isplitl [Hv]; · iexact Hv
    iexact HO
  iintro ⟨Hp, HR, Hv, HO⟩
  iapply (wp_ldR c _ 0 rfl) $$ HR; iintro HR
  iapply (wp_stR c _ 0 rfl _ rfl) $$ HR; iintro HR
  iapply (wpc_ret c)
  iapply Hk
  isplitl [Hp]; · iexact Hp
  isplitl [HR]; · iexact HR
  isplitl [Hv]; · iexact Hv
  iexact HO

/-- The first half of the result goes out; the first partial result for the second half has landed. -/
theorem part55 {α : Type} {Q : α → sProp 𝕄} {k : (Vec F S1024x2048 .f32) → Prog (TpuEff nD τ sig (Elt F) Λ₀ .tc) α} (v2 : BitVec 32) (R : HB F) (Z : HA F) :
    iprop(Ctx A K ∗ Own c (rss 0) fullShare R ∗ (∃ Y, Own c (outM 0) fullShare Y) ∗ lc0 c ∗ Own c acM fullShare Z ∗ (∃ Y, Own c (rss 1) fullShare Y) ∗ crd c (rsRi 0 1) ∗ pos c (rsRi 0 1) 0 ∗ Ow c lR0)
      ⊢ iprop(((Own c (outM 0) fullShare R ∗ (∃ Y, Own c (rss 0) fullShare Y) ∗ Own c acM fullShare Z ∗ Own c (rss 1) fullShare (got A c 0 1) ∗ pos c (rsRi 0 1) 1 ∗ lc0 c ∗ Ow c lR0) -∗ wpc c (k Z) Q)
        -∗ wpc c (k0_part55 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 >>= k) Q) := by
  iintro ⟨#HC, HR, Hout, Hv, HA, HR1, Hc, Hp, HO⟩ Hk
  iapply (wpc_bind c)
  rw [k0_part55_eq_skeleton]; unfold k0_part55_skel
  simp only [semSignalWord, semWaitWord, Prog.lift, Prog.bind_op, Prog.bind_ret, Prog.pure_eq_ret]
  iapply (wp_c1 c (rssW _ 0 rfl) (outW _ 0 rfl) lcW rfl) $$ [HR Hout Hv]
  · isplitl [HR]; · iexact HR
    isplitl [Hout]; · iexact Hout
    iexact Hv
  iintro Hf
  iapply (wp_c2 A K c lcW crOut lR0 (by decide)) $$ [Hf HO]
  · isplitr; · iexact HC
    isplitl [Hf]; · iexact Hf
    iexact HO
  iintro ⟨Hout, HR, Hv, HO⟩
  iapply (wp_ld c _ _ (emb_whole _ Z)) $$ HA; iintro HA
  iapply (wp_rsw A K c 0 1 (rsRW _ 0 1 rfl) crRs) $$ [Hc HO Hp]
  · isplitr; · iexact HC
    isplitl [Hc]; · iexact Hc
    isplitl [HO]; · iexact HO
    iexact Hp
  iintro ⟨HO, Hp, HD⟩
  iapply (wp_c1 c (rsW _ (Fin.castSucc 0) 1 rfl) (rssW _ 1 rfl) lcW rfl) $$ [HD HR1 Hv]
  · isplitl [HD]; · iexact HD
    isplitl [HR1]; · iexact HR1
    iexact Hv
  iintro Hf
  iapply (wp_c2 A K c lcW crRss lR0 (by decide)) $$ [Hf HO]
  · isplitr; · iexact HC
    isplitl [Hf]; · iexact Hf
    iexact HO
  iintro ⟨HR1, -, Hv, HO⟩
  iapply (wpc_ret c)
  iapply Hk
  isplitl [Hout]; · iexact Hout
  isplitl [HR]; · iexists _; iexact HR
  isplitl [HA]; · iexact HA
  isplitl [HR1]; · iexact HR1
  isplitl [Hp]; · iexact Hp
  isplitl [Hv]; · iexact Hv
  iexact HO

/-- The first two landed partial results for the second half are added. -/
theorem part56 {α : Type} {Q : α → sProp 𝕄} {k : (Σ' (v621 : FVec F S1024x2048 .f32), BitVec 32) → Prog (TpuEff nD τ sig (Elt F) Λ₀ .tc) α} (v2 : BitVec 32) (Z : HA F) :
    iprop(Ctx A K ∗ Own c (rss 1) fullShare (got A c 0 1) ∗ lc0 c ∗ crd c (rsRi 1 1) ∗ pos c (rsRi 1 1) 0 ∗ Ow c lR0)
      ⊢ iprop((∀ w, (pos c (rsRi 1 1) 1 ∗ (∃ Y, Own c (rss 1) fullShare Y) ∗ lc0 c ∗ Ow c lR0) -∗ wpc c (k ⟨k0_pay76 Z (shapeCast S1x1024x2048 (got A c 0 1) sc_h) (shapeCast S1x1024x2048 (got A c 1 1) sc_h), w⟩) Q)
        -∗ wpc c (k0_part56 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 Z >>= k) Q) := by
  iintro ⟨#HC, HR, Hv, Hc, Hp, HO⟩ Hk
  iapply (wpc_bind c)
  rw [k0_part56_eq_skeleton]; unfold k0_part56_skel
  simp only [semSignalWord, semWaitWord, Prog.lift, Prog.bind_op, Prog.bind_ret, Prog.pure_eq_ret]
  iapply (wp_ldR c _ 1 rfl) $$ HR; iintro HR
  iapply (wp_back A K c 1 1 _ rfl (rsRW _ 1 1 rfl) lcW (rsW _ (Fin.castSucc 1) 1 rfl) (rssW _ 1 rfl) crRs crRss) $$ [Hc Hp HR Hv HO]
  · isplitr; · iexact HC
    isplitl [Hc]; · iexact Hc
    isplitl [Hp]; · iexact Hp
    isplitl [HR]; · iexists _; iexact HR
    isplitl [Hv]; · iexact Hv
    iexact HO
  iintro ⟨Hp, HR, Hv, HO⟩
  iapply (wpc_ret c)
  iapply Hk
  isplitl [Hp]; · iexact Hp
  isplitl [HR]; · iexists _; iexact HR
  isplitl [Hv]; · iexact Hv
  iexact HO

/-- The third is added, the sum rounded, and the second half of the result starts to go out. -/
theorem part57 {α : Type} {Q : α → sProp 𝕄} {k : PUnit → Prog (TpuEff nD τ sig (Elt F) Λ₀ .tc) α} (v : FVec F S1024x2048 .f32) (w : BitVec 32) :
    iprop(Ctx A K ∗ (∃ Y, Own c (rss 1) fullShare Y) ∗ lc0 c ∗ (∃ Y, Own c (outM 1) fullShare Y) ∗ crd c (rsRi 2 1) ∗ pos c (rsRi 2 1) 0 ∗ Ow c lR0)
      ⊢ iprop(((pos c (rsRi 2 1) 1 ∗ cpf c (rss 1) (outM 1) fullShare (shapeCast S1024x2048 (k0_pay77 v (shapeCast S1x1024x2048 (got A c 2 1) sc_h)) shapeCasts_S1x1024x2048_S1024x2048) ∗ Ow c lR0) -∗ wpc c (k ⟨⟩) Q)
        -∗ wpc c (k0_part57 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v w >>= k) Q) := by
  iintro ⟨#HC, HR, Hv, Hout, Hc, Hp, HO⟩ Hk
  iapply (wpc_bind c)
  rw [k0_part57_eq_skeleton]; unfold k0_part57_skel
  simp only [semSignalWord, semWaitWord, Prog.lift, Prog.bind_op, Prog.bind_ret, Prog.pure_eq_ret]
  iapply (wp_back A K c 2 1 _ rfl (rsRW _ 2 1 rfl) lcW (rsW _ (Fin.castSucc 2) 1 rfl) (rssW _ 1 rfl) crRs crRss) $$ [Hc Hp HR Hv HO]
  · isplitr; · iexact HC
    isplitl [Hc]; · iexact Hc
    isplitl [Hp]; · iexact Hp
    isplitl [HR]; · iexact HR
    isplitl [Hv]; · iexact Hv
    iexact HO
  iintro ⟨Hp, HR, Hv, HO⟩
  iapply (wp_ldR c _ 1 rfl) $$ HR; iintro HR
  iapply (wp_stR c _ 1 rfl _ rfl) $$ HR; iintro HR
  iapply (wp_c1 c (rssW _ 1 rfl) (outW _ 1 rfl) lcW rfl) $$ [HR Hout Hv]
  · isplitl [HR]; · iexact HR
    isplitl [Hout]; · iexact Hout
    iexact Hv
  iintro Hf
  iapply (wpc_ret c)
  iapply Hk
  isplitl [Hp]; · iexact Hp
  isplitl [Hf]; · iexact Hf
  iexact HO

/-- The second half of the result is out; the weights' last transfers are over; the first of the own rows have left. -/
theorem part58 {α : Type} {Q : α → sProp 𝕄} {k : PUnit → Prog (TpuEff nD τ sig (Elt F) Λ₀ .tc) α} (R : HB F) :
    iprop(Ctx A K ∗ cpf c (rss 1) (outM 1) fullShare R ∗ Wt A c ∗ crd c (agSi 0 0) ∗ pos c (agSi 0 0) 0 ∗ Ow c lR0)
      ⊢ iprop(((Own c (outM 1) fullShare R ∗ (∃ Y, Own c (rss 1) fullShare Y) ∗ lc0 c ∗ ((∃ Y, Own c hbM fullShare Y) ∗ free1 c (A.w1 c) (sl 0) ∗ free1 c (A.w1 c) (sl 1) ∗ free2 c (A.w2 c) (sl 0) ∗ free2 c (A.w2 c) (sl 1)) ∗ pos c (agSi 0 0) 1 ∗ Ow c lR0) -∗ wpc c (k ⟨⟩) Q)
        -∗ wpc c (k0_part58 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12  >>= k) Q) := by
  unfold Wt
  iintro ⟨#HC, Hf, ⟨HH, H1, H2, H3, H4⟩, Hc, Hp, HO⟩ Hk
  iapply (wpc_bind c)
  rw [k0_part58_eq_skeleton]; unfold k0_part58_skel
  simp only [semSignalWord, semWaitWord, Prog.lift, Prog.bind_op, Prog.bind_ret, Prog.pure_eq_ret]
  iapply (wp_c2 A K c lcW crOut lR0 (by decide)) $$ [Hf HO]
  · isplitr; · iexact HC
    isplitl [Hf]; · iexact Hf
    iexact HO
  iintro ⟨Hout, HR, Hv, HO⟩
  iapply (wp_w1 c (A.w1 c) A K (sl 0) (ck 0) (wS1_of (sl 0) rfl) cr1_of lR0 (by decide)) $$ [H1 HO]
  · isplitr; · iexact HC
    isplitl [H1]; · iexact H1
    iexact HO
  iintro ⟨Hb1, Hv1, Ha1, HO⟩
  iapply (wp_w2 c (A.w2 c) A K (sl 0) (gix 0) (wS2_of (sl 0) rfl) cr2_of lR0 (by decide)) $$ [H3 HO]
  · isplitr; · iexact HC
    isplitl [H3]; · iexact H3
    iexact HO
  iintro ⟨Hb2, Hv2, Ha2, HO⟩
  iapply (wp_agsw A K c 0 0 (agSW _ 0 0 rfl) crX) $$ [Hc HO Hp]
  · isplitr; · iexact HC
    isplitl [Hc]; · iexact Hc
    isplitl [HO]; · iexact HO
    iexact Hp
  iintro ⟨HO, Hp⟩
  iapply (wpc_ret c)
  iapply Hk
  isplitl [Hout]; · iexact Hout
  isplitl [HR]; · iexists _; iexact HR
  isplitl [Hv]; · iexact Hv
  isplitl [HH Hb1 Hv1 Ha1 H2 Hb2 Hv2 Ha2 H4]
  · unfold free1 free2
    isplitl [HH]; · iexact HH
    isplitl [Hb1 Hv1 Ha1]
    · isplitl [Hb1]; · iexists _; iexact Hb1
      isplitl [Hv1]; · iexact Hv1
      iexact Ha1
    isplitl [H2]; · iexact H2
    isplitl [Hb2 Hv2 Ha2]
    · isplitl [Hb2]; · iexists _; iexact Hb2
      isplitl [Hv2]; · iexact Hv2
      iexact Ha2
    iexact H4
  isplitl [Hp]; · iexact Hp
  iexact HO

/-- More of the own rows have left. -/
theorem part59 {α : Type} {Q : α → sProp 𝕄} {k : PUnit → Prog (TpuEff nD τ sig (Elt F) Λ₀ .tc) α}  :
    iprop(Ctx A K ∗ (crd c (agSi 0 1) ∗ pos c (agSi 0 1) 0) ∗ (crd c (agSi 1 0) ∗ pos c (agSi 1 0) 0) ∗ (crd c (agSi 1 1) ∗ pos c (agSi 1 1) 0) ∗ (crd c (agSi 2 0) ∗ pos c (agSi 2 0) 0) ∗ Ow c lR0)
      ⊢ iprop(((pos c (agSi 0 1) 1 ∗ pos c (agSi 1 0) 1 ∗ pos c (agSi 1 1) 1 ∗ pos c (agSi 2 0) 1 ∗ Ow c lR0) -∗ wpc c (k ⟨⟩) Q)
        -∗ wpc c (k0_part59 (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12  >>= k) Q) := by
  iintro ⟨#HC, ⟨Hc0, Hp0⟩, ⟨Hc1, Hp1⟩, ⟨Hc2, Hp2⟩, ⟨Hc3, Hp3⟩, HO⟩ Hk
  iapply (wpc_bind c)
  rw [k0_part59_eq_skeleton]; unfold k0_part59_skel
  simp only [semSignalWord, semWaitWord, Prog.lift, Prog.bind_op, Prog.bind_ret, Prog.pure_eq_ret]
  iapply (wp_agsw A K c 0 1 (agSW _ 0 1 rfl) crX) $$ [Hc0 HO Hp0]
  · isplitr; · iexact HC
    isplitl [Hc0]; · iexact Hc0
    isplitl [HO]; · iexact HO
    iexact Hp0
  iintro ⟨HO, Hp0⟩
  iapply (wp_agsw A K c 1 0 (agSW _ 1 0 rfl) crX) $$ [Hc1 HO Hp1]
  · isplitr; · iexact HC
    isplitl [Hc1]; · iexact Hc1
    isplitl [HO]; · iexact HO
    iexact Hp1
  iintro ⟨HO, Hp1⟩
  iapply (wp_agsw A K c 1 1 (agSW _ 1 1 rfl) crX) $$ [Hc2 HO Hp2]
  · isplitr; · iexact HC
    isplitl [Hc2]; · iexact Hc2
    isplitl [HO]; · iexact HO
    iexact Hp2
  iintro ⟨HO, Hp2⟩
  iapply (wp_agsw A K c 2 0 (agSW _ 2 0 rfl) crX) $$ [Hc3 HO Hp3]
  · isplitr; · iexact HC
    isplitl [Hc3]; · iexact Hc3
    isplitl [HO]; · iexact HO
    iexact Hp3
  iintro ⟨HO, Hp3⟩
  iapply (wpc_ret c)
  iapply Hk
  isplitl [Hp0]; · iexact Hp0
  isplitl [Hp1]; · iexact Hp1
  isplitl [Hp2]; · iexact Hp2
  isplitl [Hp3]; · iexact Hp3
  iexact HO

end Cert.KProof

end
-- ==== Proof.Body.lean ====
/-
The whole body of the kernel on one device: what it starts with and what it ends with.
-/
module

public import proofs.«01_k».proof.Proof.Parts

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.ValueIdx (ix2)

variable {F : FTy → Type} [FloatOps F]

local notation "𝕄" => MT nD τ sig Unit (Elt F) ℕ UU ℕ

variable (A : Args F) (K : Dev nD × Option (Fin 20) → ℕ) (c : Dev nD)

/-- What a slot's donation holds, by the place of the device it lies on. -/
theorem slots_out (s : Fin 3) (d : ℕ) (hd : s.val + 1 = d) :
    slots (F := F) c s ⊢ iprop((∃ X, Own (peer c (s.val + 1)) (agM s 0) fullShare X) ∗ (∃ X, Own (peer c (s.val + 1)) (agM s 1) fullShare X)
      ∗ (∃ X, Own (peer c d) (rsM s.castSucc 0) fullShare X) ∗ (∃ X, Own (peer c d) (rsM s.castSucc 1) fullShare X)) := by
  subst hd
  exact Entails.rfl

/-- The shares of the own rows: one for each send and one for the staging. -/
def tk : ℕ → PosShare TreeShare
  | 0 => fullShare.right.left
  | 1 => fullShare.right.right.left
  | 2 => fullShare.right.right.right.left
  | _ => fullShare.right.right.right.right

/-- The shares of the own rows' half `h`. -/
def rows (h : Fin 2) : sProp 𝕄 :=
  iprop(Own c (xM h) (tk 0) (xh A c h) ∗ Own c (xM h) (tk 1) (xh A c h) ∗ Own c (xM h) (tk 2) (xh A c h) ∗ Own c (xM h) (tk 3) (xh A c h))

/-- The tokens and donations for the signals. -/
def hails : sProp 𝕄 :=
  iprop((dutyTok ER (bcell (peer c 1)) 0 1 ∗ barPay (F := F) (peer c 1) 1) ∗ (dutyTok ER (bcell (peer c 2)) 0 2 ∗ barPay (F := F) (peer c 2) 2)
    ∗ (dutyTok ER (bcell (peer c 3)) 0 3 ∗ barPay (F := F) (peer c 3) 3) ∗ cred (tallyAt (bcell c) () 3) ∗ atPos ER (bcell c) 0 ∅ 0)

/-- The tokens for the sends of the rows, and for those of the partial results. -/
def agTs : sProp 𝕄 := iprop(agT c 0 0 ∗ agT c 0 1 ∗ agT c 1 0 ∗ agT c 1 1 ∗ agT c 2 0 ∗ agT c 2 1)
def rsTs : sProp 𝕄 := iprop(rsT c 0 0 ∗ rsT c 0 1 ∗ rsT c 1 0 ∗ rsT c 1 1 ∗ rsT c 2 0 ∗ rsT c 2 1)

/-- The credit and position of each landing, and the positions of the sends. -/
def agIn : sProp 𝕄 := iprop((crd c (agRi 0 0) ∗ pos c (agRi 0 0) 0) ∗ (crd c (agRi 0 1) ∗ pos c (agRi 0 1) 0) ∗ (crd c (agRi 1 0) ∗ pos c (agRi 1 0) 0) ∗ (crd c (agRi 1 1) ∗ pos c (agRi 1 1) 0) ∗ (crd c (agRi 2 0) ∗ pos c (agRi 2 0) 0) ∗ (crd c (agRi 2 1) ∗ pos c (agRi 2 1) 0))
def rsIn : sProp 𝕄 := iprop((crd c (rsRi 0 0) ∗ pos c (rsRi 0 0) 0) ∗ (crd c (rsRi 0 1) ∗ pos c (rsRi 0 1) 0) ∗ (crd c (rsRi 1 0) ∗ pos c (rsRi 1 0) 0) ∗ (crd c (rsRi 1 1) ∗ pos c (rsRi 1 1) 0) ∗ (crd c (rsRi 2 0) ∗ pos c (rsRi 2 0) 0) ∗ (crd c (rsRi 2 1) ∗ pos c (rsRi 2 1) 0))
def agPos (r : ℕ) : sProp 𝕄 := iprop(pos c (agSi 0 0) r ∗ pos c (agSi 0 1) r ∗ pos c (agSi 1 0) r ∗ pos c (agSi 1 1) r ∗ pos c (agSi 2 0) r ∗ pos c (agSi 2 1) r)
def agDone : sProp 𝕄 := iprop(pos c (agRi 0 0) 1 ∗ pos c (agRi 0 1) 1 ∗ pos c (agRi 1 0) 1 ∗ pos c (agRi 1 1) 1 ∗ pos c (agRi 2 0) 1 ∗ pos c (agRi 2 1) 1)
def rsDone : sProp 𝕄 := iprop(pos c (rsRi 0 0) 1 ∗ pos c (rsRi 0 1) 1 ∗ pos c (rsRi 1 0) 1 ∗ pos c (rsRi 1 1) 1 ∗ pos c (rsRi 2 0) 1 ∗ pos c (rsRi 2 1) 1)
def sgPos (r : ℕ) : sProp 𝕄 := iprop(pos c (sgSi 0) r ∗ pos c (sgSi 1) r)

/-- The weights' pipeline at rest, and the hidden buffer. -/
def idle : sProp 𝕄 :=
  iprop((∃ Y, Own c hbM fullShare Y) ∗ free1 c (A.w1 c) (sl 0) ∗ free1 c (A.w1 c) (sl 1) ∗ free2 c (A.w2 c) (sl 0) ∗ free2 c (A.w2 c) (sl 1))

/-- The staging buffers. -/
def stage : sProp 𝕄 := iprop((∃ Y, Own c xsM fullShare Y) ∗ (∃ Y, Own c acM fullShare Y) ∗ (∃ Y, Own c (rss 0) fullShare Y) ∗ (∃ Y, Own c (rss 1) fullShare Y))

/-- What a device starts with, and what it ends with. -/
def start : sProp 𝕄 :=
  iprop(Ow c pays ∗ hails c ∗ rows A c 0 ∗ rows A c 1 ∗ agTs c ∗ rsTs c ∗ agIn c ∗ rsIn c ∗ agPos c 0 ∗ sgPos c 0 ∗ idle A c ∗ stage c ∗ lc0 c
    ∗ (∃ Y, Own c (rsM 3 0) fullShare Y) ∗ (∃ Y, Own c (outM 0) fullShare Y) ∗ (∃ Y, Own c (outM 1) fullShare Y))
def finish : sProp 𝕄 :=
  iprop(Ow c lR0 ∗ atPos ER (bcell c) 1 ∅ 0 ∗ agDone c ∗ rsDone c ∗ agPos c 1 ∗ sgPos c 3 ∗ idle A c ∗ stage c ∗ lc0 c
    ∗ Own c (outM 0) fullShare (out0 A c) ∗ Own c (outM 1) fullShare (out1 A c))

/-- The body, from `start` to `finish`. -/
theorem sound_body {Q : PUnit → sProp 𝕄} :
    iprop(Ctx A K ∗ start A c) ⊢ iprop((finish A c -∗ Q ⟨⟩) -∗ wpc c (cc0_body (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12) Q) := by
  unfold start hails rows agTs rsTs agIn rsIn agPos sgPos idle stage
  rw [pays_eq]
  iintro ⟨#HC, HO, ⟨HB1, HB2, HB3, HBc, HBp⟩, ⟨X00, X01, X02, X03⟩, ⟨X10, X11, X12, X13⟩, ⟨Ta00, Ta01, Ta10, Ta11, Ta20, Ta21⟩, ⟨Tr00, Tr01, Tr10, Tr11, Tr20, Tr21⟩, ⟨⟨Ca00, Pa00⟩, ⟨Ca01, Pa01⟩, ⟨Ca10, Pa10⟩, ⟨Ca11, Pa11⟩, ⟨Ca20, Pa20⟩, ⟨Ca21, Pa21⟩⟩, ⟨⟨Cr00, Pr00⟩, ⟨Cr01, Pr01⟩, ⟨Cr10, Pr10⟩, ⟨Cr11, Pr11⟩, ⟨Cr20, Pr20⟩, ⟨Cr21, Pr21⟩⟩, ⟨Ps00, Ps01, Ps10, Ps11, Ps20, Ps21⟩, ⟨Pg0, Pg1⟩, ⟨HH, H1, H2, H3, H4⟩, ⟨HX, HA, HR0, HR1⟩, Hv, HD, Hu0, Hu1⟩ Hk
  ihave Hr0 := (Ctx_reached A K (c, some (sgSi 0))) $$ HC
  ihave Hr1 := (Ctx_reached A K (c, some (sgSi 1))) $$ HC
  rw [cc0_body_eq_skeleton]; unfold cc0_body_skel
  simp only [Prog.lift, Prog.bind_op, Prog.bind_ret, Prog.pure_eq_ret]
  iapply (part33 A K c) $$ [HO HB1 HB2]
  · isplitr; · iexact HC
    isplitl [HO]; · iexact HO
    isplitl [HB1]; · iexact HB1
    iexact HB2
  iintro %v2 %v30 %w %v31 HO
  dsimp only
  iapply (part34 A K c v2 v30 w v31) $$ [HO HB3 HBc HBp]
  · isplitr; · iexact HC
    isplitl [HO]; · iexact HO
    isplitl [HB3]; · iexact HB3
    isplitl [HBc]; · iexact HBc
    iexact HBp
  iintro ⟨HO, HBp, S0, S1, S2⟩
  ihave S0 := (slots_out c 0 1 rfl) $$ S0; icases S0 with ⟨Da00, Da01, Dr00, Dr01⟩
  ihave S1 := (slots_out c 1 2 rfl) $$ S1; icases S1 with ⟨Da10, Da11, Dr10, Dr11⟩
  ihave S2 := (slots_out c 2 3 rfl) $$ S2; icases S2 with ⟨Da20, Da21, Dr20, Dr21⟩
  iapply (part35 A K c (tk 0) (tk 0) v2) $$ [X00 X10 Da00 Da01 Ta00 Ta01 HO]
  · isplitr; · iexact HC
    isplitl [X00 X10]
    · isplitl [X00]; · iexact X00
      iexact X10
    isplitl [Da00 Da01]
    · isplitl [Da00]; · iexact Da00
      iexact Da01
    isplitl [Ta00 Ta01]
    · isplitl [Ta00]; · iexact Ta00
      iexact Ta01
    iexact HO
  iintro %v93 ⟨Cs00, Cs01, HO⟩
  iapply (part36 A K c (tk 1) (tk 1) v2 v93) $$ [X01 X11 Da10 Da11 Ta10 Ta11 HO]
  · isplitr; · iexact HC
    isplitl [X01 X11]
    · isplitl [X01]; · iexact X01
      iexact X11
    isplitl [Da10 Da11]
    · isplitl [Da10]; · iexact Da10
      iexact Da11
    isplitl [Ta10 Ta11]
    · isplitl [Ta10]; · iexact Ta10
      iexact Ta11
    iexact HO
  iintro %v123 ⟨Cs10, Cs11, HO⟩
  iapply (part37 A K c (tk 2) v2 v123) $$ [X02 Da20 Ta20 HO]
  · isplitr; · iexact HC
    isplitl [X02]; · iexact X02
    isplitl [Da20]; · iexact Da20
    isplitl [Ta20]; · iexact Ta20
    iexact HO
  iintro %v153 ⟨Cs20, HO⟩
  iapply (part38 A K c (tk 2) (tk 3) v153) $$ [X12 Da21 Ta21 HO HH H1 H2 H3 H4 X03 HX HA Hv]
  · isplitr; · iexact HC
    isplitl [X12]; · iexact X12
    isplitl [Da21]; · iexact Da21
    isplitl [Ta21]; · iexact Ta21
    isplitl [HO]; · iexact HO
    isplitl [HH]; · iexact HH
    isplitl [H1]; · iexact H1
    isplitl [H2]; · iexact H2
    isplitl [H3]; · iexact H3
    isplitl [H4]; · iexact H4
    isplitl [X03]; · iexact X03
    isplitl [HX]; · iexact HX
    isplitl [HA]; · iexact HA
    iexact Hv
  iintro %c0 %c1 ⟨Cs21, HW, HX, HA, Hv, HO⟩
  dsimp only
  iapply (part39 A K c v2 c0 c1) $$ [HW HX HA HR0 HD Hv HO Ca20 Pa20]
  · isplitr; · iexact HC
    isplitl [HW]; · iexact HW
    isplitl [HX]; · iexact HX
    isplitl [HA]; · iexact HA
    isplitl [HR0]; · iexact HR0
    isplitl [HD]; · iexact HD
    isplitl [Hv]; · iexact Hv
    isplitl [HO]; · iexact HO
    isplitl [Ca20]; · iexact Ca20
    iexact Pa20
  iintro ⟨HW, HX, HA, HR0, HD, Hv, Pa20, Hs, HO⟩
  iapply (part40 A K c v2) $$ [Hs HX Hv HO HW HA HR0]
  · isplitr; · iexact HC
    isplitl [Hs]; · iexact Hs
    isplitl [HX]; · iexact HX
    isplitl [Hv]; · iexact Hv
    isplitl [HO]; · iexact HO
    isplitl [HW]; · iexact HW
    isplitl [HA]; · iexact HA
    iexact HR0
  iintro %v226 ⟨HW, HX, HA, Hv, HR0, HO⟩
  iapply (part41 A K c v2 v226) $$ [HR0 Dr00 Tr00 Hr0 HO Ca21 Pa21 HX Hv HA]
  · isplitr; · iexact HC
    isplitl [HR0]; · iexact HR0
    isplitl [Dr00]; · iexact Dr00
    isplitl [Tr00]; · iexact Tr00
    isplitl [Hr0]; · iexact Hr0
    isplitl [HO]; · iexact HO
    isplitl [Ca21]; · iexact Ca21
    isplitl [Pa21]; · iexact Pa21
    isplitl [HX]; · iexact HX
    isplitl [Hv]; · iexact Hv
    iexact HA
  iintro ⟨Cg0, Pa21, HX, Hv, HA, HO⟩
  iapply (part42 A K c v2) $$ [HW HX HA HR1 Dr01 Tr01 Hr1 HO]
  · isplitr; · iexact HC
    isplitl [HW]; · iexact HW
    isplitl [HX]; · iexact HX
    isplitl [HA]; · iexact HA
    isplitl [HR1]; · iexact HR1
    isplitl [Dr01]; · iexact Dr01
    isplitl [Tr01]; · iexact Tr01
    isplitl [Hr1]; · iexact Hr1
    iexact HO
  iintro ⟨HW, HX, HA, Cg1, HO⟩
  iapply (part43 A K c v2) $$ [Ca10 Pa10 HX Hv HW HA HO]
  · isplitr; · iexact HC
    isplitl [Ca10]; · iexact Ca10
    isplitl [Pa10]; · iexact Pa10
    isplitl [HX]; · iexact HX
    isplitl [Hv]; · iexact Hv
    isplitl [HW]; · iexact HW
    isplitl [HA]; · iexact HA
    iexact HO
  iintro ⟨Pa10, HW, HX, HA, Hv, HO⟩
  iapply (part44 A K c v2) $$ [Cg0 Pg0 HA Dr10 Tr10 HO]
  · isplitr; · iexact HC
    isplitl [Cg0]; · iexact Cg0
    isplitl [Pg0]; · iexact Pg0
    isplitl [HA]; · iexact HA
    isplitl [Dr10]; · iexact Dr10
    isplitl [Tr10]; · iexact Tr10
    iexact HO
  iintro ⟨Pg0, HA, Cg0, HO⟩
  iapply (part45 A K c v2) $$ [Ca11 Pa11 HX Hv HW HA HO]
  · isplitr; · iexact HC
    isplitl [Ca11]; · iexact Ca11
    isplitl [Pa11]; · iexact Pa11
    isplitl [HX]; · iexact HX
    isplitl [Hv]; · iexact Hv
    isplitl [HW]; · iexact HW
    isplitl [HA]; · iexact HA
    iexact HO
  iintro ⟨Pa11, HW, HX, HA, Hv, HO⟩
  iapply (part46 A K c v2) $$ [Cg1 Pg1 HA Dr11 Tr11 HO]
  · isplitr; · iexact HC
    isplitl [Cg1]; · iexact Cg1
    isplitl [Pg1]; · iexact Pg1
    isplitl [HA]; · iexact HA
    isplitl [Dr11]; · iexact Dr11
    isplitl [Tr11]; · iexact Tr11
    iexact HO
  iintro ⟨Pg1, HA, Cg1, HO⟩
  iapply (part47 A K c v2) $$ [Ca00 Pa00 HX Hv HW HA HO]
  · isplitr; · iexact HC
    isplitl [Ca00]; · iexact Ca00
    isplitl [Pa00]; · iexact Pa00
    isplitl [HX]; · iexact HX
    isplitl [Hv]; · iexact Hv
    isplitl [HW]; · iexact HW
    isplitl [HA]; · iexact HA
    iexact HO
  iintro ⟨Pa00, HW, HX, HA, Hv, HO⟩
  iapply (part48 A K c v2) $$ [Cg0 Pg0 HA Dr20 Tr20 HO]
  · isplitr; · iexact HC
    isplitl [Cg0]; · iexact Cg0
    isplitl [Pg0]; · iexact Pg0
    isplitl [HA]; · iexact HA
    isplitl [Dr20]; · iexact Dr20
    isplitl [Tr20]; · iexact Tr20
    iexact HO
  iintro ⟨Pg0, HA, Cg0, HO⟩
  iapply (part49 A K c v2) $$ [Ca01 Pa01 HX Hv HW HA HO]
  · isplitr; · iexact HC
    isplitl [Ca01]; · iexact Ca01
    isplitl [Pa01]; · iexact Pa01
    isplitl [HX]; · iexact HX
    isplitl [Hv]; · iexact Hv
    isplitl [HW]; · iexact HW
    isplitl [HA]; · iexact HA
    iexact HO
  iintro ⟨Pa01, HW, HX, HA, Hv, HO⟩
  iapply (part50 A K c (tk 3) v2) $$ [Cg1 Pg1 HA Dr21 Tr21 HO X13 HX Hv]
  · isplitr; · iexact HC
    isplitl [Cg1]; · iexact Cg1
    isplitl [Pg1]; · iexact Pg1
    isplitl [HA]; · iexact HA
    isplitl [Dr21]; · iexact Dr21
    isplitl [Tr21]; · iexact Tr21
    isplitl [HO]; · iexact HO
    isplitl [X13]; · iexact X13
    isplitl [HX]; · iexact HX
    iexact Hv
  iintro ⟨Pg1, HA, Cg1, Hf, HO⟩
  iapply (part51 A K c (tk 3)) $$ [Hf HW HA Cg0 Pg0 Cg1 Pg1 HO]
  · isplitr; · iexact HC
    isplitl [Hf]; · iexact Hf
    isplitl [HW]; · iexact HW
    isplitl [HA]; · iexact HA
    isplitl [Cg0 Pg0]
    · isplitl [Cg0]; · iexact Cg0
      iexact Pg0
    isplitl [Cg1 Pg1]
    · isplitl [Cg1]; · iexact Cg1
      iexact Pg1
    iexact HO
  iintro ⟨HW, HX, HA, Hv, Pg0, Pg1, HR0, HR1, HO⟩
  iapply (part52 A K c v2) $$ [HD HR0 Hv Cr00 Pr00 HO]
  · isplitr; · iexact HC
    isplitl [HD]; · iexact HD
    isplitl [HR0]; · iexact HR0
    isplitl [Hv]; · iexact Hv
    isplitl [Cr00]; · iexact Cr00
    isplitl [Pr00]; · iexact Pr00
    iexact HO
  iintro ⟨Pr00, Hf, HO⟩
  iapply (part53 A K c v2 _) $$ [Hf Cr10 Pr10 HO]
  · isplitr; · iexact HC
    isplitl [Hf]; · iexact Hf
    isplitl [Cr10]; · iexact Cr10
    isplitl [Pr10]; · iexact Pr10
    iexact HO
  iintro ⟨Pr10, HR0, Hv, HO⟩
  iapply (part54 A K c v2 _) $$ [HR0 Hv Cr20 Pr20 HO]
  · isplitr; · iexact HC
    isplitl [HR0]; · iexact HR0
    isplitl [Hv]; · iexact Hv
    isplitl [Cr20]; · iexact Cr20
    isplitl [Pr20]; · iexact Pr20
    iexact HO
  iintro ⟨Pr20, HR0, Hv, HO⟩
  iapply (part55 A K c v2 _ _) $$ [HR0 Hu0 Hv HA HR1 Cr01 Pr01 HO]
  · isplitr; · iexact HC
    isplitl [HR0]; · iexact HR0
    isplitl [Hu0]; · iexact Hu0
    isplitl [Hv]; · iexact Hv
    isplitl [HA]; · iexact HA
    isplitl [HR1]; · iexact HR1
    isplitl [Cr01]; · iexact Cr01
    isplitl [Pr01]; · iexact Pr01
    iexact HO
  iintro ⟨Hu0, HR0, HA, HR1, Pr01, Hv, HO⟩
  iapply (part56 A K c v2 _) $$ [HR1 Hv Cr11 Pr11 HO]
  · isplitr; · iexact HC
    isplitl [HR1]; · iexact HR1
    isplitl [Hv]; · iexact Hv
    isplitl [Cr11]; · iexact Cr11
    isplitl [Pr11]; · iexact Pr11
    iexact HO
  iintro %v622 ⟨Pr11, HR1, Hv, HO⟩
  dsimp only
  iapply (part57 A K c _ v622) $$ [HR1 Hv Hu1 Cr21 Pr21 HO]
  · isplitr; · iexact HC
    isplitl [HR1]; · iexact HR1
    isplitl [Hv]; · iexact Hv
    isplitl [Hu1]; · iexact Hu1
    isplitl [Cr21]; · iexact Cr21
    isplitl [Pr21]; · iexact Pr21
    iexact HO
  iintro ⟨Pr21, Hf, HO⟩
  iapply (part58 A K c _) $$ [Hf HW Cs00 Ps00 HO]
  · isplitr; · iexact HC
    isplitl [Hf]; · iexact Hf
    isplitl [HW]; · iexact HW
    isplitl [Cs00]; · iexact Cs00
    isplitl [Ps00]; · iexact Ps00
    iexact HO
  iintro ⟨Hu1, HR1, Hv, HI, Ps00, HO⟩
  iapply (part59 A K c) $$ [Cs01 Ps01 Cs10 Ps10 Cs11 Ps11 Cs20 Ps20 HO]
  · isplitr; · iexact HC
    isplitl [Cs01 Ps01]
    · isplitl [Cs01]; · iexact Cs01
      iexact Ps01
    isplitl [Cs10 Ps10]
    · isplitl [Cs10]; · iexact Cs10
      iexact Ps10
    isplitl [Cs11 Ps11]
    · isplitl [Cs11]; · iexact Cs11
      iexact Ps11
    isplitl [Cs20 Ps20]
    · isplitl [Cs20]; · iexact Cs20
      iexact Ps20
    iexact HO
  iintro ⟨Ps01, Ps10, Ps11, Ps20, HO⟩
  iapply (wp_agsw A K c 2 1 (agSW _ 2 1 rfl) crX) $$ [Cs21 HO Ps21]
  · isplitr; · iexact HC
    isplitl [Cs21]; · iexact Cs21
    isplitl [HO]; · iexact HO
    iexact Ps21
  iintro ⟨HO, Ps21⟩
  iapply (wpc_ret c)
  iapply Hk
  unfold finish agDone rsDone agPos sgPos idle stage
  isplitl [HO]; · iexact HO
  isplitl [HBp]; · iexact HBp
  isplitl [Pa00 Pa01 Pa10 Pa11 Pa20 Pa21]
  · isplitl [Pa00]; · iexact Pa00
    isplitl [Pa01]; · iexact Pa01
    isplitl [Pa10]; · iexact Pa10
    isplitl [Pa11]; · iexact Pa11
    isplitl [Pa20]; · iexact Pa20
    iexact Pa21
  isplitl [Pr00 Pr01 Pr10 Pr11 Pr20 Pr21]
  · isplitl [Pr00]; · iexact Pr00
    isplitl [Pr01]; · iexact Pr01
    isplitl [Pr10]; · iexact Pr10
    isplitl [Pr11]; · iexact Pr11
    isplitl [Pr20]; · iexact Pr20
    iexact Pr21
  isplitl [Ps00 Ps01 Ps10 Ps11 Ps20 Ps21]
  · isplitl [Ps00]; · iexact Ps00
    isplitl [Ps01]; · iexact Ps01
    isplitl [Ps10]; · iexact Ps10
    isplitl [Ps11]; · iexact Ps11
    isplitl [Ps20]; · iexact Ps20
    iexact Ps21
  isplitl [Pg0 Pg1]
  · isplitl [Pg0]; · iexact Pg0
    iexact Pg1
  isplitl [HI]; · iexact HI
  isplitl [HX HA HR0 HR1]
  · isplitl [HX]; · iexact HX
    isplitl [HA]; · iexists _; iexact HA
    isplitl [HR0]; · iexact HR0
    iexact HR1
  isplitl [Hv]; · iexact Hv
  unfold out0 out1
  isplitl [Hu0]; · iexact Hu0
  iexact Hu1

end Cert.KProof

end
-- ==== Proof.Split.lean ====
/-
The buffers cut into the windows the protocol speaks of, and the slots joined again.
-/
module

public import proofs.«01_k».proof.Proof.Body

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ## Squeezed windows -/

theorem own_squeeze {sp : Space} {s s' : Shape} {e : EltTy} (m : Memref sig .tc sp s e) (hq : s.Squeezes s') (q : PosShare TreeShare)
    (X : s.Idx → Elt F e) : Own c m q X ⊢ iprop(∃ Y, Own c (m.squeeze s' hq) q Y) := by
  unfold Own owns
  iintro ⟨%f, %hf, H⟩
  iexists (m.squeeze s' hq).view.read (Elt F) f
  iexists f
  isplitr; · ipureintro; rfl
  have h : (m.squeeze s' hq).view.set = m.view.set := View.set_reshape _ _
  rw [h]
  iexact H

theorem own_unsqueeze {sp : Space} {s s' : Shape} {e : EltTy} (m : Memref sig .tc sp s e) (hq : s.Squeezes s') (q : PosShare TreeShare)
    (Y : s'.Idx → Elt F e) : Own c (m.squeeze s' hq) q Y ⊢ iprop(∃ X, Own c m q X) := by
  unfold Own owns
  iintro ⟨%f, %hf, H⟩
  iexists m.view.read (Elt F) f
  iexists f
  isplitr; · ipureintro; rfl
  have h : (m.squeeze s' hq).view.set = m.view.set := View.set_reshape _ _
  rw [h]
  iexact H

/-! ## Families of windows -/

section Family
variable {sp : Space} {s : Shape} {e : EltTy} (m : Memref sig .tc sp s e) (q : PosShare TreeShare)
  {T : Type} [Fintype T] [DecidableEq T] (off : T → Fin s.rank → ℕ) (size : Fin s.rank → ℕ) (inb : ∀ t a, off t a + size a ≤ s.size a)
  (hd : ∀ t t', t ≠ t' → ∃ a, off t a + size a ≤ off t' a ∨ off t' a + size a ≤ off t a)
  (hcov : ∀ i : s.Idx, ∃ t, ∀ a, off t a ≤ i a ∧ (i a).val < off t a + size a)

include hd in
theorem disj_of (t t' : T) (h : t ≠ t') : Disjoint (Rect.unit (s := s) (off t) size (inb t)).set (Rect.unit (s := s) (off t') size (inb t')).set := by
  obtain ⟨a, ha⟩ := hd t t' h
  exact Rect.unit_disjoint a ha

include hcov in
theorem cover_of : (Finset.univ : Finset T).biUnion (fun t => (Rect.unit (s := s) (off t) size (inb t)).set) = Finset.univ := by
  ext i
  obtain ⟨t, ht⟩ := hcov i
  exact ⟨fun _ => Finset.mem_univ _, fun _ => Finset.mem_biUnion.mpr ⟨t, Finset.mem_univ _, Rect.mem_set_unit.mpr ht⟩⟩

include hd hcov in
theorem own_cut (X : s.Idx → Elt F e) :
    Own c m q X ⊢ BI.bigSep Finset.univ fun t => Own c (m.slice (Rect.unit (s := s) (off t) size (inb t)) (fun _ => rfl)) q (fun j => X ((Rect.unit (s := s) (off t) size (inb t)).emb j)) :=
  owns_rects (c : Thread nD τ) m q (fun t => Rect.unit (s := s) (off t) size (inb t)) (fun _ _ => rfl) (disj_of off size inb hd) (cover_of off size inb hcov) X

include hd hcov in
theorem own_paste (X : s.Idx → Elt F e) :
    (BI.bigSep Finset.univ fun t => Own c (m.slice (Rect.unit (s := s) (off t) size (inb t)) (fun _ => rfl)) q (fun j => X ((Rect.unit (s := s) (off t) size (inb t)).emb j))) ⊢ Own c m q X :=
  owns_of_rects (c : Thread nD τ) m q (fun t => Rect.unit (s := s) (off t) size (inb t)) (fun _ _ => rfl) (disj_of off size inb hd) (cover_of off size inb hcov) X

end Family

theorem two_of (Φ : Fin 2 → sProp 𝕄) : BI.bigSep Finset.univ Φ = iprop(Φ 0 ∗ Φ 1) := bigSep_univ_eq_bigSepL [0, 1] (by decide) (by decide) Φ

/-- Two windows that make up a buffer, at any contents, are the buffer at some contents. -/
theorem own_paste_two {sp : Space} {s : Shape} {e : EltTy} (m : Memref sig .tc sp s e) (q : PosShare TreeShare)
    (off : Fin 2 → Fin s.rank → ℕ) (size : Fin s.rank → ℕ) (inb : ∀ t a, off t a + size a ≤ s.size a)
    (hd : ∀ t t', t ≠ t' → ∃ a, off t a + size a ≤ off t' a ∨ off t' a + size a ≤ off t a)
    (hcov : ∀ i : s.Idx, ∃ t, ∀ a, off t a ≤ i a ∧ (i a).val < off t a + size a) :
    iprop((∃ Y, Own c (m.slice (Rect.unit (s := s) (off 0) size (inb 0)) (fun _ => rfl)) q Y)
        ∗ (∃ Y, Own c (m.slice (Rect.unit (s := s) (off 1) size (inb 1)) (fun _ => rfl)) q Y))
      ⊢ iprop(∃ X, Own (F := F) c m q X) := by
  iintro ⟨⟨%Y0, H0⟩, ⟨%Y1, H1⟩⟩
  have h01 := disj_of off size inb hd 0 1 (by decide)
  iexists (Rect.unit (s := s) (off 1) size (inb 1)).overlay ((Rect.unit (s := s) (off 0) size (inb 0)).overlay (fun _ => Classical.arbitrary _) Y0) Y1
  iapply (own_paste c m q off size inb hd hcov)
  rw [two_of]
  isplitl [H0]
  · have e0 : (fun j => (Rect.unit (s := s) (off 1) size (inb 1)).overlay ((Rect.unit (s := s) (off 0) size (inb 0)).overlay (fun _ => Classical.arbitrary _) Y0) Y1
        ((Rect.unit (s := s) (off 0) size (inb 0)).emb j)) = Y0 := by
      funext j
      rw [Rect.overlay_of_not_mem _ _ _ (fun h => Finset.disjoint_left.mp h01 (by rw [← Rect.map_emb_univ]; exact Finset.mem_map_of_mem _ (Finset.mem_univ j)) h), Rect.overlay_emb]
    rw [e0]; iexact H0
  · have e1 : (fun j => (Rect.unit (s := s) (off 1) size (inb 1)).overlay ((Rect.unit (s := s) (off 0) size (inb 0)).overlay (fun _ => Classical.arbitrary _) Y0) Y1
        ((Rect.unit (s := s) (off 1) size (inb 1)).emb j)) = Y1 := by
      funext j; exact Rect.overlay_emb _ _ _ _
    rw [e1]; iexact H1

/-! ## The rows of a matrix in two halves -/

theorem halves_d : ∀ t t' : Fin 2, t ≠ t' → ∃ a : Fin 2, (![1024 * t.val, 0] : Fin 2 → ℕ) a + S1024x2048.size a ≤ (![1024 * t'.val, 0] : Fin 2 → ℕ) a
    ∨ (![1024 * t'.val, 0] : Fin 2 → ℕ) a + S1024x2048.size a ≤ (![1024 * t.val, 0] : Fin 2 → ℕ) a := by decide
theorem halves_in : ∀ (t : Fin 2) (a : Fin 2), (![1024 * t.val, 0] : Fin 2 → ℕ) a + S1024x2048.size a ≤ S2048x2048.size a := by decide
theorem halves_c (i : S2048x2048.Idx) : ∃ t : Fin 2, ∀ a : Fin 2, (![1024 * t.val, 0] : Fin 2 → ℕ) a ≤ i a ∧ (i a).val < (![1024 * t.val, 0] : Fin 2 → ℕ) a + S1024x2048.size a := by
  have h0 : (i 0).val < 2048 := (i 0).isLt
  have h1 : (i 1).val < 2048 := (i 1).isLt
  refine ⟨⟨(i 0).val / 1024, by omega⟩, fun a => ?_⟩
  fin_cases a
  · show 1024 * ((i 0).val / 1024) ≤ (i 0).val ∧ (i 0).val < 1024 * ((i 0).val / 1024) + 1024
    omega
  · show 0 ≤ (i 1).val ∧ (i 1).val < 0 + 2048
    omega

theorem cut_x (q : PosShare TreeShare) (X : S2048x2048.Idx → Elt F .bf16) :
    Own c (Memref.whole main_arg0) q X ⊢ iprop(Own c (xM 0) q (half X 0) ∗ Own c (xM 1) q (half X 1)) :=
  (own_cut c (Memref.whole main_arg0) q (fun t : Fin 2 => ![1024 * t.val, 0]) S1024x2048.size halves_in halves_d halves_c X).trans
    (Entails.of_eq (two_of _))
theorem cut_out (X : S2048x2048.Idx → Elt F .bf16) :
    Own c (Memref.whole main_v1_0) fullShare X ⊢ iprop((∃ Y, Own c (outM 0) fullShare Y) ∗ (∃ Y, Own c (outM 1) fullShare Y)) := by
  refine (own_cut c (Memref.whole main_v1_0) fullShare (fun t : Fin 2 => ![1024 * t.val, 0]) S1024x2048.size halves_in halves_d halves_c X).trans ?_
  rw [two_of]
  iintro ⟨H0, H1⟩
  isplitl [H0]
  · iexists _; iexact H0
  · iexists _; iexact H1

/-! ## The landing buffers -/

theorem ag_in : ∀ (t : Fin 3 × Fin 2) (a : Fin 3), (![t.1.val, 1024 * t.2.val, 0] : Fin 3 → ℕ) a + S1x1024x2048.size a ≤ S3x2048x2048.size a := by decide
theorem ag_d : ∀ t t' : Fin 3 × Fin 2, t ≠ t' → ∃ a : Fin 3, (![t.1.val, 1024 * t.2.val, 0] : Fin 3 → ℕ) a + S1x1024x2048.size a ≤ (![t'.1.val, 1024 * t'.2.val, 0] : Fin 3 → ℕ) a
    ∨ (![t'.1.val, 1024 * t'.2.val, 0] : Fin 3 → ℕ) a + S1x1024x2048.size a ≤ (![t.1.val, 1024 * t.2.val, 0] : Fin 3 → ℕ) a := by decide
theorem ag_c (i : S3x2048x2048.Idx) : ∃ t : Fin 3 × Fin 2, ∀ a : Fin 3, (![t.1.val, 1024 * t.2.val, 0] : Fin 3 → ℕ) a ≤ i a
    ∧ (i a).val < (![t.1.val, 1024 * t.2.val, 0] : Fin 3 → ℕ) a + S1x1024x2048.size a := by
  have h0 : (i 0).val < 3 := (i 0).isLt
  have h1 : (i 1).val < 2048 := (i 1).isLt
  have h2 : (i 2).val < 2048 := (i 2).isLt
  refine ⟨(⟨(i 0).val, h0⟩, ⟨(i 1).val / 1024, by omega⟩), fun a => ?_⟩
  fin_cases a
  · show (i 0).val ≤ (i 0).val ∧ (i 0).val < (i 0).val + 1
    omega
  · show 1024 * ((i 1).val / 1024) ≤ (i 1).val ∧ (i 1).val < 1024 * ((i 1).val / 1024) + 1024
    omega
  · show 0 ≤ (i 2).val ∧ (i 2).val < 0 + 2048
    omega
theorem rs_in : ∀ (t : Fin 4 × Fin 2) (a : Fin 3), (![t.1.val, 1024 * t.2.val, 0] : Fin 3 → ℕ) a + S1x1024x2048.size a ≤ S4x2048x2048.size a := by decide
theorem rs_d : ∀ t t' : Fin 4 × Fin 2, t ≠ t' → ∃ a : Fin 3, (![t.1.val, 1024 * t.2.val, 0] : Fin 3 → ℕ) a + S1x1024x2048.size a ≤ (![t'.1.val, 1024 * t'.2.val, 0] : Fin 3 → ℕ) a
    ∨ (![t'.1.val, 1024 * t'.2.val, 0] : Fin 3 → ℕ) a + S1x1024x2048.size a ≤ (![t.1.val, 1024 * t.2.val, 0] : Fin 3 → ℕ) a := by decide
theorem rs_c (i : S4x2048x2048.Idx) : ∃ t : Fin 4 × Fin 2, ∀ a : Fin 3, (![t.1.val, 1024 * t.2.val, 0] : Fin 3 → ℕ) a ≤ i a
    ∧ (i a).val < (![t.1.val, 1024 * t.2.val, 0] : Fin 3 → ℕ) a + S1x1024x2048.size a := by
  have h0 : (i 0).val < 4 := (i 0).isLt
  have h1 : (i 1).val < 2048 := (i 1).isLt
  have h2 : (i 2).val < 2048 := (i 2).isLt
  refine ⟨(⟨(i 0).val, h0⟩, ⟨(i 1).val / 1024, by omega⟩), fun a => ?_⟩
  fin_cases a
  · show (i 0).val ≤ (i 0).val ∧ (i 0).val < (i 0).val + 1
    omega
  · show 1024 * ((i 1).val / 1024) ≤ (i 1).val ∧ (i 1).val < 1024 * ((i 1).val / 1024) + 1024
    omega
  · show 0 ≤ (i 2).val ∧ (i 2).val < 0 + 2048
    omega

theorem cut_ag (X : S3x2048x2048.Idx → Elt F .bf16) :
    Own c (Memref.whole main_v1_1) fullShare X ⊢ iprop(((∃ Y, Own c (agM 0 0) fullShare Y) ∗ (∃ Y, Own c (agM 0 1) fullShare Y))
      ∗ ((∃ Y, Own c (agM 1 0) fullShare Y) ∗ (∃ Y, Own c (agM 1 1) fullShare Y)) ∗ ((∃ Y, Own c (agM 2 0) fullShare Y) ∗ (∃ Y, Own c (agM 2 1) fullShare Y))) := by
  refine (own_cut c (Memref.whole main_v1_1) fullShare (fun t : Fin 3 × Fin 2 => ![t.1.val, 1024 * t.2.val, 0]) S1x1024x2048.size ag_in ag_d ag_c X).trans ?_
  refine (bigSep_mono (Ψ := fun t : Fin 3 × Fin 2 => (iprop(∃ Y, Own c (agM t.1 t.2) fullShare Y) : sProp 𝕄)) fun t _ => own_squeeze c _ squeezes_S1x1024x2048_S1024x2048 _ _).trans ?_
  rw [bigSep_univ_eq_bigSepL [(0, 0), (0, 1), (1, 0), (1, 1), (2, 0), (2, 1)] (by decide) (by decide)]
  show iprop((∃ Y, Own c (agM 0 0) fullShare Y) ∗ (∃ Y, Own c (agM 0 1) fullShare Y) ∗ (∃ Y, Own c (agM 1 0) fullShare Y)
    ∗ (∃ Y, Own c (agM 1 1) fullShare Y) ∗ (∃ Y, Own c (agM 2 0) fullShare Y) ∗ (∃ Y, Own c (agM 2 1) fullShare Y)) ⊢ _
  iintro ⟨H1, H2, H3, H4, H5, H6⟩
  isplitl [H1 H2]; · isplitl [H1] <;> iassumption
  isplitl [H3 H4]; · isplitl [H3] <;> iassumption
  isplitl [H5] <;> iassumption
theorem cut_rs (X : S4x2048x2048.Idx → Elt F .bf16) :
    Own c (Memref.whole main_v1_2) fullShare X ⊢ iprop(((∃ Y, Own c (rsM 0 0) fullShare Y) ∗ (∃ Y, Own c (rsM 0 1) fullShare Y))
      ∗ ((∃ Y, Own c (rsM 1 0) fullShare Y) ∗ (∃ Y, Own c (rsM 1 1) fullShare Y)) ∗ ((∃ Y, Own c (rsM 2 0) fullShare Y) ∗ (∃ Y, Own c (rsM 2 1) fullShare Y))
      ∗ (∃ Y, Own c (rsM 3 0) fullShare Y)) := by
  refine (own_cut c (Memref.whole main_v1_2) fullShare (fun t : Fin 4 × Fin 2 => ![t.1.val, 1024 * t.2.val, 0]) S1x1024x2048.size rs_in rs_d rs_c X).trans ?_
  refine (bigSep_mono (Ψ := fun t : Fin 4 × Fin 2 => (iprop(∃ Y, Own c (rsM t.1 t.2) fullShare Y) : sProp 𝕄)) fun t _ => own_squeeze c _ squeezes_S1x1024x2048_S1024x2048 _ _).trans ?_
  rw [bigSep_univ_eq_bigSepL [(0, 0), (0, 1), (1, 0), (1, 1), (2, 0), (2, 1), (3, 0), (3, 1)] (by decide) (by decide)]
  show iprop((∃ Y, Own c (rsM 0 0) fullShare Y) ∗ (∃ Y, Own c (rsM 0 1) fullShare Y) ∗ (∃ Y, Own c (rsM 1 0) fullShare Y)
    ∗ (∃ Y, Own c (rsM 1 1) fullShare Y) ∗ (∃ Y, Own c (rsM 2 0) fullShare Y) ∗ (∃ Y, Own c (rsM 2 1) fullShare Y)
    ∗ (∃ Y, Own c (rsM 3 0) fullShare Y) ∗ (∃ Y, Own c (rsM 3 1) fullShare Y)) ⊢ _
  iintro ⟨H1, H2, H3, H4, H5, H6, H7, -⟩
  isplitl [H1 H2]; · isplitl [H1] <;> iassumption
  isplitl [H3 H4]; · isplitl [H3] <;> iassumption
  isplitl [H5 H6]; · isplitl [H5] <;> iassumption
  iassumption

/-! ## The two-slot buffers -/

theorem w1_in : ∀ (t : Fin 2) (a : Fin 3), (![t.val, 0, 0] : Fin 3 → ℕ) a + S1x2048x512.size a ≤ S2x2048x512.size a := by decide
theorem w1_d : ∀ t t' : Fin 2, t ≠ t' → ∃ a : Fin 3, (![t.val, 0, 0] : Fin 3 → ℕ) a + S1x2048x512.size a ≤ (![t'.val, 0, 0] : Fin 3 → ℕ) a
    ∨ (![t'.val, 0, 0] : Fin 3 → ℕ) a + S1x2048x512.size a ≤ (![t.val, 0, 0] : Fin 3 → ℕ) a := by decide
theorem w1_c (i : S2x2048x512.Idx) : ∃ t : Fin 2, ∀ a : Fin 3, (![t.val, 0, 0] : Fin 3 → ℕ) a ≤ i a ∧ (i a).val < (![t.val, 0, 0] : Fin 3 → ℕ) a + S1x2048x512.size a := by
  have h1 : (i 1).val < 2048 := (i 1).isLt
  have h2 : (i 2).val < 512 := (i 2).isLt
  refine ⟨⟨(i 0).val, (i 0).isLt⟩, fun a => ?_⟩
  fin_cases a
  · show (i 0).val ≤ (i 0).val ∧ (i 0).val < (i 0).val + 1
    omega
  · show 0 ≤ (i 1).val ∧ (i 1).val < 0 + 2048
    omega
  · show 0 ≤ (i 2).val ∧ (i 2).val < 0 + 512
    omega
theorem w2_in : ∀ (t : Fin 2) (a : Fin 3), (![t.val, 0, 0] : Fin 3 → ℕ) a + S1x2048x2048.size a ≤ S2x2048x2048.size a := by decide
theorem w2_d : ∀ t t' : Fin 2, t ≠ t' → ∃ a : Fin 3, (![t.val, 0, 0] : Fin 3 → ℕ) a + S1x2048x2048.size a ≤ (![t'.val, 0, 0] : Fin 3 → ℕ) a
    ∨ (![t'.val, 0, 0] : Fin 3 → ℕ) a + S1x2048x2048.size a ≤ (![t.val, 0, 0] : Fin 3 → ℕ) a := by decide
theorem w2_c (i : S2x2048x2048.Idx) : ∃ t : Fin 2, ∀ a : Fin 3, (![t.val, 0, 0] : Fin 3 → ℕ) a ≤ i a ∧ (i a).val < (![t.val, 0, 0] : Fin 3 → ℕ) a + S1x2048x2048.size a := by
  have h1 : (i 1).val < 2048 := (i 1).isLt
  have h2 : (i 2).val < 2048 := (i 2).isLt
  refine ⟨⟨(i 0).val, (i 0).isLt⟩, fun a => ?_⟩
  fin_cases a
  · show (i 0).val ≤ (i 0).val ∧ (i 0).val < (i 0).val + 1
    omega
  · show 0 ≤ (i 1).val ∧ (i 1).val < 0 + 2048
    omega
  · show 0 ≤ (i 2).val ∧ (i 2).val < 0 + 2048
    omega
theorem sg_in : ∀ (t : Fin 2) (a : Fin 3), (![t.val, 0, 0] : Fin 3 → ℕ) a + S1x1024x2048.size a ≤ S2x1024x2048.size a := by decide
theorem sg_d : ∀ t t' : Fin 2, t ≠ t' → ∃ a : Fin 3, (![t.val, 0, 0] : Fin 3 → ℕ) a + S1x1024x2048.size a ≤ (![t'.val, 0, 0] : Fin 3 → ℕ) a
    ∨ (![t'.val, 0, 0] : Fin 3 → ℕ) a + S1x1024x2048.size a ≤ (![t.val, 0, 0] : Fin 3 → ℕ) a := by decide
theorem sg_c (i : S2x1024x2048.Idx) : ∃ t : Fin 2, ∀ a : Fin 3, (![t.val, 0, 0] : Fin 3 → ℕ) a ≤ i a ∧ (i a).val < (![t.val, 0, 0] : Fin 3 → ℕ) a + S1x1024x2048.size a := by
  have h1 : (i 1).val < 1024 := (i 1).isLt
  have h2 : (i 2).val < 2048 := (i 2).isLt
  refine ⟨⟨(i 0).val, (i 0).isLt⟩, fun a => ?_⟩
  fin_cases a
  · show (i 0).val ≤ (i 0).val ∧ (i 0).val < (i 0).val + 1
    omega
  · show 0 ≤ (i 1).val ∧ (i 1).val < 0 + 1024
    omega
  · show 0 ≤ (i 2).val ∧ (i 2).val < 0 + 2048
    omega

theorem cut_w1 (X : S2x2048x512.Idx → Elt F .bf16) :
    Own c (Memref.whole cc0_scratch1) fullShare X ⊢ iprop((∃ Y, Own c (w1b 0) fullShare Y) ∗ (∃ Y, Own c (w1b 1) fullShare Y)) :=
  ((own_cut c (Memref.whole cc0_scratch1) fullShare (fun t : Fin 2 => ![t.val, 0, 0]) S1x2048x512.size w1_in w1_d w1_c X).trans
    (bigSep_mono (Ψ := fun t : Fin 2 => (iprop(∃ Y, Own c (w1b t) fullShare Y) : sProp 𝕄)) fun t _ => own_squeeze c _ squeezes_S1x2048x512_S2048x512 _ _)).trans
    (Entails.of_eq (two_of _))
theorem cut_w2 (X : S2x2048x2048.Idx → Elt F .bf16) :
    Own c (Memref.whole cc0_scratch2) fullShare X ⊢ iprop((∃ Y, Own c (w2b 0) fullShare Y) ∗ (∃ Y, Own c (w2b 1) fullShare Y)) :=
  ((own_cut c (Memref.whole cc0_scratch2) fullShare (fun t : Fin 2 => ![t.val, 0, 0]) S1x2048x2048.size w2_in w2_d w2_c X).trans
    (bigSep_mono (Ψ := fun t : Fin 2 => (iprop(∃ Y, Own c (w2b t) fullShare Y) : sProp 𝕄)) fun t _ => own_squeeze c _ squeezes_S1x2048x2048_S2048x2048 _ _)).trans
    (Entails.of_eq (two_of _))
theorem cut_sg (X : S2x1024x2048.Idx → Elt F .bf16) :
    Own c (Memref.whole cc0_scratch5) fullShare X ⊢ iprop((∃ Y, Own c (rss 0) fullShare Y) ∗ (∃ Y, Own c (rss 1) fullShare Y)) :=
  ((own_cut c (Memref.whole cc0_scratch5) fullShare (fun t : Fin 2 => ![t.val, 0, 0]) S1x1024x2048.size sg_in sg_d sg_c X).trans
    (bigSep_mono (Ψ := fun t : Fin 2 => (iprop(∃ Y, Own c (rss t) fullShare Y) : sProp 𝕄)) fun t _ => own_squeeze c _ squeezes_S1x1024x2048_S1024x2048 _ _)).trans
    (Entails.of_eq (two_of _))

/-- A slot at any contents, seen without its leading axis or with it. -/
theorem unsq {sp : Space} {s s' : Shape} {e : EltTy} (m : Memref sig .tc sp s e) (hq : s.Squeezes s') :
    iprop(∃ Y, Own c (m.squeeze s' hq) fullShare Y) ⊢ iprop(∃ X, Own (F := F) c m fullShare X) := by
  iintro ⟨%Y, H⟩
  iapply (own_unsqueeze c m hq fullShare Y) $$ H

theorem paste_w1 : iprop((∃ Y, Own c (w1b 0) fullShare Y) ∗ (∃ Y, Own c (w1b 1) fullShare Y)) ⊢ iprop(∃ X, Own (F := F) c (Memref.whole cc0_scratch1) fullShare X) :=
  (BI.sep_mono (unsq c _ squeezes_S1x2048x512_S2048x512) (unsq c _ squeezes_S1x2048x512_S2048x512)).trans
    (own_paste_two c (Memref.whole cc0_scratch1) fullShare (fun t : Fin 2 => ![t.val, 0, 0]) S1x2048x512.size w1_in w1_d w1_c)
theorem paste_w2 : iprop((∃ Y, Own c (w2b 0) fullShare Y) ∗ (∃ Y, Own c (w2b 1) fullShare Y)) ⊢ iprop(∃ X, Own (F := F) c (Memref.whole cc0_scratch2) fullShare X) :=
  (BI.sep_mono (unsq c _ squeezes_S1x2048x2048_S2048x2048) (unsq c _ squeezes_S1x2048x2048_S2048x2048)).trans
    (own_paste_two c (Memref.whole cc0_scratch2) fullShare (fun t : Fin 2 => ![t.val, 0, 0]) S1x2048x2048.size w2_in w2_d w2_c)
theorem paste_sg : iprop((∃ Y, Own c (rss 0) fullShare Y) ∗ (∃ Y, Own c (rss 1) fullShare Y)) ⊢ iprop(∃ X, Own (F := F) c (Memref.whole cc0_scratch5) fullShare X) :=
  (BI.sep_mono (unsq c _ squeezes_S1x1024x2048_S1024x2048) (unsq c _ squeezes_S1x1024x2048_S1024x2048)).trans
    (own_paste_two c (Memref.whole cc0_scratch5) fullShare (fun t : Fin 2 => ![t.val, 0, 0]) S1x1024x2048.size sg_in sg_d sg_c)

end Cert.KProof

end
-- ==== Proof.Ghost.lean ====
/-
The protocol's set-up: the cells and tokens made at the launch, dealt to the devices, and the credit each
device starts with.
-/
module

public import proofs.«01_k».proof.Proof.Split

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F)

instance er_lands : (ER (F := F)).LandsIn (upEmb : UEmb _ 𝕄) := by unfold ER; infer_instance

/-- A list's conjunction, head first. -/
theorem list_cons {I : Type} (i j : I) (l : List I) (Φ : I → sProp 𝕄) : bigSepL (i :: j :: l) Φ = iprop(Φ i ∗ bigSepL (j :: l) Φ) := rfl

/-- The conjunction's grouping, as an equality. -/
theorem regrp (P Q R : sProp 𝕄) : iprop((P ∗ Q) ∗ R) = iprop(P ∗ Q ∗ R) :=
  equiv_iff.mp ⟨(Laws.sep_assoc (P := P) (Q := Q) (R := R)).1, (Laws.sep_assoc (P := P) (Q := Q) (R := R)).2⟩

/-- Six things and a rest, grouped. -/
theorem six (a b c d e f r : sProp 𝕄) : iprop(a ∗ b ∗ c ∗ d ∗ e ∗ f ∗ r) = iprop((a ∗ b ∗ c ∗ d ∗ e ∗ f) ∗ r) := by
  rw [regrp, regrp, regrp, regrp, regrp]
/-- Two things and a rest, grouped. -/
theorem duo (a b r : sProp 𝕄) : iprop(a ∗ b ∗ r) = iprop((a ∗ b) ∗ r) := (regrp _ _ _).symm

/-! ## The cells -/

/-- The kernel's own semaphores. -/
abbrev osem : Fin 25 → SemLoc sig := fun i => .dma ⟨i.val, i.isLt⟩
theorem ownSemFacts : Pipeline.OwnSemFacts cfg0.spec osem := by decide

theorem csem_injective : Function.Injective csem := by
  intro k k' h
  cases k <;> cases k'
  · rfl
  · exact absurd h (by intro h; cases h)
  · exact absurd h (by intro h; cases h)
  · rename_i i j
    have h1 : dS i = dS j := by injection h
    have h2 : (dS i).val = (dS j).val := congrArg Fin.val h1
    exact congrArg some (Fin.ext h2)
theorem kcell_injective : Function.Injective (kcell : Dev nD × Option (Fin 20) → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- Something of every cell of a device, listed. -/
theorem deal (Φ : Option (Fin 20) → sProp 𝕄) : BI.bigSep Finset.univ Φ = iprop(Φ none
    ∗ (Φ (some (agSi 0 0)) ∗ Φ (some (agSi 0 1)) ∗ Φ (some (agSi 1 0)) ∗ Φ (some (agSi 1 1)) ∗ Φ (some (agSi 2 0)) ∗ Φ (some (agSi 2 1)))
    ∗ (Φ (some (agRi 0 0)) ∗ Φ (some (agRi 0 1)) ∗ Φ (some (agRi 1 0)) ∗ Φ (some (agRi 1 1)) ∗ Φ (some (agRi 2 0)) ∗ Φ (some (agRi 2 1)))
    ∗ (Φ (some (sgSi 0)) ∗ Φ (some (sgSi 1)))
    ∗ (Φ (some (rsRi 0 0)) ∗ Φ (some (rsRi 0 1)) ∗ Φ (some (rsRi 1 0)) ∗ Φ (some (rsRi 1 1)) ∗ Φ (some (rsRi 2 0)) ∗ Φ (some (rsRi 2 1)))) := by
  rw [bigSep_univ_eq_bigSepL [none, some (agSi 0 0), some (agSi 0 1), some (agSi 1 0), some (agSi 1 1), some (agSi 2 0), some (agSi 2 1),
    some (agRi 0 0), some (agRi 0 1), some (agRi 1 0), some (agRi 1 1), some (agRi 2 0), some (agRi 2 1), some (sgSi 0), some (sgSi 1),
    some (rsRi 0 0), some (rsRi 0 1), some (rsRi 1 0), some (rsRi 1 1), some (rsRi 2 0), some (rsRi 2 1)] (by decide) (by decide)]
  simp only [list_cons, bigSepL_singleton, regrp]

/-! ## The tokens, by the device that pays with them -/

/-- Token `j`'s cell, round and duty; and how far on the device of the cell lies. -/
def tkey : Fin 27 → Option (Fin 20) × ℕ × Fin 4 := fun j =>
  if j.val < 3 then (none, 0, ⟨(j.val + 1) % 4, Nat.mod_lt _ (by decide)⟩)
  else if j.val < 15 then (some ⟨(j.val - 3) % 20, Nat.mod_lt _ (by decide)⟩, 0, 0)
  else if j.val < 21 then (some (sgSi (if j.val = 15 ∨ j.val = 17 ∨ j.val = 19 then 0 else 1)), if j.val < 17 then 0 else if j.val < 19 then 1 else 2, 0)
  else (some ⟨(j.val - 7) % 20, Nat.mod_lt _ (by decide)⟩, 0, 0)
def toff : Fin 27 → ℕ := fun j =>
  if j.val < 3 then j.val + 1 else if j.val < 9 then 0 else if j.val < 15 then (if j.val < 11 then 1 else if j.val < 13 then 2 else 3)
  else if j.val < 21 then 0 else (if j.val < 23 then 1 else if j.val < 25 then 2 else 3)
theorem tkey_injective : ∀ j j' : Fin 27, tkey j = tkey j' → j = j' := by decide

/-- The device `d` places on, itself at zero. -/
def tdev (c : Dev nD) (d : ℕ) : Dev nD := if d = 0 then c else peer c d
theorem tdev_injective (d : ℕ) (c c' : Dev nD) (h : tdev c d = tdev c' d) : c = c' := by
  unfold tdev at h
  by_cases hd : d = 0
  · rw [if_pos hd, if_pos hd] at h; exact h
  · rw [if_neg hd, if_neg hd] at h
    have h1 : (c.val + d) % 4 = (c'.val + d) % 4 := congrArg Fin.val h
    have : c.val < 4 := c.isLt
    have : c'.val < 4 := c'.isLt
    exact Fin.ext (by omega)

def tokOf (cj : Dev nD × Fin 27) : GSem nD τ sig × ℕ × Fin 4 := (kcell (tdev cj.1 (toff cj.2), (tkey cj.2).1), (tkey cj.2).2.1, (tkey cj.2).2.2)
theorem tokOf_injective : Function.Injective tokOf := by
  rintro ⟨c, j⟩ ⟨c', j'⟩ h
  have h1 := kcell_injective (congrArg Prod.fst h)
  have h2 : (tkey j).1 = (tkey j').1 := congrArg Prod.snd h1
  have h3 : (tkey j).2 = (tkey j').2 := congrArg (fun x : GSem nD τ sig × ℕ × Fin 4 => x.2) h
  have hj : j = j' := tkey_injective j j' (Prod.ext h2 h3)
  subst hj
  have h4 : tdev c (toff j) = tdev c' (toff j) := congrArg Prod.fst h1
  rw [tdev_injective _ _ _ h4]
def allToks : Finset (GSem nD τ sig × ℕ × Fin 4) := Finset.univ.map ⟨tokOf, tokOf_injective⟩

/-- The tokens device `c` pays with. -/
def toks (c : Dev nD) : sProp 𝕄 :=
  BI.bigSep Finset.univ fun j : Fin 27 => dutyTok ER (tokOf (c, j)).1 (tokOf (c, j)).2.1 (tokOf (c, j)).2.2

/-- The tokens of the sends and of the landings, by the transfer. -/
abbrev tA (c : Dev nD) (s : Fin 3) (h : Fin 2) : sProp 𝕄 := dutyTok ER (dcell c (agSi s h)) 0 0
abbrev tB (c : Dev nD) (s : Fin 3) (h : Fin 2) : sProp 𝕄 := dutyTok ER (dcell (peer c (s.val + 1)) (agRi s h)) 0 0
abbrev tS (c : Dev nD) (s : Fin 3) (h : Fin 2) : sProp 𝕄 := dutyTok ER (dcell c (sgSi h)) s.val 0
abbrev tR (c : Dev nD) (s : Fin 3) (h : Fin 2) : sProp 𝕄 := dutyTok ER (dcell (peer c (s.val + 1)) (rsRi s h)) 0 0

theorem toks_list (c : Dev nD) : toks (F := F) c = iprop(dutyTok ER (bcell (peer c 1)) 0 1 ∗ dutyTok ER (bcell (peer c 2)) 0 2 ∗ dutyTok ER (bcell (peer c 3)) 0 3 ∗ tA c 0 0 ∗ tA c 0 1 ∗ tA c 1 0 ∗ tA c 1 1 ∗ tA c 2 0 ∗ tA c 2 1 ∗ tB c 0 0 ∗ tB c 0 1 ∗ tB c 1 0 ∗ tB c 1 1 ∗ tB c 2 0 ∗ tB c 2 1 ∗ tS c 0 0 ∗ tS c 0 1 ∗ tS c 1 0 ∗ tS c 1 1 ∗ tS c 2 0 ∗ tS c 2 1 ∗ tR c 0 0 ∗ tR c 0 1 ∗ tR c 1 0 ∗ tR c 1 1 ∗ tR c 2 0 ∗ tR c 2 1) := by
  unfold toks
  rw [bigSep_univ_eq_bigSepL [0, 1, 2, 3, 4, 5, 6, 7, 8, 9, 10, 11, 12, 13, 14, 15, 16, 17, 18, 19, 20, 21, 22, 23, 24, 25, 26] (by decide) (by decide)]
  rfl

/-- Two rows of six, paired up. -/
theorem pair_up (Φ Ψ : Fin 3 → Fin 2 → sProp 𝕄) : iprop((Φ 0 0 ∗ Φ 0 1 ∗ Φ 1 0 ∗ Φ 1 1 ∗ Φ 2 0 ∗ Φ 2 1) ∗ (Ψ 0 0 ∗ Ψ 0 1 ∗ Ψ 1 0 ∗ Ψ 1 1 ∗ Ψ 2 0 ∗ Ψ 2 1))
    ⊢ iprop((Φ 0 0 ∗ Ψ 0 0) ∗ (Φ 0 1 ∗ Ψ 0 1) ∗ (Φ 1 0 ∗ Ψ 1 0) ∗ (Φ 1 1 ∗ Ψ 1 1) ∗ (Φ 2 0 ∗ Ψ 2 0) ∗ (Φ 2 1 ∗ Ψ 2 1)) := by
  iintro ⟨⟨A1, A2, A3, A4, A5, A6⟩, B1, B2, B3, B4, B5, B6⟩
  isplitl [A1 B1]; · isplitl [A1] <;> iassumption
  isplitl [A2 B2]; · isplitl [A2] <;> iassumption
  isplitl [A3 B3]; · isplitl [A3] <;> iassumption
  isplitl [A4 B4]; · isplitl [A4] <;> iassumption
  isplitl [A5 B5]; · isplitl [A5] <;> iassumption
  isplitl [A6] <;> iassumption

theorem toks_eq (c : Dev nD) : toks (F := F) c ⊢ iprop((dutyTok ER (bcell (peer c 1)) 0 1 ∗ dutyTok ER (bcell (peer c 2)) 0 2 ∗ dutyTok ER (bcell (peer c 3)) 0 3)
    ∗ agTs c ∗ rsTs c) := by
  rw [toks_list, six (tA c 0 0), six (tB c 0 0), six (tS c 0 0)]
  iintro ⟨H1, H2, H3, HA, HB, HS, HR⟩
  isplitl [H1 H2 H3]
  · isplitl [H1]; · iexact H1
    isplitl [H2]; · iexact H2
    iexact H3
  isplitl [HA HB]
  · iapply (show iprop(_ ∗ _) ⊢ agTs c from pair_up (tA c) (tB c)) $$ [HA HB]
    isplitl [HA] <;> iassumption
  · iapply (show iprop(_ ∗ _) ⊢ rsTs c from pair_up (tS c) (tR c)) $$ [HS HR]
    isplitl [HS] <;> iassumption

/-! ## The launch element -/

def u₀ : UU :=
  (initOf (Pipeline.cells cfgs cellOf_inj) (Pipeline.launchToks cfgs cellOf_inj), (initOf allCells allToks, 1))

/-- What the launch element deals device `c`. -/
def G (c : Dev nD) : sProp 𝕄 :=
  iprop((BI.bigSep Finset.univ fun k : Option (Fin 20) => roundState ER (Rd A) (kcell (c, k)) 0)
    ∗ (BI.bigSep Finset.univ fun k : Option (Fin 20) => iprop(atPos ER (kcell (c, k)) 0 ∅ 0 ∗ reached ER (kcell (c, k)) 0)) ∗ toks c)

theorem fund_all : BI.own (ER (initOf allCells allToks)) ⊢ (|==> BI.bigSep Finset.univ (G A) : sProp 𝕄) := by
  have hX (Φ : GSem nD τ sig → sProp 𝕄) : BI.bigSep allCells Φ = BI.bigSep Finset.univ fun c : Dev nD => BI.bigSep Finset.univ fun k : Option (Fin 20) => Φ (kcell (c, k)) := by
    unfold allCells; rw [bigSep_map, bigSep_univ_prod]; rfl
  have hT : BI.bigSep allToks (fun x => (dutyTok ER x.1 x.2.1 x.2.2 : sProp 𝕄)) = BI.bigSep Finset.univ fun c : Dev nD => toks c := by
    unfold allToks; rw [bigSep_map, bigSep_univ_prod]; rfl
  iintro HX
  imod (Rounds.fund ER (Rd A) allCells allToks) $$ HX with ⟨Hst, Hr, Hat, Htok⟩
  imodintro
  ihave Hst' := (Entails.of_eq (hX fun g => roundState ER (Rd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The counters of a device's own transfers. -/
def locs (c : Dev nD) : sProp 𝕄 :=
  iprop(semVal ((c : Thread nD τ), .dma (wS1 (sl 0))) 0 ∗ semVal ((c : Thread nD τ), .dma (wS1 (sl 1))) 0
    ∗ semVal ((c : Thread nD τ), .dma (wS2 (sl 0))) 0 ∗ semVal ((c : Thread nD τ), .dma (wS2 (sl 1))) 0 ∗ lc0 c)

theorem ownSems0_eq (c : Dev nD) : (Pipeline.ownSems0 (Ix := Unit) (Name := ℕ) (U := UU) (Lvl := ℕ) (Val := Elt F) (τ := τ) osem c : sProp 𝕄)
    = iprop((semVal (dcell c (agSi 0 0)) 0 ∗ semVal (dcell c (agSi 0 1)) 0 ∗ semVal (dcell c (agSi 1 0)) 0 ∗ semVal (dcell c (agSi 1 1)) 0 ∗ semVal (dcell c (agSi 2 0)) 0 ∗ semVal (dcell c (agSi 2 1)) 0)
      ∗ (semVal (dcell c (agRi 0 0)) 0 ∗ semVal (dcell c (agRi 0 1)) 0 ∗ semVal (dcell c (agRi 1 0)) 0 ∗ semVal (dcell c (agRi 1 1)) 0 ∗ semVal (dcell c (agRi 2 0)) 0 ∗ semVal (dcell c (agRi 2 1)) 0)
      ∗ (semVal (dcell c (sgSi 0)) 0 ∗ semVal (dcell c (sgSi 1)) 0)
      ∗ (semVal (dcell c (rsRi 0 0)) 0 ∗ semVal (dcell c (rsRi 0 1)) 0 ∗ semVal (dcell c (rsRi 1 0)) 0 ∗ semVal (dcell c (rsRi 1 1)) 0 ∗ semVal (dcell c (rsRi 2 0)) 0 ∗ semVal (dcell c (rsRi 2 1)) 0)
      ∗ locs c) := by
  rw [Pipeline.ownSems0_eq_of_list c osem [0, 1, 2, 3, 4, 5, 6, 7, 8, 9, 10, 11, 12, 13, 14, 15, 16, 17, 18, 19, 20, 21, 22, 23, 24] (by decide) (by decide)]
  simp only [list_cons, bigSepL_singleton]
  refine (six _ _ _ _ _ _ _).trans (congrArg _ ((six _ _ _ _ _ _ _).trans (congrArg _ ((duo _ _ _).trans (congrArg _ (six _ _ _ _ _ _ _))))))
theorem unscopedSems0_eq (c : Dev nD) : (unscopedSems0 c : sProp 𝕄) = semVal (bcell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop((BI.bigSep Finset.univ fun k : Option (Fin 20) => (semVal (kcell (c, k)) 0 : sProp 𝕄)) ∗ locs c) := by
  rw [ownSems0_eq, unscopedSems0_eq, deal]
  iintro ⟨⟨H1, H2, H3, H4, HL⟩, HB⟩
  isplitr [HL]
  · isplitl [HB]; · iexact HB
    isplitl [H1]; · iexact H1
    isplitl [H2]; · iexact H2
    isplitl [H3] <;> iassumption
  iexact HL

/-! ## The cells' invariants, and every device's share of the protocol -/

/-- A device's positions, tokens and free counters. -/
def mine (c : Dev nD) : sProp 𝕄 := iprop((BI.bigSep Finset.univ fun k : Option (Fin 20) => atPos ER (kcell (c, k)) 0 ∅ 0) ∗ toks c ∗ locs c)
/-- What the global step makes of `G`. -/
def G' (c : Dev nD) : sProp 𝕄 := iprop(∃ K, recs A K ∗ mine c)

theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((BI.bigSep Finset.univ fun k => iprop(∃ κ : ℕ, cellInv ER (Rd A) κ (kcell (c, k))))
          ∗ (BI.bigSep Finset.univ fun k => (reached ER (kcell (c, k)) 0 : sProp 𝕄)) ∗ mine c) := by
  unfold G mine
  iintro ⟨Hos, Hus, Hst, Hat, Htok⟩
  ihave Hv := (sems0_eq (F := F) c) $$ [Hos Hus]
  · isplitl [Hos] <;> iassumption
  icases Hv with ⟨Hv, HL⟩
  imod (show iprop((BI.bigSep Finset.univ fun k : Option (Fin 20) => semVal (kcell (c, k)) 0) ∗ BI.bigSep Finset.univ fun k : Option (Fin 20) => roundState ER (Rd A) (kcell (c, k)) 0)
      ⊢ (|={Set.univ}=> BI.bigSep Finset.univ fun k => iprop(∃ κ : ℕ, cellInv ER (Rd A) κ (kcell (c, k))) : sProp 𝕄) from by
        rw [← bigSep_sep']
        exact (bigSep_mono fun k _ => (Rounds.body_intro ER (Rd A) (kcell (c, k))).trans inv_alloc).trans (bigSep_fupd _ _)) $$ [Hv Hst] with Hinv
  · isplitl [Hv] <;> iassumption
  ihave Hat := (Entails.of_eq (bigSep_sep' Finset.univ (fun k : Option (Fin 20) => (atPos ER (kcell (c, k)) 0 ∅ 0 : sProp 𝕄)) (fun k => reached ER (kcell (c, k)) 0))) $$ Hat
  icases Hat with ⟨Hat, Hr⟩
  imodintro
  isplitl [Hinv]; · iexact Hinv
  isplitl [Hr]; · iexact Hr
  isplitl [Hat]; · iexact Hat
  isplitl [Htok]; · iexact Htok
  iexact HL

theorem share_out {I : Type} [DecidableEq I] {S : Finset I} {R : sProp 𝕄} [BI.Persistent R] {Φ Ψ : I → sProp 𝕄}
    (h : ∀ i ∈ S, iprop(R ∗ Φ i) ⊢ Ψ i) : iprop(R ∗ BI.bigSep S Φ) ⊢ BI.bigSep S Ψ :=
  (sep_mono_left (BI.bigSep_of_persistent S R)).trans (by rw [← bigSep_sep']; exact bigSep_mono h)

theorem regroup :
    (BI.bigSep Finset.univ fun c : Dev nD => iprop((BI.bigSep Finset.univ fun k => iprop(∃ κ : ℕ, cellInv ER (Rd A) κ (kcell (c, k))))
          ∗ (BI.bigSep Finset.univ fun k => (reached ER (kcell (c, k)) 0 : sProp 𝕄)) ∗ mine c) : sProp 𝕄)
      ⊢ BI.bigSep Finset.univ (G' A) := by
  rw [bigSep_sep', bigSep_sep', ← bigSep_univ_prod (fun ck : Dev nD × Option (Fin 20) => iprop(∃ κ : ℕ, cellInv ER (Rd A) κ (kcell ck))),
    ← bigSep_univ_prod (fun ck : Dev nD × Option (Fin 20) => (reached ER (kcell ck) 0 : sProp 𝕄))]
  iintro ⟨HI, #HR, HM⟩
  ihave HK := (BI.bigSep_exists_pi Finset.univ (fun (ck : Dev nD × Option (Fin 20)) (κ : ℕ) => (cellInv ER (Rd A) κ (kcell ck) : sProp 𝕄))) $$ HI
  icases HK with ⟨%K, #HI⟩
  iapply (share_out (R := recs A K) (Φ := mine) fun c _ => by
    unfold G'; iintro H; iexists K; iexact H)
  isplitr
  · unfold recs; isplitl; · iexact HI
    iexact HR
  iexact HM

theorem glob : (BI.bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> BI.bigSep Finset.univ (G' A) :=
  ((bigSep_mono fun c _ => core_alloc A c).trans (bigSep_fupd _ _)).trans (BI.fupd_mono (regroup A))

/-! ## The launch credit -/

/-- What each device owes at the launch. -/
def O₀ (c : Dev nD) : CellTallies nD τ sig Unit := owe c pays

/-- The units a list of debts holds for semaphore `sm`, over all devices that owe them. -/
def tot (sm : SemLoc sig) (l : Debts) : ℕ := ((l.filter fun x => decide (x.2.1 = sm)).map fun x => x.2.2).sum

theorem sum_owe (c : Dev nD) (sm : SemLoc sig) (l : Debts) : ∑ d : Dev nD, owe d l ((c : Thread nD τ), sm) () = tot sm l := by
  induction l with
  | nil => exact Finset.sum_eq_zero fun _ _ => rfl
  | cons x l ih =>
    obtain ⟨a, s', n⟩ := x
    have h : ∀ d : Dev nD, owe d ((a, s', n) :: l) ((c : Thread nD τ), sm) () = owe d l ((c : Thread nD τ), sm) ()
        + (if d = peer c (4 - a % 4) ∧ s' = sm then n else 0) := by
      intro d
      show (owe d l + tallyAt ((peer d a : Thread nD τ), s') () n) ((c : Thread nD τ), sm) () = _
      rw [Pi.add_apply, Finsupp.add_apply, tallyAt_apply]
      congr 1
      refine if_congr ⟨fun ⟨h1, _⟩ => ?_, fun ⟨h1, h2⟩ => ?_⟩ rfl rfl
      · have h3 : c = peer d a := congrArg (fun g : GSem nD τ sig => g.1.1) h1
        refine ⟨?_, (congrArg Prod.snd h1).symm⟩
        subst h3
        apply Fin.ext
        show d.val = ((d.val + a) % 4 + (4 - a % 4)) % 4
        have : d.val < 4 := d.isLt
        omega
      · subst h1 h2
        have h3 : peer (peer c (4 - a % 4)) a = c := by
          apply Fin.ext
          show ((c.val + (4 - a % 4)) % 4 + a) % 4 = c.val
          have : c.val < 4 := c.isLt
          omega
        rw [h3]; exact ⟨rfl, rfl⟩
    rw [Finset.sum_congr rfl fun d _ => h d, Finset.sum_add_distrib, ih]
    unfold tot
    by_cases hs : s' = sm
    · rw [List.filter_cons_of_pos (by simpa using hs), List.map_cons, List.sum_cons, Nat.add_comm]
      congr 1
      rw [Finset.sum_congr rfl fun d _ => if_congr (and_iff_left hs) rfl rfl, Finset.sum_ite_eq' Finset.univ (peer c (4 - a % 4)) fun _ => n, if_pos (Finset.mem_univ _)]
    · rw [List.filter_cons_of_neg (by simpa using hs)]
      rw [Finset.sum_congr rfl fun d _ => if_neg fun h => hs h.2, Finset.sum_const_zero, Nat.add_zero]

theorem tot_bar : tot (.reg barS) pays = 3 := rfl
theorem tot_one (sm : SemLoc sig) (n : ℕ) (h : ((pays.filter fun x => decide (x.2.1 = sm)).map fun x => x.2.2) = [n]) : tot sm pays = n := by
  unfold tot; rw [h]; exact List.sum_singleton
theorem tot_agR (s : Fin 3) (h : Fin 2) : tot (.dma (dS (agRi s h))) pays = N := by
  refine tot_one _ _ ?_; fin_cases s <;> fin_cases h <;> rfl
theorem tot_rsR (s : Fin 3) (h : Fin 2) : tot (.dma (dS (rsRi s h))) pays = N := by
  refine tot_one _ _ ?_; fin_cases s <;> fin_cases h <;> rfl

theorem launch_cell (c : Dev nD) (sm : SemLoc sig) :
    tallyOn ((c : Thread nD τ), sm) (launchCredit (Pipeline.owing O₀) 0 ((c : Thread nD τ), sm)) = (tallyAt ((c : Thread nD τ), sm) () (tot sm pays) : CellTallies nD τ sig Unit) := by
  unfold tallyAt; refine congrArg _ (Finsupp.ext fun u => ?_); cases u
  rw [Pipeline.launchCredit_owing, Finsupp.single_eq_same]
  exact sum_owe c sm pays

/-- The credits a device starts with. -/
def credits (c : Dev nD) : sProp 𝕄 :=
  iprop(cred (tallyAt (bcell c) () 3)
    ∗ (crd c (agRi 0 0) ∗ crd c (agRi 0 1) ∗ crd c (agRi 1 0) ∗ crd c (agRi 1 1) ∗ crd c (agRi 2 0) ∗ crd c (agRi 2 1))
    ∗ (crd c (rsRi 0 0) ∗ crd c (rsRi 0 1) ∗ crd c (rsRi 1 0) ∗ crd c (rsRi 1 1) ∗ crd c (rsRi 2 0) ∗ crd c (rsRi 2 1)))

theorem creds (c : Dev nD) : (Pipeline.launchCred O₀ c : sProp 𝕄) ⊢ credits c := by
  have h : (Pipeline.launchCred O₀ c : sProp 𝕄) ⊢ BI.bigSep Finset.univ fun k : Option (Fin 20) => cred (tallyAt ((c : Thread nD τ), csem k) () (tot (csem k) pays)) := by
    unfold Pipeline.launchCred
    refine (bigSep_subset (s := Finset.univ) (t := Finset.univ.map ⟨csem, csem_injective⟩) (Finset.subset_univ _)).trans ?_
    rw [bigSep_map]
    exact bigSep_mono fun k _ => Entails.of_eq (congrArg cred (launch_cell c (csem k)))
  refine h.trans ?_
  rw [deal]
  unfold credits crd
  simp only [csem, tot_bar, tot_agR, tot_rsR]
  iintro ⟨HB, -, HA, -, HR⟩
  isplitl [HB]; · iexact HB
  isplitl [HA]; · iexact HA
  iexact HR

end Cert.KProof

end
-- ==== Proof.Launch.lean ====
/-
The launch: what each device takes from the launch's memory, what it gives back, and the whole run.
-/
module

public import proofs.«01_k».proof.Proof.Ghost
public import proofs.«01_k».proof.Proof.Gen.KernelIdeal.Launch
public import proofs.«01_k».proof.Proof.Gen.KernelIdeal.Points
public import Idealize.ShloMosaic.Lib.Quiescent
public import Idealize.ShloMosaic.Lib.Pipeline.CollectiveSegs
public import Idealize.ShloMosaic.Lib.MemrefSat

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The arguments that the launch's memory holds. -/
def argsOf : Args F where
  x c := m ((c : Thread nD τ).loc main_arg0)
  w1 c := m ((c : Thread nD τ).loc main_arg1)
  w2 c := m ((c : Thread nD τ).loc main_arg2)

section Sides

variable (A : Args F) (K : Dev nD × Option (Fin 20) → ℕ) (c : Dev nD)

/-! ## What a device takes in -/

/-- The arguments at a share. -/
def argsAt (q : PosShare TreeShare) : sProp 𝕄 :=
  iprop(Own c (Memref.whole main_arg0) q (A.x c) ∗ Own c (Memref.whole main_arg1) q (A.w1 c) ∗ Own c (Memref.whole main_arg2) q (A.w2 c))
/-- The result and the two landing arrays, at any contents. -/
def landArr : sProp 𝕄 :=
  iprop((∃ Y, Own c (Memref.whole main_v1_0) fullShare Y) ∗ (∃ Y, Own c (Memref.whole main_v1_1) fullShare Y) ∗ (∃ Y, Own c (Memref.whole main_v1_2) fullShare Y))
/-- The scratch buffers, at any contents. -/
def scratch : sProp 𝕄 :=
  iprop((∃ Y, Own c xsM fullShare Y) ∗ (∃ Y, Own c (Memref.whole cc0_scratch1) fullShare Y) ∗ (∃ Y, Own c (Memref.whole cc0_scratch2) fullShare Y)
    ∗ (∃ Y, Own c hbM fullShare Y) ∗ (∃ Y, Own c acM fullShare Y) ∗ (∃ Y, Own c (Memref.whole cc0_scratch5) fullShare Y))

theorem args_halves (q : PosShare TreeShare) : argsAt A c q ⊢ iprop(argsAt A c q.left ∗ argsAt A c q.right) := by
  unfold argsAt
  iintro ⟨H0, H1, H2⟩
  ihave H0 := (owns_halves (c : Thread nD τ) (Memref.whole main_arg0) q (A.x c)).1 $$ H0
  ihave H1 := (owns_halves (c : Thread nD τ) (Memref.whole main_arg1) q (A.w1 c)).1 $$ H1
  ihave H2 := (owns_halves (c : Thread nD τ) (Memref.whole main_arg2) q (A.w2 c)).1 $$ H2
  icases H0 with ⟨L0, R0⟩
  icases H1 with ⟨L1, R1⟩
  icases H2 with ⟨L2, R2⟩
  isplitl [L0 L1 L2]
  · isplitl [L0]; · iexact L0
    isplitl [L1] <;> iassumption
  isplitl [R0]; · iexact R0
  isplitl [R1] <;> iassumption

theorem rows_of (h : Fin 2) : Own c (xM h) fullShare.right (xh A c h) ⊢ rows A c h := by
  unfold rows
  iintro H
  ihave H := (owns_halves (c : Thread nD τ) (xM h) fullShare.right (xh A c h)).1 $$ H
  icases H with ⟨H0, H⟩
  ihave H := (owns_halves (c : Thread nD τ) (xM h) fullShare.right.right (xh A c h)).1 $$ H
  icases H with ⟨H1, H⟩
  ihave H := (owns_halves (c : Thread nD τ) (xM h) fullShare.right.right.right (xh A c h)).1 $$ H
  icases H with ⟨H2, H3⟩
  isplitl [H0]; · iexact H0
  isplitl [H1]; · iexact H1
  isplitl [H2]; · iexact H2
  iexact H3

theorem w_halves {s : Shape} {e : EltTy} (b : Memref sig .tc .hbm s e) (W : s.Idx → Elt F e) :
    Own c b fullShare.right W ⊢ iprop(Own c b (qw (sl 0)) W ∗ Own c b (qw (sl 1)) W) := by
  rw [show qw (sl 0) = fullShare.right.left from rfl, show qw (sl 1) = fullShare.right.right from rfl]
  exact (owns_halves (c : Thread nD τ) b fullShare.right W).1

/-- The slots this device donates at its signals. -/
theorem slots_of :
    iprop((∃ Y, Own c (Memref.whole main_v1_1) fullShare Y) ∗ (∃ Y, Own c (Memref.whole main_v1_2) fullShare Y))
      ⊢ iprop(barPay (F := F) (peer c 1) 1 ∗ barPay (F := F) (peer c 2) 2 ∗ barPay (F := F) (peer c 3) 3 ∗ (∃ Y, Own c (rsM 3 0) fullShare Y)) := by
  have e1 : barPay (F := F) (peer c 1) 1 = slots (peer c 1) 2 := rfl
  have e2 : barPay (F := F) (peer c 2) 2 = slots (peer c 2) 1 := rfl
  have e3 : barPay (F := F) (peer c 3) 3 = slots (peer c 3) 0 := rfl
  have p1 : peer (peer c 1) ((2 : Fin 3).val + 1) = c := (peer_peer c 1 3).trans (peer_four c)
  have p2 : peer (peer c 2) ((1 : Fin 3).val + 1) = c := (peer_peer c 2 2).trans (peer_four c)
  have p3 : peer (peer c 3) ((0 : Fin 3).val + 1) = c := (peer_peer c 3 1).trans (peer_four c)
  rw [e1, e2, e3]
  unfold slots
  rw [p1, p2, p3]
  iintro ⟨⟨%Y, HA⟩, ⟨%Z, HR⟩⟩
  ihave HA := (cut_ag c Y) $$ HA
  ihave HR := (cut_rs c Z) $$ HR
  icases HA with ⟨⟨A00, A01⟩, ⟨A10, A11⟩, A20, A21⟩
  icases HR with ⟨⟨R00, R01⟩, ⟨R10, R11⟩, ⟨R20, R21⟩, R3⟩
  isplitl [A20 A21 R20 R21]
  · isplitl [A20]; · iexact A20
    isplitl [A21]; · iexact A21
    isplitl [R20]; · iexact R20
    iexact R21
  isplitl [A10 A11 R10 R11]
  · isplitl [A10]; · iexact A10
    isplitl [A11]; · iexact A11
    isplitl [R10]; · iexact R10
    iexact R11
  isplitl [A00 A01 R00 R01]
  · isplitl [A00]; · iexact A00
    isplitl [A01]; · iexact A01
    isplitl [R00]; · iexact R00
    iexact R01
  iexact R3

/-- The buffers and free counters, sorted as the body takes them. -/
theorem bufs_of :
    iprop(argsAt A c fullShare.right ∗ scratch c ∗ locs c)
      ⊢ iprop(rows A c 0 ∗ rows A c 1 ∗ idle A c ∗ stage c ∗ lc0 c) := by
  unfold argsAt scratch locs idle stage free1 free2
  iintro ⟨⟨HX, HW1, HW2⟩, ⟨SX, ⟨%Y1, S1⟩, ⟨%Y2, S2⟩, SH, SA, ⟨%Y5, S5⟩⟩, V10, V11, V20, V21, VL⟩
  ihave HX := (cut_x c _ _) $$ HX
  icases HX with ⟨HX0, HX1⟩
  ihave HX0 := (show Own c (xM 0) fullShare.right (half (A.x c) 0) ⊢ rows A c 0 from rows_of A c 0) $$ HX0
  ihave HX1 := (show Own c (xM 1) fullShare.right (half (A.x c) 1) ⊢ rows A c 1 from rows_of A c 1) $$ HX1
  ihave HW1 := (w_halves c (Memref.whole main_arg1) (A.w1 c)) $$ HW1
  icases HW1 with ⟨W10, W11⟩
  ihave HW2 := (w_halves c (Memref.whole main_arg2) (A.w2 c)) $$ HW2
  icases HW2 with ⟨W20, W21⟩
  ihave S1 := (cut_w1 c _) $$ S1
  icases S1 with ⟨S10, S11⟩
  ihave S2 := (cut_w2 c _) $$ S2
  icases S2 with ⟨S20, S21⟩
  ihave S5 := (cut_sg c _) $$ S5
  icases S5 with ⟨S50, S51⟩
  isplitl [HX0]; · iexact HX0
  isplitl [HX1]; · iexact HX1
  isplitl [SH S10 V10 W10 S11 V11 W11 S20 V20 W20 S21 V21 W21]
  · isplitl [SH]; · iexact SH
    isplitl [S10 V10 W10]
    · isplitl [S10]; · iexact S10
      isplitl [V10] <;> iassumption
    isplitl [S11 V11 W11]
    · isplitl [S11]; · iexact S11
      isplitl [V11] <;> iassumption
    isplitl [S20 V20 W20]
    · isplitl [S20]; · iexact S20
      isplitl [V20] <;> iassumption
    isplitl [S21]; · iexact S21
    isplitl [V21] <;> iassumption
  isplitl [SX SA S50 S51]
  · isplitl [SX]; · iexact SX
    isplitl [SA]; · iexact SA
    isplitl [S50]; · iexact S50
    iexact S51
  iexact VL

theorem deal_pos : (BI.bigSep Finset.univ fun k : Option (Fin 20) => (atPos ER (kcell (c, k)) 0 ∅ 0 : sProp 𝕄))
    = iprop(atPos ER (bcell c) 0 ∅ 0 ∗ agPos c 0
      ∗ (pos c (agRi 0 0) 0 ∗ pos c (agRi 0 1) 0 ∗ pos c (agRi 1 0) 0 ∗ pos c (agRi 1 1) 0 ∗ pos c (agRi 2 0) 0 ∗ pos c (agRi 2 1) 0)
      ∗ sgPos c 0
      ∗ (pos c (rsRi 0 0) 0 ∗ pos c (rsRi 0 1) 0 ∗ pos c (rsRi 1 0) 0 ∗ pos c (rsRi 1 1) 0 ∗ pos c (rsRi 2 0) 0 ∗ pos c (rsRi 2 1) 0)) :=
  (deal fun k => atPos ER (kcell (c, k)) 0 ∅ 0).trans rfl

/-- The positions, sorted as the body takes them, the landings' with their credit. -/
theorem poss_of :
    iprop((BI.bigSep Finset.univ fun k : Option (Fin 20) => (atPos ER (kcell (c, k)) 0 ∅ 0 : sProp 𝕄)) ∗ credits c)
      ⊢ iprop(cred (tallyAt (bcell c) () 3) ∗ atPos ER (bcell c) 0 ∅ 0 ∗ agIn c ∗ rsIn c ∗ agPos c 0 ∗ sgPos c 0) := by
  have hA := pair_up (fun s h => crd (F := F) c (agRi s h)) (fun s h => pos c (agRi s h) 0)
  have hR := pair_up (fun s h => crd (F := F) c (rsRi s h)) (fun s h => pos c (rsRi s h) 0)
  beta_reduce at hA hR
  rw [deal_pos]
  unfold credits agIn rsIn
  iintro ⟨⟨PB, PS, PR, PG, PT⟩, CB, CA, CR⟩
  isplitl [CB]; · iexact CB
  isplitl [PB]; · iexact PB
  isplitl [PR CA]
  · iapply hA $$ [PR CA]
    isplitl [CA] <;> iassumption
  isplitl [PT CR]
  · iapply hR $$ [PT CR]
    isplitl [CR] <;> iassumption
  isplitl [PS]; · iexact PS
  iexact PG

/-- What the kernel's region takes in, but the debts and the persistent records. -/
def intake : sProp 𝕄 := iprop(credits c ∗ mine c ∗ argsAt A c fullShare.right ∗ landArr c ∗ scratch c)

theorem start_of : iprop(Ow c pays ∗ intake A c) ⊢ start A c := by
  unfold intake mine landArr start hails
  iintro ⟨HO, HC, ⟨HP, HT, HL⟩, HA, ⟨⟨%Y, Hout⟩, Hag, Hrs⟩, HS⟩
  ihave HP := (poss_of c) $$ [HP HC]
  · isplitl [HP] <;> iassumption
  icases HP with ⟨CB, PB, AI, RI, AP, SP⟩
  ihave HT := (toks_eq c) $$ HT
  icases HT with ⟨⟨T1, T2, T3⟩, TA, TR⟩
  ihave HB := (bufs_of A c) $$ [HA HS HL]
  · isplitl [HA]; · iexact HA
    isplitl [HS] <;> iassumption
  icases HB with ⟨X0, X1, HI, HG, HL⟩
  ihave HD := (slots_of c) $$ [Hag Hrs]
  · isplitl [Hag] <;> iassumption
  icases HD with ⟨D1, D2, D3, R3⟩
  ihave Hout := (cut_out c Y) $$ Hout
  icases Hout with ⟨O0, O1⟩
  isplitl [HO]; · iexact HO
  isplitl [T1 T2 T3 D1 D2 D3 CB PB]
  · isplitl [T1 D1]; · isplitl [T1] <;> iassumption
    isplitl [T2 D2]; · isplitl [T2] <;> iassumption
    isplitl [T3 D3]; · isplitl [T3] <;> iassumption
    isplitl [CB] <;> iassumption
  isplitl [X0]; · iexact X0
  isplitl [X1]; · iexact X1
  isplitl [TA]; · iexact TA
  isplitl [TR]; · iexact TR
  isplitl [AI]; · iexact AI
  isplitl [RI]; · iexact RI
  isplitl [AP]; · iexact AP
  isplitl [SP]; · iexact SP
  isplitl [HI]; · iexact HI
  isplitl [HG]; · iexact HG
  isplitl [HL]; · iexact HL
  isplitl [R3]; · iexact R3
  isplitl [O0]; · iexact O0
  iexact O1

/-! ## What a device gives back -/

/-- The results, and the barrier's counter at zero. -/
def result : sProp 𝕄 :=
  iprop(unscopedSems0 c ∗ Own c (outM 0) fullShare (out0 A c) ∗ Own c (outM 1) fullShare (out1 A c))

theorem close_six (i : Fin 3 → Fin 2 → Fin 20) (hi : ∀ s h, rnds (i s h).val = 1) :
    iprop(Ctx A K ∗ (pos c (i 0 0) 1 ∗ pos c (i 0 1) 1 ∗ pos c (i 1 0) 1 ∗ pos c (i 1 1) 1 ∗ pos c (i 2 0) 1 ∗ pos c (i 2 1) 1))
      ⊢ |={Set.univ}=> iprop(semVal (dcell c (i 0 0)) 0 ∗ semVal (dcell c (i 0 1)) 0 ∗ semVal (dcell c (i 1 0)) 0 ∗ semVal (dcell c (i 1 1)) 0 ∗ semVal (dcell c (i 2 0)) 0 ∗ semVal (dcell c (i 2 1)) 0) := by
  have hc : ∀ s h, iprop(Ctx A K ∗ pos c (i s h) 1) ⊢ (|={Set.univ}=> semVal (dcell c (i s h)) 0 : sProp 𝕄) := fun s h => by
    have := close_dma A K c (i s h); rw [hi] at this; exact this
  iintro ⟨#HC, P1, P2, P3, P4, P5, P6⟩
  imod (hc 0 0) $$ [P1] with V1
  · isplitr; · iexact HC
    iexact P1
  imod (hc 0 1) $$ [P2] with V2
  · isplitr; · iexact HC
    iexact P2
  imod (hc 1 0) $$ [P3] with V3
  · isplitr; · iexact HC
    iexact P3
  imod (hc 1 1) $$ [P4] with V4
  · isplitr; · iexact HC
    iexact P4
  imod (hc 2 0) $$ [P5] with V5
  · isplitr; · iexact HC
    iexact P5
  imod (hc 2 1) $$ [P6] with V6
  · isplitr; · iexact HC
    iexact P6
  imodintro
  isplitl [V1]; · iexact V1
  isplitl [V2]; · iexact V2
  isplitl [V3]; · iexact V3
  isplitl [V4]; · iexact V4
  isplitl [V5]; · iexact V5
  iexact V6

theorem close_two : iprop(Ctx A K ∗ sgPos c 3) ⊢ (|={Set.univ}=> iprop(semVal (dcell c (sgSi 0)) 0 ∗ semVal (dcell c (sgSi 1)) 0) : sProp 𝕄) := by
  have hc : ∀ h, iprop(Ctx A K ∗ pos c (sgSi h) 3) ⊢ (|={Set.univ}=> semVal (dcell c (sgSi h)) 0 : sProp 𝕄) := fun h => by
    have := close_dma A K c (sgSi h); rw [show rnds (sgSi h).val = 3 by fin_cases h <;> rfl] at this; exact this
  unfold sgPos
  iintro ⟨#HC, P1, P2⟩
  imod (hc 0) $$ [P1] with V1
  · isplitr; · iexact HC
    iexact P1
  imod (hc 1) $$ [P2] with V2
  · isplitr; · iexact HC
    iexact P2
  imodintro
  isplitl [V1] <;> iassumption

/-- The scratch buffers and the free counters, from the pipeline at rest. -/
theorem give_back : iprop(idle A c ∗ stage c ∗ lc0 c) ⊢ iprop(scratch c ∗ locs c) := by
  unfold scratch locs idle stage free1 free2
  iintro ⟨⟨SH, ⟨S10, V10, -⟩, ⟨S11, V11, -⟩, ⟨S20, V20, -⟩, S21, V21, -⟩, ⟨SX, SA, S50, S51⟩, VL⟩
  ihave S1 := (paste_w1 c) $$ [S10 S11]
  · isplitl [S10]; · iexact S10
    iexact S11
  ihave S2 := (paste_w2 c) $$ [S20 S21]
  · isplitl [S20]; · iexact S20
    iexact S21
  ihave S5 := (paste_sg c) $$ [S50 S51]
  · isplitl [S50] <;> iassumption
  isplitl [SX S1 S2 SH SA S5]
  · isplitl [SX]; · iexact SX
    isplitl [S1]; · iexact S1
    isplitl [S2]; · iexact S2
    isplitl [SH]; · iexact SH
    isplitl [SA] <;> iassumption
  isplitl [V10]; · iexact V10
  isplitl [V11]; · iexact V11
  isplitl [V20]; · iexact V20
  isplitl [V21] <;> iassumption

theorem finish_to : iprop(Ctx A K ∗ finish A c)
    ⊢ |={Set.univ}=> iprop((result A c ∗ Pipeline.ownSems0 (Ix := Unit) (Name := ℕ) (U := UU) (Lvl := ℕ) (Val := Elt F) (τ := τ) osem c ∗ scratch c) ∗ Ow c lR0) := by
  unfold finish
  rw [ownSems0_eq]
  iintro ⟨#HC, HO, PB, PA, PR, PS, PG, HI, HS, HL, O0, O1⟩
  imod (close_bar A K c) $$ [PB] with VB
  · isplitr; · iexact HC
    iexact PB
  imod (close_six A K c agRi (fun s h => by fin_cases s <;> fin_cases h <;> rfl)) $$ [PA] with VA
  · isplitr; · iexact HC
    unfold agDone; iexact PA
  imod (close_six A K c rsRi (fun s h => by fin_cases s <;> fin_cases h <;> rfl)) $$ [PR] with VR
  · isplitr; · iexact HC
    unfold rsDone; iexact PR
  imod (close_six A K c agSi (fun s h => by fin_cases s <;> fin_cases h <;> rfl)) $$ [PS] with VS
  · isplitr; · iexact HC
    unfold agPos; iexact PS
  imod (close_two A K c) $$ [PG] with VG
  · isplitr; · iexact HC
    iexact PG
  ihave HB := (give_back A c) $$ [HI HS HL]
  · isplitl [HI]; · iexact HI
    isplitl [HS] <;> iassumption
  icases HB with ⟨HB, HL⟩
  imodintro
  isplitr [HO]
  · isplitl [VB O0 O1]
    · unfold result
      isplitl [VB]; · rw [unscopedSems0_eq]; iexact VB
      isplitl [O0] <;> iassumption
    isplitr [HB]
    · isplitl [VS]; · iexact VS
      isplitl [VA]; · iexact VA
      isplitl [VG]; · iexact VG
      isplitl [VR]; · iexact VR
      iexact HL
    iexact HB
  iexact HO

end Sides

/-! ## The region -/

theorem pts_eq (c : Dev nD) (b : Ref sig .tc) (q : PosShare TreeShare) (f : b.ty.Contents (Elt F)) :
    (Own c (Memref.whole b) q f : sProp 𝕄) = ((c : Thread nD τ).loc b ↦{q} f) := owns_whole (c : Thread nD τ) b q f
theorem pts_any (c : Dev nD) (b : Ref sig .tc) :
    iprop(∃ f : Buf (Elt F) ((c : Thread nD τ).loc b), ((c : Thread nD τ).loc b ↦{fullShare} f)) = (iprop(∃ f, Own c (Memref.whole b) fullShare f) : sProp 𝕄) := by
  simp only [pts_eq]

theorem scratch_eq (c : Dev nD) : (Pipeline.scopedRest (cfg0.spec) c : sProp 𝕄) = scratch c := by
  rw [scopedRest0_eq]; unfold scratch
  rw [pts_any, pts_any, pts_any, pts_any, pts_any, pts_any]
  rfl

def Φ₀ (c : Dev nD) : sProp 𝕄 := iprop(∃ K, Ctx (argsOf m) K ∗ intake (argsOf m) c)
def Φ₁ (c : Dev nD) : sProp 𝕄 :=
  iprop(result (argsOf m) c ∗ Pipeline.ownSems0 (Ix := Unit) (Name := ℕ) (U := UU) (Lvl := ℕ) (Val := Elt F) (τ := τ) osem c ∗ scratch c)

def dats (_ : Fin 1) (c : Dev nD) : Pipeline.Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem body_obligation (c : Dev nD) : Pipeline.BodyObligation (dats (F := F) m 0 c) (defs₀ (F := F)) 𝒱₀ () Set.univ := fun t => by
  rw [fin_N0 t]
  show iprop(Φ₀ m c ∗ (∃ W, ⌜_⌝ ∗ owes (c : Thread nD τ) (O₀ c) W) ∗ _) ⊢ wp frame (wpE (defs₀ (F := F)) 𝒱₀ (c : Thread nD τ) none) Set.univ (bodyAt0 t0_0)
    (fun _ => iprop(Φ₁ m c ∗ (∃ W, ⌜_⌝ ∗ owes (c : Thread nD τ) 0 W) ∗ _))
  unfold Φ₀
  iintro ⟨⟨%K, #HC, HI⟩, ⟨%W, -, HO⟩, HE⟩
  iapply (wp_fupd _ _ _ _ _)
  ihave HS := (start_of (argsOf m) c) $$ [HI HO]
  · isplitl [HO]
    · unfold Ow; iexists W; iexact HO
    iexact HI
  iapply (sound_body (argsOf m) K c) $$ [HS]
  · isplitr; · iexact HC
    iexact HS
  iintro HF
  imod (finish_to (argsOf m) K c) $$ [HF] with HF
  · isplitr; · iexact HC
    iexact HF
  imodintro
  icases HF with ⟨HF, HO⟩
  isplitl [HF]; · unfold Φ₁; iexact HF
  isplitl [HO]
  · unfold Ow
    icases HO with ⟨%W', HO⟩
    iexists W'
    isplitr; · ipureintro; exact fun _ _ => Or.inl trivial
    iexact HO
  iexact HE

theorem take_in (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argsOf m) c)
      ⊢ |={Set.univ}=> iprop(((∃ K, Ctx (argsOf m) K ∗ credits c ∗ mine c) ∗ argsAt (argsOf m) c fullShare.right ∗ landArr c) ∗ argsAt (argsOf m) c fullShare.left) := by
  rw [Pipeline.unscopedRestP_none, unscopedRest0_eq, ← pts_eq, ← pts_eq, ← pts_eq, ← pts_eq, ← pts_eq, ← pts_eq]
  unfold G' Ctx landArr
  iintro ⟨⟨H0, H1, H2, H3, H4, H5⟩, Hlev, Hcr, -, ⟨%K, HR, HM⟩⟩
  ihave Hc := (creds (F := F) c) $$ Hcr
  ihave HA := (args_halves (argsOf m) c fullShare) $$ [H0 H1 H2]
  · unfold argsAt
    isplitl [H0]; · iexact H0
    isplitl [H1]; · iexact H1
    iexact H2
  icases HA with ⟨HL, HA⟩
  imodintro
  isplitr [HL]
  · isplitl [Hlev Hc HR HM]
    · iexists K
      isplitl [HR Hlev]
      · isplitl [HR] <;> iassumption
      isplitl [Hc] <;> iassumption
    isplitl [HA]; · iexact HA
    isplitl [H3]; · iexists _; iexact H3
    isplitl [H4]; · iexists _; iexact H4
    iexists _; iexact H5
  iexact HL

theorem go_in (c : Dev nD) :
    iprop(((∃ K, Ctx (argsOf m) K ∗ credits c ∗ mine c) ∗ argsAt (argsOf m) c fullShare.right ∗ landArr c)
        ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀ intake
  iintro ⟨⟨⟨%K, HC, Hc, HM⟩, HA, HL⟩, -, HS⟩
  iexists K
  isplitl [HC]; · iexact HC
  isplitl [Hc]; · iexact Hc
  isplitl [HM]; · iexact HM
  isplitl [HA]; · iexact HA
  isplitl [HL]; · iexact HL
  iexact HS

theorem go_out (c : Dev nD) :
    (dats m 0 c).Φ (Fin.last cfg0.N) ⊢ iprop(result (argsOf m) c ∗ Pipeline.ownSems0 osem c ∗ Pipeline.scopedRest cfg0.spec c) := by
  rw [show (dats m 0 c).Φ (Fin.last cfg0.N) = Φ₁ m c from rfl, scratch_eq]
  unfold Φ₁
  exact Entails.rfl

/-- What device `c`'s final memory says: its free-standing counters are at zero, its arguments as they were, its result's two halves as computed. -/
def Said (c : Dev nD) (s : MemSt nD τ sig (Elt F)) : Prop :=
  (∀ sm : SemLoc sig, sm.isScoped .tc = false → s.sem ((c.tc : Thread nD τ), sm) = 0)
    ∧ (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    ∧ (outM 0).view.read (Elt F) (s.mem ((c : Thread nD τ).loc main_v1_0)) = out0 (argsOf m) c
    ∧ (outM 1).view.read (Elt F) (s.mem ((c : Thread nD τ).loc main_v1_0)) = out1 (argsOf m) c

/-- A held window reads in the machine's memory what it is held at. -/
theorem own_says {sp : Space} {s : Shape} {e : EltTy} (c : Dev nD) (b : Memref sig .tc sp s e) (q : PosShare TreeShare) (X : s.Idx → Elt F e) (st : Phys nD τ sig (Elt F)) :
    iprop(Own c b q X ∗ SI st) ⊢ (⌜b.view.read (Elt F) (st.mem.mem (b.view.loc (c : Thread nD τ))) = X⌝ : sProp 𝕄) := by
  unfold Own owns
  iintro ⟨⟨%f, %hf, H⟩, HSI⟩
  ihave %h := (SI_pointsTo_agree (st := st) (ℓ := b.view.loc (c : Thread nD τ)) (I := b.view.set) (q := q) (f := f)) $$ [H HSI]
  · isplitl [HSI] <;> iassumption
  ipureintro
  rw [← hf]; exact View.read_congr h

theorem whole_says (c : Dev nD) (b : Ref sig .tc) (q : PosShare TreeShare) (X : b.ty.Contents (Elt F)) (st : Phys nD τ sig (Elt F)) :
    iprop(Own c (Memref.whole b) q X ∗ SI st) ⊢ (⌜st.mem.mem ((c : Thread nD τ).loc b) = X⌝ : sProp 𝕄) := by
  refine (own_says c (Memref.whole b) q X st).trans (BI.pure_mono fun h => ?_)
  rw [← h]; exact (View.read_whole _ _).symm

theorem mem_says (c : Dev nD) (st : Phys nD τ sig (Elt F)) :
    iprop(result (argsOf m) c ∗ argsAt (argsOf m) c fullShare.left ∗ SI st) ⊢ |={Set.univ}=> iprop(⌜Said m c st.mem⌝ ∗ SI st) := by
  unfold result argsAt
  iintro ⟨⟨Hu, O0, O1⟩, ⟨H0, H1, H2⟩, HSI⟩
  ihave %e0 := (whole_says c main_arg0 _ _ st) $$ [H0 HSI]
  · isplitl [H0] <;> iassumption
  ihave %e1 := (whole_says c main_arg1 _ _ st) $$ [H1 HSI]
  · isplitl [H1] <;> iassumption
  ihave %e2 := (whole_says c main_arg2 _ _ st) $$ [H2 HSI]
  · isplitl [H2] <;> iassumption
  ihave %r0 := (own_says c (outM 0) _ _ st) $$ [O0 HSI]
  · isplitl [O0] <;> iassumption
  ihave %r1 := (own_says c (outM 1) _ _ st) $$ [O1 HSI]
  · isplitl [O1] <;> iassumption
  imod (Pipeline.unscopedSems0_read (X := unscopedSems0 c) (c := c) fupd_intro st) $$ [Hu HSI] with H
  · isplitl [Hu] <;> iassumption
  icases H with ⟨%hz, HSI⟩
  imodintro
  isplitr
  · ipureintro; exact ⟨hz, ⟨e0, e1, e2⟩, r0, r1⟩
  iexact HSI

set_option maxRecDepth 8000 in
/-- From any memory with zero counters, every weakly fair execution of the kernel on the four devices terminates, and in every final
    state the arguments are as they were, each device's result is as computed from the arguments, and every counter is at zero. -/
theorem run_main : θ_run defs (onTc (τ := τ) (main (F := F))) ⟨m, fun _ => 0, ρ⟩
    (fun r => (∀ c : Dev nD, Said m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w _ _ => w.elim0)
    (G := G (argsOf m)) (G' := G' (argsOf m)) (u₀ := u₀)
    (hu₀ := by
      unfold u₀
      iintro Hu
      ihave H := (ownU_pair _ _) $$ Hu
      icases H with ⟨HP, HX⟩
      imod (show BI.own (embR (initOf allCells allToks, (1 : Counters))) ⊢ (|==> BI.bigSep Finset.univ (G (argsOf m)) : sProp 𝕄) from fund_all (argsOf m)) $$ HX with HG
      imodintro
      isplitl [HP] <;> iassumption)
    (hglob := glob (argsOf m))
    (hA := fun _ w => w.elim0) (hpf := fun _ k => k.elim0)
    (X := fun c => iprop((∃ K, Ctx (argsOf m) K ∗ credits c ∗ mine c) ∗ argsAt (argsOf m) c fullShare.right ∗ landArr c))
    (Y := fun c => result (argsOf m) c) (Z := fun c => argsAt (argsOf m) c fullShare.left)
    (hX := take_in m ρ) (hin := go_in m) (hout := go_out m)
    (QY := Said m)
    (hY := mem_says m)
    (hQ := fun _ h hs => ⟨fun c => (h c).2.2, sem_eq_zero hs fun c => (h c).2.2.1⟩)

end Cert.KProof

end
-- ==== Proof.Frames.lean ====
/-
The frames: each program runs to the end, leaves its arguments as they were and its counters at zero.
-/
module

public import proofs.«01_k».proof.Defs
public import proofs.«01_k».proof.Proof.Gen.Kernel
public import proofs.«01_k».proof.Proof.Gen.ReferenceIdeal.Run
public import proofs.«01_k».proof.Proof.Gen.UnclippedIdeal.Run
public import proofs.«01_k».proof.Proof.Gen.Pre_within_the_clip_KernelIdeal
public import proofs.«01_k».proof.Proof.Gen.Pre_within_the_clip_ReferenceIdeal
public import proofs.«01_k».proof.Proof.Launch

@[expose] public section

noncomputable section

namespace Cert.KProof

open Idealize.ShloMosaic Idealize.SL.Sem

/-- The idealized kernel's frame: the run at the ideal floats. -/
theorem frame_ideal : Cert.quiescent_KernelIdeal (hKernelIdeal := Cert.KernelIdeal.Gen.facts) := fun m g _ =>
  (θ_run Cert.KernelIdeal.defs _ _).mono (fun _ h => ⟨fun c => (h.1 c).2.1, h.2⟩) (run_main (F := Ideal) m g)

/-- The kernel's frame: it is the same program, so the same run at the machine's floats. -/
theorem frame_kernel : Cert.quiescent_Kernel (hKernel := Cert.Kernel.Gen.facts) := fun m g _ =>
  (θ_run Cert.KernelIdeal.defs _ _).mono (fun _ h => ⟨fun c => (h.1 c).2.1, h.2⟩) (run_main (F := Bits) m g)

/-- The reference's frame. -/
theorem frame_ref : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run (F := Ideal) m g)

/-- The frame of the reference without its clip. -/
theorem frame_unclipped : Cert.quiescent_UnclippedIdeal (hUnclippedIdeal := Cert.UnclippedIdeal.Gen.facts) := fun m g _ =>
  (θ_run Cert.UnclippedIdeal.defs _ _).mono (fun r h => ⟨fun c => (h c).2, sem_eq_zero_of_no_sems rfl r.2⟩)
    (Cert.UnclippedIdeal.Value.run (F := Ideal) m g)

/-- The two frames under the precondition: they hold without it. -/
theorem frame_ideal_pre : Cert.quiescent_KernelIdeal_pre_within_the_clip_KernelIdeal (hKernelIdeal := Cert.KernelIdeal.Gen.facts)
    (hPre_within_the_clip_KernelIdeal := Cert.Pre_within_the_clip_KernelIdeal.Gen.facts) := fun m g _ => frame_ideal m g trivial

theorem frame_ref_pre : Cert.quiescent_ReferenceIdeal_pre_within_the_clip_ReferenceIdeal (hReferenceIdeal := Cert.ReferenceIdeal.Gen.facts)
    (hPre_within_the_clip_ReferenceIdeal := Cert.Pre_within_the_clip_ReferenceIdeal.Gen.facts) := fun m g _ => frame_ref m g trivial

end Cert.KProof

end
-- ==== Proof.Silu.lean ====
/-
The activation on the extended reals: the kernel's form of it by the hyperbolic tangent, the reference's by the
exponential, and the bound under which the reference's clip does nothing.
-/
module

public import Idealize.ShloMosaic.PureOps.Ideal
public import Mathlib.Algebra.Order.BigOperators.Ring.Finset
public import Mathlib.Analysis.SpecialFunctions.Trigonometric.DerivHyp

@[expose] public section

noncomputable section

namespace Cert.KProof

open Idealize.ShloMosaic

/-- The activation: `x / (1 + e⁻ˣ)`. -/
def silu (x : EReal) : EReal := Ideal.div x (1 + Ideal.exp (-x))

/-- One plus the exponential of a real is a positive real. -/
theorem one_add_exp (r : ℝ) : (1 : EReal) + Ideal.exp (r : EReal) = ((1 + Real.exp r : ℝ) : EReal) := by
  rw [Ideal.exp_coe]; norm_cast

theorem silu_coe (r : ℝ) : silu (r : EReal) = ((r / (1 + Real.exp (-r)) : ℝ) : EReal) := by
  have hp : (1 + Real.exp (-r) : ℝ) ≠ 0 := by positivity
  rw [silu, ← EReal.coe_neg, one_add_exp, Ideal.div_coe hp, ← EReal.coe_mul]
  congr 1; ring

/-- On the reals the two forms agree. -/
theorem half_tanh_real (r : ℝ) : r * (1 / 2) * (Real.tanh (r * (1 / 2)) + 1) = r / (1 + Real.exp (-r)) := by
  have hs : Real.exp (-r) = Real.exp (-(r * (1 / 2))) * Real.exp (-(r * (1 / 2))) := by
    rw [← Real.exp_add]; congr 1; ring
  have hi : Real.exp (r * (1 / 2)) * Real.exp (-(r * (1 / 2))) = 1 := by rw [← Real.exp_add]; simp
  rw [Real.tanh_eq_sinh_div_cosh, Real.sinh_eq, Real.cosh_eq, hs]
  generalize Real.exp (r * (1 / 2)) = a at *
  have hb : 0 < Real.exp (-(r * (1 / 2))) := Real.exp_pos _
  generalize Real.exp (-(r * (1 / 2))) = b at *
  have ha : 0 < a := by
    by_contra h
    nlinarith [mul_nonneg (neg_nonneg.2 (not_lt.1 h)) hb.le]
  have h1 : a + b ≠ 0 := by positivity
  have h2 : 1 + b * b ≠ 0 := by positivity
  field_simp
  linear_combination (2 * r * b) * hi

/-- On the extended reals too. -/
theorem half_tanh (x : EReal) : x * ((1 / 2 : ℝ) : EReal) * (Ideal.tanh (x * ((1 / 2 : ℝ) : EReal)) + 1) = silu x := by
  have h2 : (0 : ℝ) < 1 / 2 := by norm_num
  induction x with
  | bot =>
    rw [EReal.bot_mul_coe_of_pos h2, Ideal.tanh_bot, silu, EReal.neg_bot, Ideal.exp_top]
    have : (-1 : EReal) + 1 = 0 := by
      rw [← EReal.coe_one, ← EReal.coe_neg, ← EReal.coe_add]; norm_num
    rw [this, mul_zero, EReal.add_top_of_ne_bot (show (1 : EReal) ≠ ⊥ from EReal.coe_ne_bot 1), Ideal.div, if_neg EReal.top_ne_zero,
      EReal.inv_top, mul_zero]
  | top =>
    rw [EReal.top_mul_coe_of_pos h2, Ideal.tanh_top, silu, EReal.neg_top, Ideal.exp_bot, add_zero, Ideal.div,
      if_neg one_ne_zero]
    have h1 : (1 : EReal) + 1 = ((2 : ℝ) : EReal) := by
      rw [← EReal.coe_one, ← EReal.coe_add]; norm_num
    have h3 : (1 : EReal)⁻¹ = ((1 : ℝ) : EReal) := by rw [← EReal.coe_one, ← EReal.coe_inv, inv_one]
    rw [h1, h3, EReal.top_mul_coe_of_pos two_pos, EReal.top_mul_coe_of_pos one_pos]
  | coe r =>
    rw [← EReal.coe_mul, Ideal.tanh_coe, silu_coe, ← half_tanh_real, ← EReal.coe_one, ← EReal.coe_add, ← EReal.coe_mul]

/-- Between the clip's bounds the clip does nothing. -/
theorem clip_id {x : EReal} (h : -60 ≤ x ∧ x ≤ 60) : min 60 (max (-60) x) = x := by
  rw [max_eq_right h.1, min_eq_right h.2]

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of squares leaves every term finite. -/
theorem finite_of_squares {ι : Type} [Fintype ι] (a : ι → EReal) (A : ℝ) (h : ∑ i, a i * a i ≤ (A : EReal)) :
    ∃ b : ι → ℝ, (∀ i, a i = (b i : EReal)) ∧ ∑ i, b i * b i ≤ A := by
  have hnn : ∀ i, 0 ≤ a i * a i := fun i => by
    rcases le_total 0 (a i) with h | h
    · exact mul_nonneg h h
    · have := mul_nonneg (EReal.neg_nonneg.2 h) (EReal.neg_nonneg.2 h)
      rwa [EReal.neg_mul, mul_comm, EReal.neg_mul, neg_neg] at this
  have hle : ∀ i, a i * a i ≤ (A : EReal) := fun i =>
    (Finset.single_le_sum (f := fun i => a i * a i) (fun i _ => hnn i) (Finset.mem_univ i)).trans h
  have hfin : ∀ i, a i = ((a i).toReal : EReal) := fun i => by
    refine (EReal.coe_toReal ?_ ?_).symm
    · intro ht
      have := hle i
      rw [ht, EReal.top_mul_top] at this
      exact absurd this (not_le.2 (EReal.coe_lt_top A))
    · intro hb
      have := hle i
      rw [hb, EReal.bot_mul_bot] at this
      exact absurd this (not_le.2 (EReal.coe_lt_top A))
  refine ⟨fun i => (a i).toReal, hfin, ?_⟩
  have : ((∑ i, (a i).toReal * (a i).toReal : ℝ) : EReal) ≤ (A : EReal) := by
    rw [coe_sum]
    refine le_trans (le_of_eq (Finset.sum_congr rfl fun i _ => ?_)) h
    rw [EReal.coe_mul, ← hfin i]
  exact EReal.coe_le_coe_iff.1 this

/-- The inner product of a row and a column whose squared lengths are at most 2400 and 1.5 is within the clip's bounds. -/
theorem inner_bound {ι : Type} [Fintype ι] (a b : ι → EReal) (ha : ∑ i, a i * a i ≤ ((2400 : ℝ) : EReal))
    (hb : ∑ i, b i * b i ≤ ((3 / 2 : ℝ) : EReal)) : (-60 : EReal) ≤ ∑ i, a i * b i ∧ ∑ i, a i * b i ≤ 60 := by
  obtain ⟨u, hu, hU⟩ := finite_of_squares a _ ha
  obtain ⟨v, hv, hV⟩ := finite_of_squares b _ hb
  have hs : ∑ i, a i * b i = ((∑ i, u i * v i : ℝ) : EReal) := by
    rw [coe_sum]
    exact Finset.sum_congr rfl fun i _ => by rw [hu, hv, EReal.coe_mul]
  have hcs := Finset.sum_mul_sq_le_sq_mul_sq Finset.univ u v
  have hu0 : 0 ≤ ∑ i, u i * u i := Finset.sum_nonneg fun i _ => mul_self_nonneg _
  have hv0 : 0 ≤ ∑ i, v i * v i := Finset.sum_nonneg fun i _ => mul_self_nonneg _
  simp only [pow_two] at hcs
  have hq : (∑ i, u i * v i) * (∑ i, u i * v i) ≤ 60 * 60 := by
    refine hcs.trans ((mul_le_mul hU hV hv0 (by norm_num)).trans (by norm_num))
  have hb := abs_le_of_sq_le_sq' (by simpa only [pow_two] using hq) (by norm_num : (0 : ℝ) ≤ 60)
  rw [hs]
  have e1 : (60 : EReal) = ((60 : ℝ) : EReal) := rfl
  rw [e1, ← EReal.coe_neg]
  exact ⟨EReal.coe_le_coe_iff.2 hb.1, EReal.coe_le_coe_iff.2 hb.2⟩

/-- A sum over `a · b` places, grouped into `a` runs of `b`. -/
theorem sum_runs {M : Type} [AddCommMonoid M] (a b : ℕ) (f : Fin (a * b) → M) :
    ∑ i, f i = ∑ g : Fin a, ∑ j : Fin b, f (finProdFinEquiv (g, j)) := by
  rw [← Equiv.sum_comp finProdFinEquiv f, Fintype.sum_prod_type]

end Cert.KProof

end
-- ==== Proof.Sums.lean ====
/-
The kernel's values over the extended reals: a device's partial result is a sum over its 8192 hidden columns, and a
device's block of results is that sum over all four devices.
-/
module

public import proofs.«01_k».proof.Proof.Jobs
public import proofs.«01_k».proof.Proof.Silu
public import Idealize.ShloMosaic.Lib.IdealHost
public import Idealize.ShloMosaic.Lib.MatmulPlain
public import Idealize.ShloMosaic.Lib.ValueLayout

@[expose] public section

noncomputable section

namespace Cert.KProof

open Cert.KernelIdeal Cert.KernelIdeal.Gen
open Idealize.ShloMosaic
open Idealize.ShloMosaic.TcCoe
open Idealize.ShloMosaic.ValueIdx

theorem ofBits_half : Ideal.ofBits .f32 0x3F000000#32 = ((1 / 2 : ℝ) : EReal) := by
  simp [Ideal.ofBits, Ideal.ieee]
  rw [← EReal.coe_mul]; norm_num

/-- A chunk of the hidden layer, element by element. -/
theorem hcol_apply (X : HB Ideal) (w : W1C Ideal) (r : Fin 1024) (j : Fin 512) :
    hcol X w (ix2 r j) = silu (∑ k : Fin 2048, X (ix2 r k) * w (ix2 k j)) := by
  have hm : FloatOps.matmul (F := Ideal) (φ₁ := .bf16) (φ₂ := .bf16) dot_S1024x2048_S2048x512_S1024x512_1_0_0_1_n_n none X w (constant S1024x512 .f32 0x00000000#32) (ix2 r j)
      = ∑ k : Fin 2048, X (ix2 r k) * w (ix2 k j) := by
    refine (Ideal.matmul_plain_apply (M := 1024) (K := 2048) (N := 512) none X w _ r j).trans ?_
    rw [show (constant S1024x512 .f32 0x00000000#32 : FVec Ideal S1024x512 .f32) (ix2 r j) = 0 from Ideal.ofBits_zero_f32, zero_add]
  rw [← half_tanh, ← hm, ← ofBits_half, ← Ideal.ofBits_one_f32]
  unfold hcol k0_pay5
  rw [shapeCast_shapeCast, shapeCast_self]
  rfl

/-- 2048 columns of the hidden layer. -/
theorem hval_apply (X : HB Ideal) (w : Fin 4 → W1C Ideal) (r : Fin 1024) (q : Fin 2048) :
    hval X w (ix2 r q) = silu (∑ k : Fin 2048, X (ix2 r k) * w ⟨q.val / 512, by omega⟩ (ix2 k ⟨q.val % 512, by omega⟩)) :=
  hcol_apply X _ r _

/-- Chunk `j` of group `g` reads column `2048 g + 512 j + l`. -/
theorem chunk_apply (W : W1A Ideal) (g : Fin 4) (j : Fin 4) (k : Fin 2048) (l : Fin 512) :
    chunk W (cix g.val j.val) (ix2 k l) = W (ix2 k ⟨2048 * g.val + 512 * j.val + l.val, by omega⟩) := by
  unfold chunk
  refine congrArg W ?_
  funext a; apply Fin.ext; rw [unit_emb_val]
  fin_cases a
  · show 0 + k.val = k.val; omega
  · show (4 * g.val + j.val) % 16 * 512 + l.val = 2048 * g.val + 512 * j.val + l.val; omega

theorem grp_apply (W : W2A Ideal) (g : Fin 4) (k : Fin 2048) (l : Fin 2048) :
    grp W (gix g.val) (ix2 k l) = W (ix2 ⟨2048 * g.val + k.val, by omega⟩ l) := by
  unfold grp
  refine congrArg W ?_
  funext a; apply Fin.ext; rw [unit_emb_val]
  fin_cases a
  · show g.val % 4 * 2048 + k.val = 2048 * g.val + k.val; omega
  · show 0 + l.val = l.val; omega

/-- Row `r` of a half block against column `f` of a device's first weights, activated. -/
def hid (X : HB Ideal) (W1 : W1A Ideal) (r : Fin 1024) (f : Fin 8192) : EReal :=
  silu (∑ k : Fin 2048, X (ix2 r k) * W1 (ix2 k f))

/-- One trip adds the group's share of the sum. -/
theorem stepv_apply (X : HB Ideal) (W1 : W1A Ideal) (W2 : W2A Ideal) (g : Fin 4) (A : HA Ideal) (r : Fin 1024) (q : Fin 2048) :
    stepv X W1 W2 g.val A (ix2 r q)
      = A (ix2 r q) + ∑ j : Fin 2048, hid X W1 r (finProdFinEquiv (g, j)) * W2 (ix2 (finProdFinEquiv (g, j)) q) := by
  have hm : ∀ (H : HB Ideal) (w : W2C Ideal), FloatOps.matmul (F := Ideal) (φ₁ := .bf16) (φ₂ := .bf16) dot_S1024x2048_S2048x2048_S1024x2048_1_0_0_1_n_n none H w (constant S1024x2048 .f32 0x00000000#32) (ix2 r q)
      = ∑ k : Fin 2048, H (ix2 r k) * w (ix2 k q) := fun H w => by
    refine (Ideal.matmul_plain_apply (M := 1024) (K := 2048) (N := 2048) none H w _ r q).trans ?_
    rw [show (constant S1024x2048 .f32 0x00000000#32 : FVec Ideal S1024x2048 .f32) (ix2 r q) = 0 from Ideal.ofBits_zero_f32, zero_add]
  have he : ∑ j : Fin 2048, hid X W1 r (finProdFinEquiv (g, j)) * W2 (ix2 (finProdFinEquiv (g, j)) q)
      = ∑ k : Fin 2048, hval X (fun j => chunk W1 (cix g.val j.val)) (ix2 r k) * grp W2 (gix g.val) (ix2 k q) := by
    refine Finset.sum_congr rfl fun j _ => ?_
    have hf : ∀ h, (⟨2048 * g.val + j.val, h⟩ : Fin 8192) = finProdFinEquiv (g, j) := fun h =>
      Fin.ext (Nat.add_comm _ _)
    rw [hval_apply, grp_apply, hf, hid]
    congr 2
    refine Finset.sum_congr rfl fun k _ => ?_
    rw [chunk_apply W1 g ⟨j.val / 512, by omega⟩ k ⟨j.val % 512, by omega⟩, ← hf (by omega)]
    congr 3
    apply Fin.ext
    show 2048 * g.val + j.val = 2048 * g.val + 512 * (j.val / 512) + j.val % 512
    omega
  rw [he, ← hm]
  unfold stepv k0_pay50
  rw [shapeCast_shapeCast, shapeCast_self]
  rfl

theorem accv_succ_apply (X : HB Ideal) (W1 : W1A Ideal) (W2 : W2A Ideal) (g : Fin 4) (r : Fin 1024) (q : Fin 2048) :
    accv X W1 W2 (g.val + 1) (ix2 r q) = accv X W1 W2 g.val (ix2 r q)
      + ∑ j : Fin 2048, hid X W1 r (finProdFinEquiv (g, j)) * W2 (ix2 (finProdFinEquiv (g, j)) q) :=
  stepv_apply X W1 W2 g _ r q

/-- A device's partial result on a half block. -/
theorem mlp_apply (X : HB Ideal) (W1 : W1A Ideal) (W2 : W2A Ideal) (r : Fin 1024) (q : Fin 2048) :
    mlp X W1 W2 (ix2 r q) = ∑ f : Fin 8192, hid X W1 r f * W2 (ix2 f q) := by
  have h0 : accv X W1 W2 0 (ix2 r q) = 0 := Ideal.ofBits_zero_f32
  have h1 : accv X W1 W2 1 (ix2 r q) = accv X W1 W2 0 (ix2 r q) + _ := accv_succ_apply X W1 W2 0 r q
  have h2 : accv X W1 W2 2 (ix2 r q) = accv X W1 W2 1 (ix2 r q) + _ := accv_succ_apply X W1 W2 1 r q
  have h3 : accv X W1 W2 3 (ix2 r q) = accv X W1 W2 2 (ix2 r q) + _ := accv_succ_apply X W1 W2 2 r q
  have h4 : accv X W1 W2 4 (ix2 r q) = accv X W1 W2 3 (ix2 r q) + _ := accv_succ_apply X W1 W2 3 r q
  rw [mlp, h4, h3, h2, h1, h0, zero_add, sum_runs 4 2048 (fun f => hid X W1 r f * W2 (ix2 f q)), Fin.sum_univ_four]

variable (A : Args Ideal)

/-- Row `p` of device `d`'s rows against device `c`'s weights. -/
def share (c d : Dev nD) (p : Fin 2048) (q : Fin 2048) : EReal :=
  ∑ f : Fin 8192, silu (∑ k : Fin 2048, A.x d (ix2 p k) * A.w1 c (ix2 k f)) * A.w2 c (ix2 f q)

theorem half_apply (X : S2048x2048.Idx → Elt Ideal .bf16) (h : Fin 2) (r : Fin 1024) (k : Fin 2048) :
    half X h (ix2 r k) = X (ix2 ⟨1024 * h.val + r.val, by omega⟩ k) := by
  unfold half
  refine congrArg X ?_
  funext a; apply Fin.ext; rw [unit_emb_val]
  fin_cases a
  · rfl
  · show 0 + k.val = k.val; omega

theorem part_apply (c d : Dev nD) (h : Fin 2) (r : Fin 1024) (q : Fin 2048) :
    part A c d h (ix2 r q) = share A c d ⟨1024 * h.val + r.val, by omega⟩ q := by
  unfold part xh share
  rw [mlp_apply]
  unfold hid
  simp only [half_apply]

/-- The four devices, seen from device `c`. -/
theorem sum_devices (c : Dev nD) (f : Dev nD → EReal) :
    f c + f (peer c 3) + f (peer c 2) + f (peer c 1) = ∑ e : Dev nD, f e := by
  show _ = ∑ e : Fin 4, f e
  rw [Fin.sum_univ_four]
  revert c
  show ∀ c : Fin 4, _
  intro c
  fin_cases c
  · show f 0 + f 3 + f 2 + f 1 = _; ac_rfl
  · show f 1 + f 0 + f 3 + f 2 = _; ac_rfl
  · show f 2 + f 1 + f 0 + f 3 = _; ac_rfl
  · show f 3 + f 2 + f 1 + f 0 = _; ac_rfl

/-- The two halves of a device's results. -/
theorem out0_apply (c : Dev nD) (r : Fin 1024) (q : Fin 2048) :
    out0 A c (ix2 r q) = ∑ e : Dev nD, share A e c ⟨1024 * (0 : Fin 2).val + r.val, by simp; omega⟩ q := by
  rw [← sum_devices c, ← part_apply, ← part_apply, ← part_apply, ← part_apply]
  unfold out0 k0_pay75 k0_pay74 k0_pay73
  simp only [shapeCast_shapeCast]
  rfl

theorem out1_apply (c : Dev nD) (r : Fin 1024) (q : Fin 2048) :
    out1 A c (ix2 r q) = ∑ e : Dev nD, share A e c ⟨1024 * (1 : Fin 2).val + r.val, by simp; omega⟩ q := by
  rw [← sum_devices c, ← part_apply, ← part_apply, ← part_apply, ← part_apply]
  unfold out1 k0_pay77 k0_pay76
  simp only [shapeCast_shapeCast]
  rfl

end Cert.KProof

end
-- ==== Proof.Value.lean ====
/-
The value claims: each device's block of the kernel's result is its block of the reference's, over the extended reals.
-/
module

public import proofs.«01_k».proof.Defs
public import proofs.«01_k».proof.Proof.Gen.ReferenceIdeal.Run
public import proofs.«01_k».proof.Proof.Gen.UnclippedIdeal.Run
public import proofs.«01_k».proof.Proof.Launch
public import proofs.«01_k».proof.Proof.Sums
public import Idealize.ShloMosaic.Lib.Layout
public import Idealize.ShloMosaic.Lib.StackMember

@[expose] public section

noncomputable section

namespace Cert.KProof

open Cert.KernelIdeal Cert.KernelIdeal.Gen
open Idealize.ShloMosaic Idealize.SL.Sem
open Idealize.ShloMosaic.TcCoe
open Idealize.ShloMosaic.ValueIdx (ix2 hostDivf_apply broadcastInDim_scalar_apply)

abbrev XT : Shape := ⟨2, ![8192, 2048]⟩
abbrev W1T : Shape := ⟨2, ![2048, 32768]⟩
abbrev W2T : Shape := ⟨2, ![32768, 2048]⟩

section Whole
variable (x : XT.Idx → EReal) (w1 : W1T.Idx → EReal) (w2 : W2T.Idx → EReal)

/-- The hidden layer of the whole arrays, before the activation. -/
def pre (p : Fin 8192) (f : Fin 32768) : EReal := ∑ k : Fin 2048, x (ix2 p k) * w1 (ix2 k f)
/-- The result of the whole arrays. -/
def full (p : Fin 8192) (q : Fin 2048) : EReal := ∑ f : Fin 32768, silu (pre x w1 p f) * w2 (ix2 f q)

/-- The arrays cut over the devices. -/
def Cut (A : Args Ideal) : Prop :=
  ∀ c : Dev nD, A.x c = Layout.block ⟨2, ![2048, 2048]⟩ XT 0 4 c x ∧ A.w1 c = Layout.block ⟨2, ![2048, 8192]⟩ W1T 1 4 c w1
    ∧ A.w2 c = Layout.block ⟨2, ![8192, 2048]⟩ W2T 0 4 c w2

variable {x w1 w2}
variable {A : Args Ideal} (hA : Cut x w1 w2 A)
include hA

/-- Row `p` of device `c`. -/
theorem part_x (c : Fin 4) (p k : Fin 2048) : A.x c (ix2 p k) = x (ix2 (finProdFinEquiv (c, p)) k) := by
  rw [(hA c).1]
  refine congrArg x ?_
  funext a; apply Fin.ext
  fin_cases a
  · show c.val * 2048 + p.val = p.val + 2048 * c.val; omega
  · rfl

/-- Column `f` of device `c`. -/
theorem part_w1 (c : Fin 4) (k : Fin 2048) (f : Fin 8192) : A.w1 c (ix2 k f) = w1 (ix2 k (finProdFinEquiv (c, f))) := by
  rw [(hA c).2.1]
  refine congrArg w1 ?_
  funext a; apply Fin.ext
  fin_cases a
  · rfl
  · show c.val * 8192 + f.val = f.val + 8192 * c.val; omega

theorem part_w2 (c : Fin 4) (f : Fin 8192) (q : Fin 2048) : A.w2 c (ix2 f q) = w2 (ix2 (finProdFinEquiv (c, f)) q) := by
  rw [(hA c).2.2]
  refine congrArg w2 ?_
  funext a; apply Fin.ext
  fin_cases a
  · show c.val * 8192 + f.val = f.val + 8192 * c.val; omega
  · rfl

/-- The four devices' shares add up to the result of the whole arrays. -/
theorem sum_share (c : Fin 4) (p q : Fin 2048) : ∑ e : Dev nD, share A e c p q = full x w1 w2 (finProdFinEquiv (c, p)) q := by
  unfold full
  rw [sum_runs 4 8192 (fun f => silu (pre x w1 (finProdFinEquiv (c, p)) f) * w2 (ix2 f q))]
  refine Finset.sum_congr rfl fun e _ => ?_
  unfold share
  refine Finset.sum_congr rfl fun f _ => ?_
  rw [part_w2 hA]
  congr 2
  refine Finset.sum_congr rfl fun k _ => ?_
  rw [part_x hA, part_w1 hA]

end Whole

/-- What the kernel leaves in a device's block of results. -/
theorem block_of_halves {x : XT.Idx → EReal} {w1 : W1T.Idx → EReal} {w2 : W2T.Idx → EReal} {A : Args Ideal} (hA : Cut x w1 w2 A)
    (v : XT.Idx → EReal) (hv : ∀ p q, v (ix2 p q) = full x w1 w2 p q) (c : Dev nD) (Y : S2048x2048.Idx → EReal)
    (h0 : ∀ (r : Fin 1024) (q : Fin 2048), Y (ix2 ⟨r.val, by omega⟩ q) = out0 A c (ix2 r q))
    (h1 : ∀ (r : Fin 1024) (q : Fin 2048), Y (ix2 ⟨1024 + r.val, by omega⟩ q) = out1 A c (ix2 r q)) :
    Y = Layout.block ⟨2, ![2048, 2048]⟩ XT 0 4 c v := by
  have hb : ∀ p q : Fin 2048, Layout.block ⟨2, ![2048, 2048]⟩ XT 0 4 c v (by decide) (ix2 p q) = ∑ e : Dev nD, share A e c p q := fun p q => by
    rw [sum_share hA c p q, ← hv]
    refine congrArg v ?_
    funext a; apply Fin.ext
    fin_cases a
    · show c.val * 2048 + p.val = p.val + 2048 * c.val; omega
    · rfl
  have hY : ∀ p q : Fin 2048, Y (ix2 p q) = ∑ e : Dev nD, share A e c p q := fun p q => by
    by_cases hp : p.val < 1024
    · rw [show p = ⟨(⟨p.val, hp⟩ : Fin 1024).val, p.isLt⟩ from rfl, h0, out0_apply]
      refine Finset.sum_congr rfl fun e _ => ?_
      congr 1; apply Fin.ext
      show 1024 * 0 + p.val = p.val; omega
    · have e : p = ⟨1024 + (⟨p.val - 1024, by omega⟩ : Fin 1024).val, by show 1024 + (p.val - 1024) < _; omega⟩ :=
        Fin.ext (by show p.val = 1024 + (p.val - 1024); omega)
      rw [e, h1, out1_apply]
      rfl
  funext i
  have hi : i = ix2 (i 0) (i 1) := by
    funext a; fin_cases a <;> rfl
  rw [hi]
  exact (hY (i 0) (i 1)).trans (hb (i 0) (i 1)).symm

/-- The kernel's run, for any array `v` that is the result of the whole arrays. -/
theorem kernel_value (m : (ℓ : Loc nD τ sig) → Buf (Elt Ideal) ℓ) (g : Dev nD → PrngReg)
    {x : XT.Idx → EReal} {w1 : W1T.Idx → EReal} {w2 : W2T.Idx → EReal} (hA : Cut x w1 w2 (argsOf m))
    (v : XT.Idx → EReal) (hv : ∀ p q, v (ix2 p q) = full x w1 w2 p q) :
    θ_run (defs (F := Ideal)) (onTc (τ := τ) (main (F := Ideal))) ⟨m, fun _ => 0, g⟩ (fun r => ∀ c : Dev nD,
      r.2.mem ((c.tc : Thread nD τ).loc main_v1_0) = Layout.block ⟨2, ![2048, 2048]⟩ XT 0 4 c v
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ?_) (run_main (F := Ideal) m g)
  obtain ⟨-, ha, h0, h1⟩ := h.1 c
  refine ⟨block_of_halves hA v hv c _ (fun r q => ?_) (fun r q => ?_), ha⟩
  · rw [← h0]
    refine congrArg (_ : S2048x2048.Idx → EReal) ?_
    funext a; apply Fin.ext
    fin_cases a
    · show r.val = 0 + 1 * r.val; omega
    · show q.val = 0 + 1 * q.val; omega
  · rw [← h1]
    refine congrArg (_ : S2048x2048.Idx → EReal) ?_
    funext a; apply Fin.ext
    fin_cases a
    · show 1024 + r.val = 1024 + 1 * r.val; omega
    · show q.val = 0 + 1 * q.val; omega

/-! ## The references -/

theorem hidden_apply (x : FVec Ideal XT .f32) (w1 : FVec Ideal W1T .f32) (p : Fin 8192) (f : Fin 32768) :
    Host.dotGeneral Cert.ReferenceIdeal.dot_S8192x2048_S2048x32768_S8192x32768_1_0_0_1_n_n none x w1 (ix2 p f) = pre x w1 p f :=
  StackMember.dotGeneral_plain_apply none x w1 p f

theorem second_apply (h : FVec Ideal ⟨2, ![8192, 32768]⟩ .f32) (w2 : FVec Ideal W2T .f32) (p : Fin 8192) (q : Fin 2048) :
    Host.dotGeneral Cert.ReferenceIdeal.dot_S8192x32768_S32768x2048_S8192x2048_1_0_0_1_n_n none h w2 (ix2 p q)
      = ∑ f : Fin 32768, h (ix2 p f) * w2 (ix2 f q) :=
  StackMember.dotGeneral_plain_apply none h w2 p q

section Refs
variable (x : FVec Ideal XT .f32) (w1 : FVec Ideal W1T .f32) (w2 : FVec Ideal W2T .f32)

/-- The hidden layer the two references compute. -/
abbrev hiddenOf : FVec Ideal ⟨2, ![8192, 32768]⟩ .f32 :=
  Host.dotGeneral Cert.ReferenceIdeal.dot_S8192x2048_S2048x32768_S8192x32768_1_0_0_1_n_n none x w1

/-- A scalar constant spread over the hidden layer. -/
theorem one_apply (h : (⟨0, ![]⟩ : Shape).BroadcastsInDim ⟨2, ![8192, 32768]⟩ ![]) (p : Fin 8192) (f : Fin 32768) :
    broadcastInDim ⟨2, ![8192, 32768]⟩ ![] h (constant (F := Ideal) ⟨0, ![]⟩ .f32 0x3F800000#32) (ix2 p f) = 1 :=
  (broadcastInDim_scalar_apply h _ _).trans Ideal.ofBits_one_f32

/-- The activation as the references write it. -/
theorem act_apply (h : (⟨0, ![]⟩ : Shape).BroadcastsInDim ⟨2, ![8192, 32768]⟩ ![]) (z c : FVec Ideal ⟨2, ![8192, 32768]⟩ .f32)
    (p : Fin 8192) (f : Fin 32768) (hc : c (ix2 p f) = z (ix2 p f)) :
    Host.divf z (addf (broadcastInDim ⟨2, ![8192, 32768]⟩ ![] h (constant (F := Ideal) ⟨0, ![]⟩ .f32 0x3F800000#32)) (Host.exp (Host.negf c))) (ix2 p f)
      = silu (z (ix2 p f)) := by
  show Ideal.div (z (ix2 p f)) (broadcastInDim ⟨2, ![8192, 32768]⟩ ![] h (constant (F := Ideal) ⟨0, ![]⟩ .f32 0x3F800000#32) (ix2 p f)
    + Ideal.exp (-(c (ix2 p f)))) = _
  rw [one_apply, hc]
  rfl

/-- What both references leave, once their activation is `silu`. -/
theorem ref_apply (z : FVec Ideal ⟨2, ![8192, 32768]⟩ .f32) (hz : ∀ p f, z (ix2 p f) = silu (pre x w1 p f)) (p : Fin 8192) (q : Fin 2048) :
    Host.dotGeneral Cert.ReferenceIdeal.dot_S8192x32768_S32768x2048_S8192x2048_1_0_0_1_n_n none z w2 (ix2 p q) = full x w1 w2 p q := by
  rw [second_apply]
  unfold full
  exact Finset.sum_congr rfl fun f _ => by rw [hz]

/-- Between the clip's bounds the clip does nothing, as the reference writes it. -/
theorem clip_apply (h : (⟨0, ![]⟩ : Shape).BroadcastsInDim ⟨2, ![8192, 32768]⟩ ![]) (z : FVec Ideal ⟨2, ![8192, 32768]⟩ .f32)
    (p : Fin 8192) (f : Fin 32768) (hz : -60 ≤ z (ix2 p f) ∧ z (ix2 p f) ≤ 60) :
    minimumf (broadcastInDim ⟨2, ![8192, 32768]⟩ ![] h (sitofp (F := Ideal) .f32 (constantI ⟨0, ![]⟩ 32 60#32)))
      (maximumf (broadcastInDim ⟨2, ![8192, 32768]⟩ ![] h (sitofp (F := Ideal) .f32 (constantI ⟨0, ![]⟩ 32 4294967236#32))) z) (ix2 p f)
      = z (ix2 p f) := by
  have e1 : broadcastInDim ⟨2, ![8192, 32768]⟩ ![] h (sitofp (F := Ideal) .f32 (constantI ⟨0, ![]⟩ 32 60#32)) (ix2 p f) = (60 : EReal) := by
    rw [broadcastInDim_scalar_apply]
    show (((60#32 : BitVec 32).toInt : ℝ) : EReal) = ((60 : ℝ) : EReal)
    rw [show (60#32 : BitVec 32).toInt = 60 by decide]; norm_num
  have e2 : broadcastInDim ⟨2, ![8192, 32768]⟩ ![] h (sitofp (F := Ideal) .f32 (constantI ⟨0, ![]⟩ 32 4294967236#32)) (ix2 p f) = (-60 : EReal) := by
    rw [broadcastInDim_scalar_apply]
    show (((4294967236#32 : BitVec 32).toInt : ℝ) : EReal) = -((60 : ℝ) : EReal)
    rw [show (4294967236#32 : BitVec 32).toInt = -60 by decide, ← EReal.coe_neg]; norm_num
  refine Eq.trans ?_ (clip_id hz)
  rw [← e2, ← e1]
  rfl

end Refs

/-- Without the clip: for all arguments. -/
theorem value_unclipped : Cert.algebraic_KernelIdeal_UnclippedIdeal (hKernelIdeal := Cert.KernelIdeal.Gen.facts)
    (hUnclippedIdeal := Cert.UnclippedIdeal.Gen.facts) := fun m g m' g' _ hm =>
  ⟨_, kernel_value m g hm _ (fun p q => ref_apply _ _ _ _ (fun p f => (act_apply _ _ _ p f rfl).trans (congrArg silu (hidden_apply _ _ p f))) p q),
    (θ_run Cert.UnclippedIdeal.defs _ _).mono (fun _ h => h 0) (Cert.UnclippedIdeal.Value.run (F := Ideal) m' g')⟩

end Cert.KProof

end
-- ==== Proof.Bound.lean ====
/-
The precondition, read: of each device's blocks, the squared lengths of the rows of `x` and of the columns of `W1`.
-/
module

public import proofs.«01_k».proof.Defs
public import proofs.«01_k».proof.Proof.Gen.Pre_within_the_clip_KernelIdeal
public import Idealize.ShloMosaic.Lib.IdealHost
public import Idealize.ShloMosaic.Lib.Pointwise.Reduce

@[expose] public section

noncomputable section

namespace Cert.KProof

open Cert.Pre_within_the_clip_KernelIdeal Cert.Pre_within_the_clip_KernelIdeal.Gen
open Idealize.ShloMosaic

theorem ofBits_2400 : Ideal.ofBits .f32 0x45160000#32 = ((2400 : ℝ) : EReal) := by
  simp [Ideal.ofBits, Ideal.ieee]
  rw [← EReal.coe_mul]; norm_num

theorem ofBits_3_2 : Ideal.ofBits .f32 0x3FC00000#32 = ((3 / 2 : ℝ) : EReal) := by
  simp [Ideal.ofBits, Ideal.ieee]
  rw [← EReal.coe_mul]; norm_num

/-- A comparison that answers one holds. -/
theorem le_of_cmp {x y : EReal} (h : Ideal.cmp .ole x y = 1#1) : x ≤ y := by
  by_contra hn
  simp [Ideal.cmp, hn] at h

/-- A row of `x` has squared length at most 2400. -/
theorem row_bound (x : FVec Ideal S2048x2048 .bf16) (w1 : FVec Ideal S2048x8192 .bf16) (w2 : FVec Ideal S8192x2048 .bf16)
    (h : (fn (F := Ideal) x w1 w2).1 = fun _ => 1#1) (p : Fin 2048) :
    ∑ k : Fin 2048, x (ix2 p k) * x (ix2 p k) ≤ ((2400 : ℝ) : EReal) := by
  have h1 := le_of_cmp (congrFun h (ix1 p))
  rw [← ofBits_2400]
  refine le_trans (le_of_eq ?_) (h1.trans (le_of_eq (ValueIdx.broadcastInDim_scalar_apply _ _ _)))
  refine Eq.trans ?_ (Ideal.hostReduceAdd_r2_a1 reducesTo_S2048x2048_S2048_d1 _ _ _).symm
  rw [show (constant (F := Ideal) S_ .f32 0x00000000#32) (Shape.Idx.first h_S_) = 0 from Ideal.ofBits_zero_f32, zero_add]
  rfl

set_option maxRecDepth 20000 in
/-- A column of `W1` has squared length at most 1.5. -/
theorem col_bound (x : FVec Ideal S2048x2048 .bf16) (w1 : FVec Ideal S2048x8192 .bf16) (w2 : FVec Ideal S8192x2048 .bf16)
    (h : (fn (F := Ideal) x w1 w2).2 = fun _ => 1#1) (f : Fin 8192) :
    ∑ k : Fin 2048, w1 (ix2 k f) * w1 (ix2 k f) ≤ ((3 / 2 : ℝ) : EReal) := by
  have h0 := congrFun h (ix1 (n0 := 8192) f)
  have h1 := le_of_cmp h0
  rw [← ofBits_3_2]
  refine le_trans (le_of_eq ?_) (h1.trans (le_of_eq (ValueIdx.broadcastInDim_scalar_apply _ _ _)))
  refine Eq.trans ?_ (Ideal.hostReduceAdd_r2_a0 reducesTo_S2048x8192_S8192_d0 _ _ _).symm
  rw [show (constant (F := Ideal) S_ .f32 0x00000000#32) (Shape.Idx.first h_S_) = 0 from Ideal.ofBits_zero_f32, zero_add]
  rfl

end Cert.KProof

end
-- ==== Proof.Clipped.lean ====
/-
The claim against the reference with its clip: under the precondition no element of the hidden layer reaches beyond
the clip's bounds, wherever its row and its column lie.
-/
module

public import proofs.«01_k».proof.Proof.Value
public import proofs.«01_k».proof.Proof.Bound

@[expose] public section

noncomputable section

namespace Cert.KProof

open Cert.KernelIdeal Cert.KernelIdeal.Gen
open Idealize.ShloMosaic Idealize.SL.Sem
open Idealize.ShloMosaic.TcCoe

/-- What the precondition says of the devices' blocks. -/
structure Short (A : Args Ideal) : Prop where
  row : ∀ (c : Dev nD) (p : Fin 2048), ∑ k : Fin 2048, A.x c (ValueIdx.ix2 p k) * A.x c (ValueIdx.ix2 p k) ≤ ((2400 : ℝ) : EReal)
  col : ∀ (c : Dev nD) (f : Fin 8192), ∑ k : Fin 2048, A.w1 c (ValueIdx.ix2 k f) * A.w1 c (ValueIdx.ix2 k f) ≤ ((3 / 2 : ℝ) : EReal)

theorem short_of_pre (m : (ℓ : Loc nD τ sig) → Buf (Elt Ideal) ℓ)
    (h : Cert.Pre_KernelIdeal_within_the_clip_KernelIdeal (hPre_within_the_clip_KernelIdeal := Cert.Pre_within_the_clip_KernelIdeal.Gen.facts) m) :
    Short (argsOf m) :=
  ⟨fun c p => row_bound _ _ _ (h c).1 p, fun c f => col_bound _ _ _ (h c).2 f⟩

/-- The hidden layer stays within the clip's bounds. -/
theorem pre_bound {x : XT.Idx → EReal} {w1 : W1T.Idx → EReal} {w2 : W2T.Idx → EReal} {A : Args Ideal} (hA : Cut x w1 w2 A) (hs : Short A)
    (p : Fin 8192) (f : Fin 32768) : (-60 : EReal) ≤ pre x w1 p f ∧ pre x w1 p f ≤ 60 := by
  obtain ⟨c, p', rfl⟩ : ∃ c : Fin 4, ∃ p' : Fin 2048, finProdFinEquiv (c, p') = p := by
    obtain ⟨⟨c, p'⟩, h⟩ := (finProdFinEquiv (m := 4) (n := 2048)).surjective p
    exact ⟨c, p', h⟩
  obtain ⟨e, f', rfl⟩ : ∃ e : Fin 4, ∃ f' : Fin 8192, finProdFinEquiv (e, f') = f := by
    obtain ⟨⟨e, f'⟩, h⟩ := (finProdFinEquiv (m := 4) (n := 8192)).surjective f
    exact ⟨e, f', h⟩
  have hr := hs.row c p'
  have hc := hs.col e f'
  simp only [part_x hA] at hr
  simp only [part_w1 hA] at hc
  exact inner_bound _ _ hr hc

/-- With the clip, under the precondition. -/
theorem value_clipped : Cert.algebraic_KernelIdeal_ReferenceIdeal_pre_within_the_clip_KernelIdeal (hKernelIdeal := Cert.KernelIdeal.Gen.facts)
    (hReferenceIdeal := Cert.ReferenceIdeal.Gen.facts) (hPre_within_the_clip_KernelIdeal := Cert.Pre_within_the_clip_KernelIdeal.Gen.facts) :=
  fun m g m' g' hp hm =>
  have hA : Cut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) (argsOf m) := hm
  ⟨_, kernel_value m g hA _ (fun p q => ref_apply _ _ _ _ (fun p f =>
      (act_apply _ _ _ p f (clip_apply _ _ p f (by rw [hidden_apply]; exact pre_bound hA (short_of_pre m hp) p f))).trans
        (congrArg silu (hidden_apply _ _ p f))) p q),
    (θ_run Cert.ReferenceIdeal.defs _ _).mono (fun _ h => h 0) (Cert.ReferenceIdeal.Value.run (F := Ideal) m' g')⟩

end Cert.KProof

end
-- ==== Proof.lean ====
/-
The proof of `Cert.Claim`.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.Pre_within_the_clip_KernelIdeal
public import proofs.«01_k».proof.Proof.Gen.Pre_within_the_clip_ReferenceIdeal
public import proofs.«01_k».proof.Proof.Frames
public import proofs.«01_k».proof.Proof.Clipped

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.UnclippedIdeal.Gen.facts, Cert.Pre_within_the_clip_KernelIdeal.Gen.facts, Cert.Pre_within_the_clip_ReferenceIdeal.Gen.facts,
  KProof.frame_kernel, KProof.frame_ideal, KProof.frame_ideal_pre, KProof.frame_ref, KProof.frame_ref_pre, KProof.frame_unclipped,
  trivial, KProof.value_clipped, KProof.value_unclipped⟩

end Cert.Proof

end
